-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served [hPre_served : Cert.Pre_served.Facts] (m : (ℓ : Loc Cert.KernelIdeal.nD Cert.KernelIdeal.τ Cert.KernelIdeal.sig) → Buf (Elt Ideal) ℓ) : Prop :=
  ∀ c : Dev Cert.KernelIdeal.nD,
    (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served [hPre_served : Cert.Pre_served.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_RefInprojIdeal (m : (ℓ : Loc Cert.RefInprojIdeal.nD Cert.RefInprojIdeal.τ Cert.RefInprojIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_served [hKernelIdeal : Cert.KernelIdeal.Facts] [hPre_served : Cert.Pre_served.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_served [hReferenceIdeal : Cert.ReferenceIdeal.Facts] [hPre_served : Cert.Pre_served.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12))
      ∧ r.2.sem = fun _ => 0)

def quiescent_RefInprojIdeal [hRefInprojIdeal : Cert.RefInprojIdeal.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2)
      ∧ r.2.mem ((c.tc : Thread Cert.RefInprojIdeal.nD Cert.RefInprojIdeal.τ).loc Cert.RefInprojIdeal.main_arg3) = m ((c.tc : Thread Cert.RefInprojIdeal.nD Cert.RefInprojIdeal.τ).loc Cert.RefInprojIdeal.main_arg3)
      ∧ r.2.mem ((c.tc : Thread Cert.RefInprojIdeal.nD Cert.RefInprojIdeal.τ).loc Cert.RefInprojIdeal.main_arg4) = m ((c.tc : Thread Cert.RefInprojIdeal.nD Cert.RefInprojIdeal.τ).loc Cert.RefInprojIdeal.main_arg4)
      ∧ r.2.mem ((c.tc : Thread Cert.RefInprojIdeal.nD Cert.RefInprojIdeal.τ).loc Cert.RefInprojIdeal.main_arg5) = m ((c.tc : Thread Cert.RefInprojIdeal.nD Cert.RefInprojIdeal.τ).loc Cert.RefInprojIdeal.main_arg5)
      ∧ r.2.mem ((c.tc : Thread Cert.RefInprojIdeal.nD Cert.RefInprojIdeal.τ).loc Cert.RefInprojIdeal.main_arg6) = m ((c.tc : Thread Cert.RefInprojIdeal.nD Cert.RefInprojIdeal.τ).loc Cert.RefInprojIdeal.main_arg6)
      ∧ r.2.mem ((c.tc : Thread Cert.RefInprojIdeal.nD Cert.RefInprojIdeal.τ).loc Cert.RefInprojIdeal.main_arg7) = m ((c.tc : Thread Cert.RefInprojIdeal.nD Cert.RefInprojIdeal.τ).loc Cert.RefInprojIdeal.main_arg7)
      ∧ r.2.mem ((c.tc : Thread Cert.RefInprojIdeal.nD Cert.RefInprojIdeal.τ).loc Cert.RefInprojIdeal.main_arg8) = m ((c.tc : Thread Cert.RefInprojIdeal.nD Cert.RefInprojIdeal.τ).loc Cert.RefInprojIdeal.main_arg8)
      ∧ r.2.mem ((c.tc : Thread Cert.RefInprojIdeal.nD Cert.RefInprojIdeal.τ).loc Cert.RefInprojIdeal.main_arg9) = m ((c.tc : Thread Cert.RefInprojIdeal.nD Cert.RefInprojIdeal.τ).loc Cert.RefInprojIdeal.main_arg9)
      ∧ r.2.mem ((c.tc : Thread Cert.RefInprojIdeal.nD Cert.RefInprojIdeal.τ).loc Cert.RefInprojIdeal.main_arg10) = m ((c.tc : Thread Cert.RefInprojIdeal.nD Cert.RefInprojIdeal.τ).loc Cert.RefInprojIdeal.main_arg10)
      ∧ r.2.mem ((c.tc : Thread Cert.RefInprojIdeal.nD Cert.RefInprojIdeal.τ).loc Cert.RefInprojIdeal.main_arg11) = m ((c.tc : Thread Cert.RefInprojIdeal.nD Cert.RefInprojIdeal.τ).loc Cert.RefInprojIdeal.main_arg11)
      ∧ r.2.mem ((c.tc : Thread Cert.RefInprojIdeal.nD Cert.RefInprojIdeal.τ).loc Cert.RefInprojIdeal.main_arg12) = m ((c.tc : Thread Cert.RefInprojIdeal.nD Cert.RefInprojIdeal.τ).loc Cert.RefInprojIdeal.main_arg12))
      ∧ r.2.sem = fun _ => 0)

def preserves_Kernel_KernelIdeal : Prop :=
  True

def algebraic_KernelIdeal_ReferenceIdeal_pre_served [hKernelIdeal : Cert.KernelIdeal.Facts] [hReferenceIdeal : Cert.ReferenceIdeal.Facts] [hPre_served : Cert.Pre_served.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)
      ∧ m' ((c.tc : Thread Cert.RefFfnIdeal.nD Cert.RefFfnIdeal.τ).loc Cert.RefFfnIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v34) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)
      ∧ m' ((c.tc : Thread Cert.RefMergeIdeal.nD Cert.RefMergeIdeal.τ).loc Cert.RefMergeIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v54) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7)
          ∧ r.2.mem ((c.tc : Thread Cert.RefMergeIdeal.nD Cert.RefMergeIdeal.τ).loc Cert.RefMergeIdeal.main_arg8) = m' ((c.tc : Thread Cert.RefMergeIdeal.nD Cert.RefMergeIdeal.τ).loc Cert.RefMergeIdeal.main_arg8))

def preserves_Inproj_InprojIdeal : Prop :=
  True

def algebraic_InprojIdeal_RefInprojIdeal [hInprojIdeal : Cert.InprojIdeal.Facts] [hRefInprojIdeal : Cert.RefInprojIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.RefInprojIdeal.nD Cert.RefInprojIdeal.τ Cert.RefInprojIdeal.sig) → Buf (Elt Ideal) ℓ) (g' : Dev Cert.RefInprojIdeal.nD → PrngReg), Pre_InprojIdeal m →
    (∀ c : Dev Cert.InprojIdeal.nD,
      m' ((c.tc : Thread Cert.RefInprojIdeal.nD Cert.RefInprojIdeal.τ).loc Cert.RefInprojIdeal.main_arg0) = m ((c.tc : Thread Cert.InprojIdeal.nD Cert.InprojIdeal.τ).loc Cert.InprojIdeal.main_arg0)
      ∧ m' ((c.tc : Thread Cert.RefInprojIdeal.nD Cert.RefInprojIdeal.τ).loc Cert.RefInprojIdeal.main_arg1) = m ((c.tc : Thread Cert.InprojIdeal.nD Cert.InprojIdeal.τ).loc Cert.InprojIdeal.main_arg1)
      ∧ m' ((c.tc : Thread Cert.RefInprojIdeal.nD Cert.RefInprojIdeal.τ).loc Cert.RefInprojIdeal.main_arg2) = m ((c.tc : Thread Cert.InprojIdeal.nD Cert.InprojIdeal.τ).loc Cert.InprojIdeal.main_arg2)
      ∧ m' ((c.tc : Thread Cert.RefInprojIdeal.nD Cert.RefInprojIdeal.τ).loc Cert.RefInprojIdeal.main_arg3) = m ((c.tc : Thread Cert.InprojIdeal.nD Cert.InprojIdeal.τ).loc Cert.InprojIdeal.main_arg3)
      ∧ m' ((c.tc : Thread Cert.RefInprojIdeal.nD Cert.RefInprojIdeal.τ).loc Cert.RefInprojIdeal.main_arg4) = m ((c.tc : Thread Cert.InprojIdeal.nD Cert.InprojIdeal.τ).loc Cert.InprojIdeal.main_arg4)
      ∧ m' ((c.tc : Thread Cert.RefInprojIdeal.nD Cert.RefInprojIdeal.τ).loc Cert.RefInprojIdeal.main_arg5) = m ((c.tc : Thread Cert.InprojIdeal.nD Cert.InprojIdeal.τ).loc Cert.InprojIdeal.main_arg5)
      ∧ m' ((c.tc : Thread Cert.RefInprojIdeal.nD Cert.RefInprojIdeal.τ).loc Cert.RefInprojIdeal.main_arg6) = m ((c.tc : Thread Cert.InprojIdeal.nD Cert.InprojIdeal.τ).loc Cert.InprojIdeal.main_arg6)
      ∧ m' ((c.tc : Thread Cert.RefInprojIdeal.nD Cert.RefInprojIdeal.τ).loc Cert.RefInprojIdeal.main_arg7) = m ((c.tc : Thread Cert.InprojIdeal.nD Cert.InprojIdeal.τ).loc Cert.InprojIdeal.main_arg7)
      ∧ m' ((c.tc : Thread Cert.RefInprojIdeal.nD Cert.RefInprojIdeal.τ).loc Cert.RefInprojIdeal.main_arg8) = m ((c.tc : Thread Cert.InprojIdeal.nD Cert.InprojIdeal.τ).loc Cert.InprojIdeal.main_arg8)
      ∧ m' ((c.tc : Thread Cert.RefInprojIdeal.nD Cert.RefInprojIdeal.τ).loc Cert.RefInprojIdeal.main_arg9) = m ((c.tc : Thread Cert.InprojIdeal.nD Cert.InprojIdeal.τ).loc Cert.InprojIdeal.main_arg9)
      ∧ m' ((c.tc : Thread Cert.RefInprojIdeal.nD Cert.RefInprojIdeal.τ).loc Cert.RefInprojIdeal.main_arg10) = m ((c.tc : Thread Cert.InprojIdeal.nD Cert.InprojIdeal.τ).loc Cert.InprojIdeal.main_arg10)
      ∧ m' ((c.tc : Thread Cert.RefInprojIdeal.nD Cert.RefInprojIdeal.τ).loc Cert.RefInprojIdeal.main_arg11) = m ((c.tc : Thread Cert.InprojIdeal.nD Cert.InprojIdeal.τ).loc Cert.InprojIdeal.main_arg11)
      ∧ m' ((c.tc : Thread Cert.RefInprojIdeal.nD Cert.RefInprojIdeal.τ).loc Cert.RefInprojIdeal.main_arg12) = m ((c.tc : Thread Cert.InprojIdeal.nD Cert.InprojIdeal.τ).loc Cert.InprojIdeal.main_arg12)) →
    ∃ (v0 : (c : Dev Cert.InprojIdeal.nD) → Buf (Elt Ideal) ((c.tc : Thread Cert.InprojIdeal.nD Cert.InprojIdeal.τ).loc Cert.InprojIdeal.main_v64_0)) (v1 : (c : Dev Cert.InprojIdeal.nD) → Buf (Elt Ideal) ((c.tc : Thread Cert.InprojIdeal.nD Cert.InprojIdeal.τ).loc Cert.InprojIdeal.main_v64_1)) (v2 : (c : Dev Cert.InprojIdeal.nD) → Buf (Elt Ideal) ((c.tc : Thread Cert.InprojIdeal.nD Cert.InprojIdeal.τ).loc Cert.InprojIdeal.main_v64_2)) (v3 : (c : Dev Cert.InprojIdeal.nD) → Buf (Elt Ideal) ((c.tc : Thread Cert.InprojIdeal.nD Cert.InprojIdeal.τ).loc Cert.InprojIdeal.main_v64_3)) (v4 : (c : Dev Cert.InprojIdeal.nD) → Buf (Elt Ideal) ((c.tc : Thread Cert.InprojIdeal.nD Cert.InprojIdeal.τ).loc Cert.InprojIdeal.main_v64_4)) (v5 : (c : Dev Cert.InprojIdeal.nD) → Buf (Elt Ideal) ((c.tc : Thread Cert.InprojIdeal.nD Cert.InprojIdeal.τ).loc Cert.InprojIdeal.main_v64_5)) (v6 : (c : Dev Cert.InprojIdeal.nD) → Buf (Elt Ideal) ((c.tc : Thread Cert.InprojIdeal.nD Cert.InprojIdeal.τ).loc Cert.InprojIdeal.main_v64_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v64_0) = v0 c
          ∧ r.2.mem ((c.tc : Thread Cert.InprojIdeal.nD Cert.InprojIdeal.τ).loc Cert.InprojIdeal.main_v64_1) = v1 c
          ∧ r.2.mem ((c.tc : Thread Cert.InprojIdeal.nD Cert.InprojIdeal.τ).loc Cert.InprojIdeal.main_v64_2) = v2 c
          ∧ r.2.mem ((c.tc : Thread Cert.InprojIdeal.nD Cert.InprojIdeal.τ).loc Cert.InprojIdeal.main_v64_3) = v3 c
          ∧ r.2.mem ((c.tc : Thread Cert.InprojIdeal.nD Cert.InprojIdeal.τ).loc Cert.InprojIdeal.main_v64_4) = v4 c
          ∧ r.2.mem ((c.tc : Thread Cert.InprojIdeal.nD Cert.InprojIdeal.τ).loc Cert.InprojIdeal.main_v64_5) = v5 c
          ∧ r.2.mem ((c.tc : Thread Cert.InprojIdeal.nD Cert.InprojIdeal.τ).loc Cert.InprojIdeal.main_v64_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12))
      ∧ θ_run (Cert.RefInprojIdeal.defs (F := Ideal)) (onTc (τ := Cert.RefInprojIdeal.τ) (Cert.RefInprojIdeal.main (F := Ideal))) ⟨m', fun _ => 0, g'⟩ (fun r => ∀ c : Dev Cert.RefInprojIdeal.nD,
          r.2.mem ((c.tc : Thread Cert.RefInprojIdeal.nD Cert.RefInprojIdeal.τ).loc Cert.RefInprojIdeal.main_v146) = v0 c
          ∧ r.2.mem ((c.tc : Thread Cert.RefInprojIdeal.nD Cert.RefInprojIdeal.τ).loc Cert.RefInprojIdeal.main_v147) = v1 c
          ∧ r.2.mem ((c.tc : Thread Cert.RefInprojIdeal.nD Cert.RefInprojIdeal.τ).loc Cert.RefInprojIdeal.main_v153) = v2 c
          ∧ r.2.mem ((c.tc : Thread Cert.RefInprojIdeal.nD Cert.RefInprojIdeal.τ).loc Cert.RefInprojIdeal.main_v158) = v3 c
          ∧ r.2.mem ((c.tc : Thread Cert.RefInprojIdeal.nD Cert.RefInprojIdeal.τ).loc Cert.RefInprojIdeal.main_v162) = v4 c
          ∧ r.2.mem ((c.tc : Thread Cert.RefInprojIdeal.nD Cert.RefInprojIdeal.τ).loc Cert.RefInprojIdeal.main_v169) = v5 c
          ∧ r.2.mem ((c.tc : Thread Cert.RefInprojIdeal.nD Cert.RefInprojIdeal.τ).loc Cert.RefInprojIdeal.main_v170) = v6 c
          ∧ r.2.mem ((c.tc : Thread Cert.RefInprojIdeal.nD Cert.RefInprojIdeal.τ).loc Cert.RefInprojIdeal.main_arg0) = m' ((c.tc : Thread Cert.RefInprojIdeal.nD Cert.RefInprojIdeal.τ).loc Cert.RefInprojIdeal.main_arg0)
          ∧ r.2.mem ((c.tc : Thread Cert.RefInprojIdeal.nD Cert.RefInprojIdeal.τ).loc Cert.RefInprojIdeal.main_arg1) = m' ((c.tc : Thread Cert.RefInprojIdeal.nD Cert.RefInprojIdeal.τ).loc Cert.RefInprojIdeal.main_arg1)
          ∧ r.2.mem ((c.tc : Thread Cert.RefInprojIdeal.nD Cert.RefInprojIdeal.τ).loc Cert.RefInprojIdeal.main_arg2) = m' ((c.tc : Thread Cert.RefInprojIdeal.nD Cert.RefInprojIdeal.τ).loc Cert.RefInprojIdeal.main_arg2)
          ∧ r.2.mem ((c.tc : Thread Cert.RefInprojIdeal.nD Cert.RefInprojIdeal.τ).loc Cert.RefInprojIdeal.main_arg3) = m' ((c.tc : Thread Cert.RefInprojIdeal.nD Cert.RefInprojIdeal.τ).loc Cert.RefInprojIdeal.main_arg3)
          ∧ r.2.mem ((c.tc : Thread Cert.RefInprojIdeal.nD Cert.RefInprojIdeal.τ).loc Cert.RefInprojIdeal.main_arg4) = m' ((c.tc : Thread Cert.RefInprojIdeal.nD Cert.RefInprojIdeal.τ).loc Cert.RefInprojIdeal.main_arg4)
          ∧ r.2.mem ((c.tc : Thread Cert.RefInprojIdeal.nD Cert.RefInprojIdeal.τ).loc Cert.RefInprojIdeal.main_arg5) = m' ((c.tc : Thread Cert.RefInprojIdeal.nD Cert.RefInprojIdeal.τ).loc Cert.RefInprojIdeal.main_arg5)
          ∧ r.2.mem ((c.tc : Thread Cert.RefInprojIdeal.nD Cert.RefInprojIdeal.τ).loc Cert.RefInprojIdeal.main_arg6) = m' ((c.tc : Thread Cert.RefInprojIdeal.nD Cert.RefInprojIdeal.τ).loc Cert.RefInprojIdeal.main_arg6)
          ∧ r.2.mem ((c.tc : Thread Cert.RefInprojIdeal.nD Cert.RefInprojIdeal.τ).loc Cert.RefInprojIdeal.main_arg7) = m' ((c.tc : Thread Cert.RefInprojIdeal.nD Cert.RefInprojIdeal.τ).loc Cert.RefInprojIdeal.main_arg7)
          ∧ r.2.mem ((c.tc : Thread Cert.RefInprojIdeal.nD Cert.RefInprojIdeal.τ).loc Cert.RefInprojIdeal.main_arg8) = m' ((c.tc : Thread Cert.RefInprojIdeal.nD Cert.RefInprojIdeal.τ).loc Cert.RefInprojIdeal.main_arg8)
          ∧ r.2.mem ((c.tc : Thread Cert.RefInprojIdeal.nD Cert.RefInprojIdeal.τ).loc Cert.RefInprojIdeal.main_arg9) = m' ((c.tc : Thread Cert.RefInprojIdeal.nD Cert.RefInprojIdeal.τ).loc Cert.RefInprojIdeal.main_arg9)
          ∧ r.2.mem ((c.tc : Thread Cert.RefInprojIdeal.nD Cert.RefInprojIdeal.τ).loc Cert.RefInprojIdeal.main_arg10) = m' ((c.tc : Thread Cert.RefInprojIdeal.nD Cert.RefInprojIdeal.τ).loc Cert.RefInprojIdeal.main_arg10)
          ∧ r.2.mem ((c.tc : Thread Cert.RefInprojIdeal.nD Cert.RefInprojIdeal.τ).loc Cert.RefInprojIdeal.main_arg11) = m' ((c.tc : Thread Cert.RefInprojIdeal.nD Cert.RefInprojIdeal.τ).loc Cert.RefInprojIdeal.main_arg11)
          ∧ r.2.mem ((c.tc : Thread Cert.RefInprojIdeal.nD Cert.RefInprojIdeal.τ).loc Cert.RefInprojIdeal.main_arg12) = m' ((c.tc : Thread Cert.RefInprojIdeal.nD Cert.RefInprojIdeal.τ).loc Cert.RefInprojIdeal.main_arg12))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hRefFfnIdeal : Cert.RefFfnIdeal.Facts) (hMerge : Cert.Merge.Facts) (hMergeIdeal : Cert.MergeIdeal.Facts) (hRefMergeIdeal : Cert.RefMergeIdeal.Facts) (hInproj : Cert.Inproj.Facts) (hInprojIdeal : Cert.InprojIdeal.Facts) (hRefInprojIdeal : Cert.RefInprojIdeal.Facts) (hPre_served : Cert.Pre_served.Facts),
    quiescent_Kernel (hKernel := hKernel)
    ∧ quiescent_KernelIdeal (hKernelIdeal := hKernelIdeal)
    ∧ quiescent_KernelIdeal_pre_served (hKernelIdeal := hKernelIdeal) (hPre_served := hPre_served)
    ∧ quiescent_ReferenceIdeal (hReferenceIdeal := hReferenceIdeal)
    ∧ quiescent_ReferenceIdeal_pre_served (hReferenceIdeal := hReferenceIdeal) (hPre_served := hPre_served)
    ∧ quiescent_Ffn (hFfn := hFfn)
    ∧ quiescent_FfnIdeal (hFfnIdeal := hFfnIdeal)
    ∧ quiescent_RefFfnIdeal (hRefFfnIdeal := hRefFfnIdeal)
    ∧ quiescent_Merge (hMerge := hMerge)
    ∧ quiescent_MergeIdeal (hMergeIdeal := hMergeIdeal)
    ∧ quiescent_RefMergeIdeal (hRefMergeIdeal := hRefMergeIdeal)
    ∧ quiescent_Inproj (hInproj := hInproj)
    ∧ quiescent_InprojIdeal (hInprojIdeal := hInprojIdeal)
    ∧ quiescent_RefInprojIdeal (hRefInprojIdeal := hRefInprojIdeal)
    ∧ preserves_Kernel_KernelIdeal
    ∧ algebraic_KernelIdeal_ReferenceIdeal_pre_served (hKernelIdeal := hKernelIdeal) (hReferenceIdeal := hReferenceIdeal) (hPre_served := hPre_served)
    ∧ preserves_Ffn_FfnIdeal
    ∧ algebraic_FfnIdeal_RefFfnIdeal (hFfnIdeal := hFfnIdeal) (hRefFfnIdeal := hRefFfnIdeal)
    ∧ preserves_Merge_MergeIdeal
    ∧ algebraic_MergeIdeal_RefMergeIdeal (hMergeIdeal := hMergeIdeal) (hRefMergeIdeal := hRefMergeIdeal)
    ∧ preserves_Inproj_InprojIdeal
    ∧ algebraic_InprojIdeal_RefInprojIdeal (hInprojIdeal := hInprojIdeal) (hRefInprojIdeal := hRefInprojIdeal)
-- ==== Pre_served.lean ====
abbrev S768x32768 : Shape := ⟨2, ![768, 32768]⟩
abbrev S32768x768 : Shape := ⟨2, ![32768, 768]⟩
abbrev S480x32768 : Shape := ⟨2, ![480, 32768]⟩
abbrev S6x80x32768 : Shape := ⟨3, ![6, 80, 32768]⟩
abbrev S6x1x32768 : Shape := ⟨3, ![6, 1, 32768]⟩
abbrev S6x32768 : Shape := ⟨2, ![6, 32768]⟩
abbrev S_ : Shape := ⟨0, ![]⟩

class Facts : Prop where
  bitsLt_bf16_f32 : FTy.bits .bf16 < FTy.bits .f32
  shapeCasts_S480x32768_S6x80x32768 : S480x32768.ShapeCasts S6x80x32768
  slices_S6x80x32768_S6x1x32768_0_64_0 : S6x80x32768.Slices ![0, 64, 0] S6x1x32768
  shapeCasts_S6x1x32768_S6x32768 : S6x1x32768.ShapeCasts S6x32768
  bcast_S_S768x32768 : S_.BroadcastsInDim S768x32768 (![] : Fin 0 → Fin S768x32768.rank)
  reducesTo_S768x32768_S_d0_1 : S768x32768.ReducesTo [0, 1] S_
  h_S_ : 0 < S_.numel
  bcast_S_S32768x768 : S_.BroadcastsInDim S32768x768 (![] : Fin 0 → Fin S32768x768.rank)
  reducesTo_S32768x768_S_d0_1 : S32768x768.ReducesTo [0, 1] S_
  bcast_S_S6x32768 : S_.BroadcastsInDim S6x32768 (![] : Fin 0 → Fin S6x32768.rank)
  reducesTo_S6x32768_S_d0_1 : S6x32768.ReducesTo [0, 1] S_

variable [Facts]

def fn {F : FTy → Type} [FloatOps F] (main_arg0 : FVec F S768x32768 .bf16) (main_arg1 : FVec F S32768x768 .bf16) (main_arg2 : FVec F S480x32768 .bf16) : IVec S_ 1 × IVec S_ 1 × IVec S_ 1 :=
  let main_v0 : FVec F S480x32768 .f32 := (extf .f32 · bitsLt_bf16_f32) main_arg2
  let main_v1 : FVec F S6x80x32768 .f32 := shapeCast S6x80x32768 main_v0 shapeCasts_S480x32768_S6x80x32768
  let main_v2 : FVec F S6x1x32768 .f32 := (extractStridedSlice S6x1x32768 ![0, 64, 0] · slices_S6x80x32768_S6x1x32768_0_64_0) main_v1
  let main_v3 : FVec F S6x32768 .f32 := shapeCast S6x32768 main_v2 shapeCasts_S6x1x32768_S6x32768
  let main_v4 : FVec F S768x32768 .f32 := (extf .f32 · bitsLt_bf16_f32) main_arg0
  let main_v5 : FVec F S768x32768 .f32 := Host.absf main_v4
  let main_cst : FVec F S_ .f32 := constant S_ .f32 0x7F800000#32
  let main_v6 : FVec F S768x32768 .f32 := broadcastInDim S768x32768 ![] bcast_S_S768x32768 main_cst
  let main_v7 : IVec S768x32768 1 := cmpf .olt main_v5 main_v6
  let main_c : IVec S_ 1 := constantI S_ 1 1#1
  let main_v8 : IVec S_ 1 := (fun x v => Host.reduce IntOp.andi x v reducesTo_S768x32768_S_d0_1 h_S_) main_v7 main_c
  let main_v9 : FVec F S32768x768 .f32 := (extf .f32 · bitsLt_bf16_f32) main_arg1
  let main_v10 : FVec F S32768x768 .f32 := Host.absf main_v9
  let main_cst_0 : FVec F S_ .f32 := constant S_ .f32 0x7F800000#32
  let main_v11 : FVec F S32768x768 .f32 := broadcastInDim S32768x768 ![] bcast_S_S32768x768 main_cst_0
  let main_v12 : IVec S32768x768 1 := cmpf .olt main_v10 main_v11
  let main_c_1 : IVec S_ 1 := constantI S_ 1 1#1
  let main_v13 : IVec S_ 1 := (fun x v => Host.reduce IntOp.andi x v reducesTo_S32768x768_S_d0_1 h_S_) main_v12 main_c_1
  let main_cst_2 : FVec F S_ .f32 := constant S_ .f32 0x3F800000#32
  let main_v14 : FVec F S6x32768 .f32 := broadcastInDim S6x32768 ![] bcast_S_S6x32768 main_cst_2
  let main_v15 : IVec S6x32768 1 := cmpf .oeq main_v3 main_v14
  let main_c_3 : IVec S_ 1 := constantI S_ 1 1#1
  let main_v16 : IVec S_ 1 := (fun x v => Host.reduce IntOp.andi x v reducesTo_S6x32768_S_d0_1 h_S_) main_v15 main_c_3
  (main_v8, main_v13, main_v16)
-- ==== Kernel.lean ====
abbrev S768x32768 : Shape := ⟨2, ![768, 32768]⟩
abbrev S32768x768 : Shape := ⟨2, ![32768, 768]⟩
abbrev S480x32768 : Shape := ⟨2, ![480, 32768]⟩
abbrev S384x32768 : Shape := ⟨2, ![384, 32768]⟩
abbrev S128x16384 : Shape := ⟨2, ![128, 16384]⟩
abbrev S16384x128 : Shape := ⟨2, ![16384, 128]⟩
abbrev S80x16384 : Shape := ⟨2, ![80, 16384]⟩
abbrev S64x16384 : Shape := ⟨2, ![64, 16384]⟩
abbrev S80x2048 : Shape := ⟨2, ![80, 2048]⟩
abbrev S2x256x2048 : Shape := ⟨3, ![2, 256, 2048]⟩
abbrev S128x2048 : Shape := ⟨2, ![128, 2048]⟩
abbrev S1x2048 : Shape := ⟨2, ![1, 2048]⟩
abbrev S256x128 : Shape := ⟨2, ![256, 128]⟩
abbrev S256x2048 : Shape := ⟨2, ![256, 2048]⟩
abbrev S1x256x2048 : Shape := ⟨3, ![1, 256, 2048]⟩
abbrev S2048 : Shape := ⟨1, ![2048]⟩
abbrev S80x256 : Shape := ⟨2, ![80, 256]⟩
abbrev S128x256 : Shape := ⟨2, ![128, 256]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S64x2048 : Shape := ⟨2, ![64, 2048]⟩

abbrev nBuf : Space → Nat
  | .hbm => 4
  | .vmem => 10
  | .smem => 0
  | _ => 0

abbrev bufTy : (tb : Table) → Fin (tcTables nBuf tb) → BufTy
  | .hbm, ⟨0, _⟩ => ⟨S768x32768, .bf16⟩
  | .hbm, ⟨1, _⟩ => ⟨S32768x768, .bf16⟩
  | .hbm, ⟨2, _⟩ => ⟨S480x32768, .bf16⟩
  | .hbm, ⟨3, _⟩ => ⟨S384x32768, .f32⟩
  | .local _ .vmem, ⟨0, _⟩ => ⟨S128x16384, .bf16⟩
  | .local _ .vmem, ⟨1, _⟩ => ⟨S128x16384, .bf16⟩
  | .local _ .vmem, ⟨2, _⟩ => ⟨S16384x128, .bf16⟩
  | .local _ .vmem, ⟨3, _⟩ => ⟨S16384x128, .bf16⟩
  | .local _ .vmem, ⟨4, _⟩ => ⟨S80x16384, .bf16⟩
  | .local _ .vmem, ⟨5, _⟩ => ⟨S80x16384, .bf16⟩
  | .local _ .vmem, ⟨6, _⟩ => ⟨S64x16384, .f32⟩
  | .local _ .vmem, ⟨7, _⟩ => ⟨S64x16384, .f32⟩
  | .local _ .vmem, ⟨8, _⟩ => ⟨S80x2048, .f32⟩
  | .local _ .vmem, ⟨9, _⟩ => ⟨S2x256x2048, .f32⟩
  | _, _ => ⟨S768x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 6], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c2048_i32 : BitVec 32 := 2048#32
  let v1 : BitVec 32 := Scalar.muli arg8 c2048_i32
  v1
def k0_off1 (k0_t1 : Fin k0_t1_loop.trips) : Fin 2 → Nat :=
  let c0 : Index := 0#32
  let c0_i32 : BitVec 32 := 0#32
  let c1_i32 : BitVec 32 := 1#32
  let arg8 : BitVec 32 := Scf.iv c0_i32 c1_i32 k0_t1
  let c2048_i32 : BitVec 32 := 2048#32
  let v1 : BitVec 32 := Scalar.muli arg8 c2048_i32
  let v2 : BitVec 32 := v1
  let v3 : Index := Scalar.indexCast v2
  ![0, v3.toNat]
def k0_mult2 : BitVec 32 :=
  let c0_i32_4 : BitVec 32 := 0#32
  c0_i32_4
@[reducible] def k0_t2_loop : Scf.Loop 32 :=
  let c0_i32_11 : BitVec 32 := 0#32
  let c2_i32 : BitVec 32 := 2#32
  let v19 : BitVec 32 := Scalar.addi c0_i32_11 c2_i32
  let c1_i32_12 : BitVec 32 := 1#32
  ⟨c0_i32_11, v19, c1_i32_12⟩
def k0_mult3 (k0_t2 : Fin k0_t2_loop.trips) : BitVec 32 :=
  let c32_i32 : BitVec 32 := 32#32
  let c0_i32_11 : BitVec 32 := 0#32
  let c1_i32_12 : BitVec 32 := 1#32
  let arg9 : BitVec 32 := Scf.iv c0_i32_11 c1_i32_12 k0_t2
  let v28 : BitVec 32 := Scalar.muli c32_i32 arg9
  let c0_i32_17 : BitVec 32 := 0#32
  let v29 : BitVec 32 := Scalar.addi v28 c0_i32_17
  let c256_i32 : BitVec 32 := 256#32
  let v30 : BitVec 32 := Scalar.muli v29 c256_i32
  v30
def k0_mult4 (k0_t2 : Fin k0_t2_loop.trips) : BitVec 32 :=
  let c32_i32 : BitVec 32 := 32#32
  let c0_i32_11 : BitVec 32 := 0#32
  let c1_i32_12 : BitVec 32 := 1#32
  let arg9 : BitVec 32 := Scf.iv c0_i32_11 c1_i32_12 k0_t2
  let v28 : BitVec 32 := Scalar.muli c32_i32 arg9
  let c0_i32_17 : BitVec 32 := 0#32
  let v29 : BitVec 32 := Scalar.addi v28 c0_i32_17
  let c1_i32_18 : BitVec 32 := 1#32
  let v32 : BitVec 32 := Scalar.addi v29 c1_i32_18
  let c63_i32 : BitVec 32 := 63#32
  let v33 : BitVec 32 := Scalar.minsi v32 c63_i32
  let c256_i32_19 : BitVec 32 := 256#32
  let v34 : BitVec 32 := Scalar.muli v33 c256_i32_19
  v34
def k0_off2 (k0_t2 : Fin k0_t2_loop.trips) (c0_i32_17 : BitVec 32) : Fin 2 → Nat :=
  let c32_i32 : BitVec 32 := 32#32
  let c0_i32_11 : BitVec 32 := 0#32
  let c1_i32_12 : BitVec 32 := 1#32
  let arg9 : BitVec 32 := Scf.iv c0_i32_11 c1_i32_12 k0_t2
  let v28 : BitVec 32 := Scalar.muli c32_i32 arg9
  let v29 : BitVec 32 := Scalar.addi v28 c0_i32_17
  let c1_i32_18 : BitVec 32 := 1#32
  let v32 : BitVec 32 := Scalar.addi v29 c1_i32_18
  let c63_i32 : BitVec 32 := 63#32
  let v33 : BitVec 32 := Scalar.minsi v32 c63_i32
  let c256_i32_19 : BitVec 32 := 256#32
  let v34 : BitVec 32 := Scalar.muli v33 c256_i32_19
  let v35 : BitVec 32 := v34
  let v39 : Index := Scalar.indexCast v35
  let c0_20 : Index := 0#32
  ![v39.toNat, 0]
def k0_off3 (k0_t2 : Fin k0_t2_loop.trips) (c0_i32_17 : BitVec 32) : Fin 2 → Nat :=
  let c0_21 : Index := 0#32
  let c32_i32 : BitVec 32 := 32#32
  let c0_i32_11 : BitVec 32 := 0#32
  let c1_i32_12 : BitVec 32 := 1#32
  let arg9 : BitVec 32 := Scf.iv c0_i32_11 c1_i32_12 k0_t2
  let v28 : BitVec 32 := Scalar.muli c32_i32 arg9
  let v29 : BitVec 32 := Scalar.addi v28 c0_i32_17
  let c256_i32 : BitVec 32 := 256#32
  let v30 : BitVec 32 := Scalar.muli v29 c256_i32
  let v31 : BitVec 32 := v30
  let v41 : Index := Scalar.indexCast v31
  ![0, v41.toNat]
def k0_mult5 (k0_t2 : Fin k0_t2_loop.trips) : BitVec 32 :=
  let c32_i32_118 : BitVec 32 := 32#32
  let c0_i32_11 : BitVec 32 := 0#32
  let c1_i32_12 : BitVec 32 := 1#32
  let arg9 : BitVec 32 := Scf.iv c0_i32_11 c1_i32_12 k0_t2
  let v228 : BitVec 32 := Scalar.muli c32_i32_118 arg9
  let c1_i32_119 : BitVec 32 := 1#32
  let v229 : BitVec 32 := Scalar.addi v228 c1_i32_119
  let c256_i32_120 : BitVec 32 := 256#32
  let v230 : BitVec 32 := Scalar.muli v229 c256_i32_120
  v230
def k0_mult6 (k0_t2 : Fin k0_t2_loop.trips) : BitVec 32 :=
  let c32_i32_118 : BitVec 32 := 32#32
  let c0_i32_11 : BitVec 32 := 0#32
  let c1_i32_12 : BitVec 32 := 1#32
  let arg9 : BitVec 32 := Scf.iv c0_i32_11 c1_i32_12 k0_t2
  let v228 : BitVec 32 := Scalar.muli c32_i32_118 arg9
  let c1_i32_119 : BitVec 32 := 1#32
  let v229 : BitVec 32 := Scalar.addi v228 c1_i32_119
  let c1_i32_121 : BitVec 32 := 1#32
  let v232 : BitVec 32 := Scalar.addi v229 c1_i32_121
  let c63_i32_122 : BitVec 32 := 63#32
  let v233 : BitVec 32 := Scalar.minsi v232 c63_i32_122
  let c256_i32_123 : BitVec 32 := 256#32
  let v234 : BitVec 32 := Scalar.muli v233 c256_i32_123
  v234
def k0_mult7 (k0_t2 : Fin k0_t2_loop.trips) : BitVec 32 :=
  let c32_i32_230 : BitVec 32 := 32#32
  let c0_i32_11 : BitVec 32 := 0#32
  let c1_i32_12 : BitVec 32 := 1#32
  let arg9 : BitVec 32 := Scf.iv c0_i32_11 c1_i32_12 k0_t2
  let v428 : BitVec 32 := Scalar.muli c32_i32_230 arg9
  let c2_i32_231 : BitVec 32 := 2#32
  let v429 : BitVec 32 := Scalar.addi v428 c2_i32_231
  let c256_i32_232 : BitVec 32 := 256#32
  let v430 : BitVec 32 := Scalar.muli v429 c256_i32_232
  v430
def k0_mult8 (k0_t2 : Fin k0_t2_loop.trips) : BitVec 32 :=
  let c32_i32_230 : BitVec 32 := 32#32
  let c0_i32_11 : BitVec 32 := 0#32
  let c1_i32_12 : BitVec 32 := 1#32
  let arg9 : BitVec 32 := Scf.iv c0_i32_11 c1_i32_12 k0_t2
  let v428 : BitVec 32 := Scalar.muli c32_i32_230 arg9
  let c2_i32_231 : BitVec 32 := 2#32
  let v429 : BitVec 32 := Scalar.addi v428 c2_i32_231
  let c1_i32_233 : BitVec 32 := 1#32
  let v432 : BitVec 32 := Scalar.addi v429 c1_i32_233
  let c63_i32_234 : BitVec 32 := 63#32
  let v433 : BitVec 32 := Scalar.minsi v432 c63_i32_234
  let c256_i32_235 : BitVec 32 := 256#32
  let v434 : BitVec 32 := Scalar.muli v433 c256_i32_235
  v434
def k0_mult9 (k0_t2 : Fin k0_t2_loop.trips) : BitVec 32 :=
  let c32_i32_342 : BitVec 32 := 32#32
  let c0_i32_11 : BitVec 32 := 0#32
  let c1_i32_12 : BitVec 32 := 1#32
  let arg9 : BitVec 32 := Scf.iv c0_i32_11 c1_i32_12 k0_t2
  let v628 : BitVec 32 := Scalar.muli c32_i32_342 arg9
  let c3_i32 : BitVec 32 := 3#32
  let v629 : BitVec 32 := Scalar.addi v628 c3_i32
  let c256_i32_343 : BitVec 32 := 256#32
  let v630 : BitVec 32 := Scalar.muli v629 c256_i32_343
  v630
def k0_mult10 (k0_t2 : Fin k0_t2_loop.trips) : BitVec 32 :=
  let c32_i32_342 : BitVec 32 := 32#32
  let c0_i32_11 : BitVec 32 := 0#32
  let c1_i32_12 : BitVec 32 := 1#32
  let arg9 : BitVec 32 := Scf.iv c0_i32_11 c1_i32_12 k0_t2
  let v628 : BitVec 32 := Scalar.muli c32_i32_342 arg9
  let c3_i32 : BitVec 32 := 3#32
  let v629 : BitVec 32 := Scalar.addi v628 c3_i32
  let c1_i32_344 : BitVec 32 := 1#32
  let v632 : BitVec 32 := Scalar.addi v629 c1_i32_344
  let c63_i32_345 : BitVec 32 := 63#32
  let v633 : BitVec 32 := Scalar.minsi v632 c63_i32_345
  let c256_i32_346 : BitVec 32 := 256#32
  let v634 : BitVec 32 := Scalar.muli v633 c256_i32_346
  v634
def k0_mult11 (k0_t2 : Fin k0_t2_loop.trips) : BitVec 32 :=
  let c32_i32_453 : BitVec 32 := 32#32
  let c0_i32_11 : BitVec 32 := 0#32
  let c1_i32_12 : BitVec 32 := 1#32
  let arg9 : BitVec 32 := Scf.iv c0_i32_11 c1_i32_12 k0_t2
  let v828 : BitVec 32 := Scalar.muli c32_i32_453 arg9
  let c4_i32 : BitVec 32 := 4#32
  let v829 : BitVec 32 := Scalar.addi v828 c4_i32
  let c256_i32_454 : BitVec 32 := 256#32
  let v830 : BitVec 32 := Scalar.muli v829 c256_i32_454
  v830
def k0_mult12 (k0_t2 : Fin k0_t2_loop.trips) : BitVec 32 :=
  let c32_i32_453 : BitVec 32 := 32#32
  let c0_i32_11 : BitVec 32 := 0#32
  let c1_i32_12 : BitVec 32 := 1#32
  let arg9 : BitVec 32 := Scf.iv c0_i32_11 c1_i32_12 k0_t2
  let v828 : BitVec 32 := Scalar.muli c32_i32_453 arg9
  let c4_i32 : BitVec 32 := 4#32
  let v829 : BitVec 32 := Scalar.addi v828 c4_i32
  let c1_i32_455 : BitVec 32 := 1#32
  let v832 : BitVec 32 := Scalar.addi v829 c1_i32_455
  let c63_i32_456 : BitVec 32 := 63#32
  let v833 : BitVec 32 := Scalar.minsi v832 c63_i32_456
  let c256_i32_457 : BitVec 32 := 256#32
  let v834 : BitVec 32 := Scalar.muli v833 c256_i32_457
  v834
def k0_mult13 (k0_t2 : Fin k0_t2_loop.trips) : BitVec 32 :=
  let c32_i32_564 : BitVec 32 := 32#32
  let c0_i32_11 : BitVec 32 := 0#32
  let c1_i32_12 : BitVec 32 := 1#32
  let arg9 : BitVec 32 := Scf.iv c0_i32_11 c1_i32_12 k0_t2
  let v1028 : BitVec 32 := Scalar.muli c32_i32_564 arg9
  let c5_i32 : BitVec 32 := 5#32
  let v1029 : BitVec 32 := Scalar.addi v1028 c5_i32
  let c256_i32_565 : BitVec 32 := 256#32
  let v1030 : BitVec 32 := Scalar.muli v1029 c256_i32_565
  v1030
def k0_mult14 (k0_t2 : Fin k0_t2_loop.trips) : BitVec 32 :=
  let c32_i32_564 : BitVec 32 := 32#32
  let c0_i32_11 : BitVec 32 := 0#32
  let c1_i32_12 : BitVec 32 := 1#32
  let arg9 : BitVec 32 := Scf.iv c0_i32_11 c1_i32_12 k0_t2
  let v1028 : BitVec 32 := Scalar.muli c32_i32_564 arg9
  let c5_i32 : BitVec 32 := 5#32
  let v1029 : BitVec 32 := Scalar.addi v1028 c5_i32
  let c1_i32_566 : BitVec 32 := 1#32
  let v1032 : BitVec 32 := Scalar.addi v1029 c1_i32_566
  let c63_i32_567 : BitVec 32 := 63#32
  let v1033 : BitVec 32 := Scalar.minsi v1032 c63_i32_567
  let c256_i32_568 : BitVec 32 := 256#32
  let v1034 : BitVec 32 := Scalar.muli v1033 c256_i32_568
  v1034
def k0_mult15 (k0_t2 : Fin k0_t2_loop.trips) : BitVec 32 :=
  let c32_i32_675 : BitVec 32 := 32#32
  let c0_i32_11 : BitVec 32 := 0#32
  let c1_i32_12 : BitVec 32 := 1#32
  let arg9 : BitVec 32 := Scf.iv c0_i32_11 c1_i32_12 k0_t2
  let v1228 : BitVec 32 := Scalar.muli c32_i32_675 arg9
  let c6_i32 : BitVec 32 := 6#32
  let v1229 : BitVec 32 := Scalar.addi v1228 c6_i32
  let c256_i32_676 : BitVec 32 := 256#32
  let v1230 : BitVec 32 := Scalar.muli v1229 c256_i32_676
  v1230
def k0_mult16 (k0_t2 : Fin k0_t2_loop.trips) : BitVec 32 :=
  let c32_i32_675 : BitVec 32 := 32#32
  let c0_i32_11 : BitVec 32 := 0#32
  let c1_i32_12 : BitVec 32 := 1#32
  let arg9 : BitVec 32 := Scf.iv c0_i32_11 c1_i32_12 k0_t2
  let v1228 : BitVec 32 := Scalar.muli c32_i32_675 arg9
  let c6_i32 : BitVec 32 := 6#32
  let v1229 : BitVec 32 := Scalar.addi v1228 c6_i32
  let c1_i32_677 : BitVec 32 := 1#32
  let v1232 : BitVec 32 := Scalar.addi v1229 c1_i32_677
  let c63_i32_678 : BitVec 32 := 63#32
  let v1233 : BitVec 32 := Scalar.minsi v1232 c63_i32_678
  let c256_i32_679 : BitVec 32 := 256#32
  let v1234 : BitVec 32 := Scalar.muli v1233 c256_i32_679
  v1234
def k0_mult17 (k0_t2 : Fin k0_t2_loop.trips) : BitVec 32 :=
  let c32_i32_786 : BitVec 32 := 32#32
  let c0_i32_11 : BitVec 32 := 0#32
  let c1_i32_12 : BitVec 32 := 1#32
  let arg9 : BitVec 32 := Scf.iv c0_i32_11 c1_i32_12 k0_t2
  let v1428 : BitVec 32 := Scalar.muli c32_i32_786 arg9
  let c7_i32 : BitVec 32 := 7#32
  let v1429 : BitVec 32 := Scalar.addi v1428 c7_i32
  let c256_i32_787 : BitVec 32 := 256#32
  let v1430 : BitVec 32 := Scalar.muli v1429 c256_i32_787
  v1430
def k0_mult18 (k0_t2 : Fin k0_t2_loop.trips) : BitVec 32 :=
  let c32_i32_786 : BitVec 32 := 32#32
  let c0_i32_11 : BitVec 32 := 0#32
  let c1_i32_12 : BitVec 32 := 1#32
  let arg9 : BitVec 32 := Scf.iv c0_i32_11 c1_i32_12 k0_t2
  let v1428 : BitVec 32 := Scalar.muli c32_i32_786 arg9
  let c7_i32 : BitVec 32 := 7#32
  let v1429 : BitVec 32 := Scalar.addi v1428 c7_i32
  let c1_i32_788 : BitVec 32 := 1#32
  let v1432 : BitVec 32 := Scalar.addi v1429 c1_i32_788
  let c63_i32_789 : BitVec 32 := 63#32
  let v1433 : BitVec 32 := Scalar.minsi v1432 c63_i32_789
  let c256_i32_790 : BitVec 32 := 256#32
  let v1434 : BitVec 32 := Scalar.muli v1433 c256_i32_790
  v1434
def k0_mult19 (k0_t2 : Fin k0_t2_loop.trips) : BitVec 32 :=
  let c32_i32_897 : BitVec 32 := 32#32
  let c0_i32_11 : BitVec 32 := 0#32
  let c1_i32_12 : BitVec 32 := 1#32
  let arg9 : BitVec 32 := Scf.iv c0_i32_11 c1_i32_12 k0_t2
  let v1628 : BitVec 32 := Scalar.muli c32_i32_897 arg9
  let c8_i32_898 : BitVec 32 := 8#32
  let v1629 : BitVec 32 := Scalar.addi v1628 c8_i32_898
  let c256_i32_899 : BitVec 32 := 256#32
  let v1630 : BitVec 32 := Scalar.muli v1629 c256_i32_899
  v1630
def k0_mult20 (k0_t2 : Fin k0_t2_loop.trips) : BitVec 32 :=
  let c32_i32_897 : BitVec 32 := 32#32
  let c0_i32_11 : BitVec 32 := 0#32
  let c1_i32_12 : BitVec 32 := 1#32
  let arg9 : BitVec 32 := Scf.iv c0_i32_11 c1_i32_12 k0_t2
  let v1628 : BitVec 32 := Scalar.muli c32_i32_897 arg9
  let c8_i32_898 : BitVec 32 := 8#32
  let v1629 : BitVec 32 := Scalar.addi v1628 c8_i32_898
  let c1_i32_900 : BitVec 32 := 1#32
  let v1632 : BitVec 32 := Scalar.addi v1629 c1_i32_900
  let c63_i32_901 : BitVec 32 := 63#32
  let v1633 : BitVec 32 := Scalar.minsi v1632 c63_i32_901
  let c256_i32_902 : BitVec 32 := 256#32
  let v1634 : BitVec 32 := Scalar.muli v1633 c256_i32_902
  v1634
def k0_mult21 (k0_t2 : Fin k0_t2_loop.trips) : BitVec 32 :=
  let c32_i32_1009 : BitVec 32 := 32#32
  let c0_i32_11 : BitVec 32 := 0#32
  let c1_i32_12 : BitVec 32 := 1#32
  let arg9 : BitVec 32 := Scf.iv c0_i32_11 c1_i32_12 k0_t2
  let v1828 : BitVec 32 := Scalar.muli c32_i32_1009 arg9
  let c9_i32 : BitVec 32 := 9#32
  let v1829 : BitVec 32 := Scalar.addi v1828 c9_i32
  let c256_i32_1010 : BitVec 32 := 256#32
  let v1830 : BitVec 32 := Scalar.muli v1829 c256_i32_1010
  v1830
def k0_mult22 (k0_t2 : Fin k0_t2_loop.trips) : BitVec 32 :=
  let c32_i32_1009 : BitVec 32 := 32#32
  let c0_i32_11 : BitVec 32 := 0#32
  let c1_i32_12 : BitVec 32 := 1#32
  let arg9 : BitVec 32 := Scf.iv c0_i32_11 c1_i32_12 k0_t2
  let v1828 : BitVec 32 := Scalar.muli c32_i32_1009 arg9
  let c9_i32 : BitVec 32 := 9#32
  let v1829 : BitVec 32 := Scalar.addi v1828 c9_i32
  let c1_i32_1011 : BitVec 32 := 1#32
  let v1832 : BitVec 32 := Scalar.addi v1829 c1_i32_1011
  let c63_i32_1012 : BitVec 32 := 63#32
  let v1833 : BitVec 32 := Scalar.minsi v1832 c63_i32_1012
  let c256_i32_1013 : BitVec 32 := 256#32
  let v1834 : BitVec 32 := Scalar.muli v1833 c256_i32_1013
  v1834
def k0_mult23 (k0_t2 : Fin k0_t2_loop.trips) : BitVec 32 :=
  let c32_i32_1120 : BitVec 32 := 32#32
  let c0_i32_11 : BitVec 32 := 0#32
  let c1_i32_12 : BitVec 32 := 1#32
  let arg9 : BitVec 32 := Scf.iv c0_i32_11 c1_i32_12 k0_t2
  let v2028 : BitVec 32 := Scalar.muli c32_i32_1120 arg9
  let c10_i32 : BitVec 32 := 10#32
  let v2029 : BitVec 32 := Scalar.addi v2028 c10_i32
  let c256_i32_1121 : BitVec 32 := 256#32
  let v2030 : BitVec 32 := Scalar.muli v2029 c256_i32_1121
  v2030
def k0_mult24 (k0_t2 : Fin k0_t2_loop.trips) : BitVec 32 :=
  let c32_i32_1120 : BitVec 32 := 32#32
  let c0_i32_11 : BitVec 32 := 0#32
  let c1_i32_12 : BitVec 32 := 1#32
  let arg9 : BitVec 32 := Scf.iv c0_i32_11 c1_i32_12 k0_t2
  let v2028 : BitVec 32 := Scalar.muli c32_i32_1120 arg9
  let c10_i32 : BitVec 32 := 10#32
  let v2029 : BitVec 32 := Scalar.addi v2028 c10_i32
  let c1_i32_1122 : BitVec 32 := 1#32
  let v2032 : BitVec 32 := Scalar.addi v2029 c1_i32_1122
  let c63_i32_1123 : BitVec 32 := 63#32
  let v2033 : BitVec 32 := Scalar.minsi v2032 c63_i32_1123
  let c256_i32_1124 : BitVec 32 := 256#32
  let v2034 : BitVec 32 := Scalar.muli v2033 c256_i32_1124
  v2034
def k0_mult25 (k0_t2 : Fin k0_t2_loop.trips) : BitVec 32 :=
  let c32_i32_1231 : BitVec 32 := 32#32
  let c0_i32_11 : BitVec 32 := 0#32
  let c1_i32_12 : BitVec 32 := 1#32
  let arg9 : BitVec 32 := Scf.iv c0_i32_11 c1_i32_12 k0_t2
  let v2228 : BitVec 32 := Scalar.muli c32_i32_1231 arg9
  let c11_i32 : BitVec 32 := 11#32
  let v2229 : BitVec 32 := Scalar.addi v2228 c11_i32
  let c256_i32_1232 : BitVec 32 := 256#32
  let v2230 : BitVec 32 := Scalar.muli v2229 c256_i32_1232
  v2230
def k0_mult26 (k0_t2 : Fin k0_t2_loop.trips) : BitVec 32 :=
  let c32_i32_1231 : BitVec 32 := 32#32
  let c0_i32_11 : BitVec 32 := 0#32
  let c1_i32_12 : BitVec 32 := 1#32
  let arg9 : BitVec 32 := Scf.iv c0_i32_11 c1_i32_12 k0_t2
  let v2228 : BitVec 32 := Scalar.muli c32_i32_1231 arg9
  let c11_i32 : BitVec 32 := 11#32
  let v2229 : BitVec 32 := Scalar.addi v2228 c11_i32
  let c1_i32_1233 : BitVec 32 := 1#32
  let v2232 : BitVec 32 := Scalar.addi v2229 c1_i32_1233
  let c63_i32_1234 : BitVec 32 := 63#32
  let v2233 : BitVec 32 := Scalar.minsi v2232 c63_i32_1234
  let c256_i32_1235 : BitVec 32 := 256#32
  let v2234 : BitVec 32 := Scalar.muli v2233 c256_i32_1235
  v2234
def k0_mult27 (k0_t2 : Fin k0_t2_loop.trips) : BitVec 32 :=
  let c32_i32_1342 : BitVec 32 := 32#32
  let c0_i32_11 : BitVec 32 := 0#32
  let c1_i32_12 : BitVec 32 := 1#32
  let arg9 : BitVec 32 := Scf.iv c0_i32_11 c1_i32_12 k0_t2
  let v2428 : BitVec 32 := Scalar.muli c32_i32_1342 arg9
  let c12_i32 : BitVec 32 := 12#32
  let v2429 : BitVec 32 := Scalar.addi v2428 c12_i32
  let c256_i32_1343 : BitVec 32 := 256#32
  let v2430 : BitVec 32 := Scalar.muli v2429 c256_i32_1343
  v2430
def k0_mult28 (k0_t2 : Fin k0_t2_loop.trips) : BitVec 32 :=
  let c32_i32_1342 : BitVec 32 := 32#32
  let c0_i32_11 : BitVec 32 := 0#32
  let c1_i32_12 : BitVec 32 := 1#32
  let arg9 : BitVec 32 := Scf.iv c0_i32_11 c1_i32_12 k0_t2
  let v2428 : BitVec 32 := Scalar.muli c32_i32_1342 arg9
  let c12_i32 : BitVec 32 := 12#32
  let v2429 : BitVec 32 := Scalar.addi v2428 c12_i32
  let c1_i32_1344 : BitVec 32 := 1#32
  let v2432 : BitVec 32 := Scalar.addi v2429 c1_i32_1344
  let c63_i32_1345 : BitVec 32 := 63#32
  let v2433 : BitVec 32 := Scalar.minsi v2432 c63_i32_1345
  let c256_i32_1346 : BitVec 32 := 256#32
  let v2434 : BitVec 32 := Scalar.muli v2433 c256_i32_1346
  v2434
def k0_mult29 (k0_t2 : Fin k0_t2_loop.trips) : BitVec 32 :=
  let c32_i32_1453 : BitVec 32 := 32#32
  let c0_i32_11 : BitVec 32 := 0#32
  let c1_i32_12 : BitVec 32 := 1#32
  let arg9 : BitVec 32 := Scf.iv c0_i32_11 c1_i32_12 k0_t2
  let v2628 : BitVec 32 := Scalar.muli c32_i32_1453 arg9
  let c13_i32 : BitVec 32 := 13#32
  let v2629 : BitVec 32 := Scalar.addi v2628 c13_i32
  let c256_i32_1454 : BitVec 32 := 256#32
  let v2630 : BitVec 32 := Scalar.muli v2629 c256_i32_1454
  v2630
def k0_mult30 (k0_t2 : Fin k0_t2_loop.trips) : BitVec 32 :=
  let c32_i32_1453 : BitVec 32 := 32#32
  let c0_i32_11 : BitVec 32 := 0#32
  let c1_i32_12 : BitVec 32 := 1#32
  let arg9 : BitVec 32 := Scf.iv c0_i32_11 c1_i32_12 k0_t2
  let v2628 : BitVec 32 := Scalar.muli c32_i32_1453 arg9
  let c13_i32 : BitVec 32 := 13#32
  let v2629 : BitVec 32 := Scalar.addi v2628 c13_i32
  let c1_i32_1455 : BitVec 32 := 1#32
  let v2632 : BitVec 32 := Scalar.addi v2629 c1_i32_1455
  let c63_i32_1456 : BitVec 32 := 63#32
  let v2633 : BitVec 32 := Scalar.minsi v2632 c63_i32_1456
  let c256_i32_1457 : BitVec 32 := 256#32
  let v2634 : BitVec 32 := Scalar.muli v2633 c256_i32_1457
  v2634
def k0_mult31 (k0_t2 : Fin k0_t2_loop.trips) : BitVec 32 :=
  let c32_i32_1564 : BitVec 32 := 32#32
  let c0_i32_11 : BitVec 32 := 0#32
  let c1_i32_12 : BitVec 32 := 1#32
  let arg9 : BitVec 32 := Scf.iv c0_i32_11 c1_i32_12 k0_t2
  let v2828 : BitVec 32 := Scalar.muli c32_i32_1564 arg9
  let c14_i32 : BitVec 32 := 14#32
  let v2829 : BitVec 32 := Scalar.addi v2828 c14_i32
  let c256_i32_1565 : BitVec 32 := 256#32
  let v2830 : BitVec 32 := Scalar.muli v2829 c256_i32_1565
  v2830
def k0_mult32 (k0_t2 : Fin k0_t2_loop.trips) : BitVec 32 :=
  let c32_i32_1564 : BitVec 32 := 32#32
  let c0_i32_11 : BitVec 32 := 0#32
  let c1_i32_12 : BitVec 32 := 1#32
  let arg9 : BitVec 32 := Scf.iv c0_i32_11 c1_i32_12 k0_t2
  let v2828 : BitVec 32 := Scalar.muli c32_i32_1564 arg9
  let c14_i32 : BitVec 32 := 14#32
  let v2829 : BitVec 32 := Scalar.addi v2828 c14_i32
  let c1_i32_1566 : BitVec 32 := 1#32
  let v2832 : BitVec 32 := Scalar.addi v2829 c1_i32_1566
  let c63_i32_1567 : BitVec 32 := 63#32
  let v2833 : BitVec 32 := Scalar.minsi v2832 c63_i32_1567
  let c256_i32_1568 : BitVec 32 := 256#32
  let v2834 : BitVec 32 := Scalar.muli v2833 c256_i32_1568
  v2834
def k0_mult33 (k0_t2 : Fin k0_t2_loop.trips) : BitVec 32 :=
  let c32_i32_1675 : BitVec 32 := 32#32
  let c0_i32_11 : BitVec 32 := 0#32
  let c1_i32_12 : BitVec 32 := 1#32
  let arg9 : BitVec 32 := Scf.iv c0_i32_11 c1_i32_12 k0_t2
  let v3028 : BitVec 32 := Scalar.muli c32_i32_1675 arg9
  let c15_i32 : BitVec 32 := 15#32
  let v3029 : BitVec 32 := Scalar.addi v3028 c15_i32
  let c256_i32_1676 : BitVec 32 := 256#32
  let v3030 : BitVec 32 := Scalar.muli v3029 c256_i32_1676
  v3030
def k0_mult34 (k0_t2 : Fin k0_t2_loop.trips) : BitVec 32 :=
  let c32_i32_1675 : BitVec 32 := 32#32
  let c0_i32_11 : BitVec 32 := 0#32
  let c1_i32_12 : BitVec 32 := 1#32
  let arg9 : BitVec 32 := Scf.iv c0_i32_11 c1_i32_12 k0_t2
  let v3028 : BitVec 32 := Scalar.muli c32_i32_1675 arg9
  let c15_i32 : BitVec 32 := 15#32
  let v3029 : BitVec 32 := Scalar.addi v3028 c15_i32
  let c1_i32_1677 : BitVec 32 := 1#32
  let v3032 : BitVec 32 := Scalar.addi v3029 c1_i32_1677
  let c63_i32_1678 : BitVec 32 := 63#32
  let v3033 : BitVec 32 := Scalar.minsi v3032 c63_i32_1678
  let c256_i32_1679 : BitVec 32 := 256#32
  let v3034 : BitVec 32 := Scalar.muli v3033 c256_i32_1679
  v3034
def k0_mult35 (k0_t2 : Fin k0_t2_loop.trips) : BitVec 32 :=
  let c32_i32_1786 : BitVec 32 := 32#32
  let c0_i32_11 : BitVec 32 := 0#32
  let c1_i32_12 : BitVec 32 := 1#32
  let arg9 : BitVec 32 := Scf.iv c0_i32_11 c1_i32_12 k0_t2
  let v3228 : BitVec 32 := Scalar.muli c32_i32_1786 arg9
  let c16_i32 : BitVec 32 := 16#32
  let v3229 : BitVec 32 := Scalar.addi v3228 c16_i32
  let c256_i32_1787 : BitVec 32 := 256#32
  let v3230 : BitVec 32 := Scalar.muli v3229 c256_i32_1787
  v3230
def k0_mult36 (k0_t2 : Fin k0_t2_loop.trips) : BitVec 32 :=
  let c32_i32_1786 : BitVec 32 := 32#32
  let c0_i32_11 : BitVec 32 := 0#32
  let c1_i32_12 : BitVec 32 := 1#32
  let arg9 : BitVec 32 := Scf.iv c0_i32_11 c1_i32_12 k0_t2
  let v3228 : BitVec 32 := Scalar.muli c32_i32_1786 arg9
  let c16_i32 : BitVec 32 := 16#32
  let v3229 : BitVec 32 := Scalar.addi v3228 c16_i32
  let c1_i32_1788 : BitVec 32 := 1#32
  let v3232 : BitVec 32 := Scalar.addi v3229 c1_i32_1788
  let c63_i32_1789 : BitVec 32 := 63#32
  let v3233 : BitVec 32 := Scalar.minsi v3232 c63_i32_1789
  let c256_i32_1790 : BitVec 32 := 256#32
  let v3234 : BitVec 32 := Scalar.muli v3233 c256_i32_1790
  v3234
def k0_mult37 (k0_t2 : Fin k0_t2_loop.trips) : BitVec 32 :=
  let c32_i32_1897 : BitVec 32 := 32#32
  let c0_i32_11 : BitVec 32 := 0#32
  let c1_i32_12 : BitVec 32 := 1#32
  let arg9 : BitVec 32 := Scf.iv c0_i32_11 c1_i32_12 k0_t2
  let v3428 : BitVec 32 := Scalar.muli c32_i32_1897 arg9
  let c17_i32 : BitVec 32 := 17#32
  let v3429 : BitVec 32 := Scalar.addi v3428 c17_i32
  let c256_i32_1898 : BitVec 32 := 256#32
  let v3430 : BitVec 32 := Scalar.muli v3429 c256_i32_1898
  v3430
def k0_mult38 (k0_t2 : Fin k0_t2_loop.trips) : BitVec 32 :=
  let c32_i32_1897 : BitVec 32 := 32#32
  let c0_i32_11 : BitVec 32 := 0#32
  let c1_i32_12 : BitVec 32 := 1#32
  let arg9 : BitVec 32 := Scf.iv c0_i32_11 c1_i32_12 k0_t2
  let v3428 : BitVec 32 := Scalar.muli c32_i32_1897 arg9
  let c17_i32 : BitVec 32 := 17#32
  let v3429 : BitVec 32 := Scalar.addi v3428 c17_i32
  let c1_i32_1899 : BitVec 32 := 1#32
  let v3432 : BitVec 32 := Scalar.addi v3429 c1_i32_1899
  let c63_i32_1900 : BitVec 32 := 63#32
  let v3433 : BitVec 32 := Scalar.minsi v3432 c63_i32_1900
  let c256_i32_1901 : BitVec 32 := 256#32
  let v3434 : BitVec 32 := Scalar.muli v3433 c256_i32_1901
  v3434
def k0_mult39 (k0_t2 : Fin k0_t2_loop.trips) : BitVec 32 :=
  let c32_i32_2008 : BitVec 32 := 32#32
  let c0_i32_11 : BitVec 32 := 0#32
  let c1_i32_12 : BitVec 32 := 1#32
  let arg9 : BitVec 32 := Scf.iv c0_i32_11 c1_i32_12 k0_t2
  let v3628 : BitVec 32 := Scalar.muli c32_i32_2008 arg9
  let c18_i32 : BitVec 32 := 18#32
  let v3629 : BitVec 32 := Scalar.addi v3628 c18_i32
  let c256_i32_2009 : BitVec 32 := 256#32
  let v3630 : BitVec 32 := Scalar.muli v3629 c256_i32_2009
  v3630
def k0_mult40 (k0_t2 : Fin k0_t2_loop.trips) : BitVec 32 :=
  let c32_i32_2008 : BitVec 32 := 32#32
  let c0_i32_11 : BitVec 32 := 0#32
  let c1_i32_12 : BitVec 32 := 1#32
  let arg9 : BitVec 32 := Scf.iv c0_i32_11 c1_i32_12 k0_t2
  let v3628 : BitVec 32 := Scalar.muli c32_i32_2008 arg9
  let c18_i32 : BitVec 32 := 18#32
  let v3629 : BitVec 32 := Scalar.addi v3628 c18_i32
  let c1_i32_2010 : BitVec 32 := 1#32
  let v3632 : BitVec 32 := Scalar.addi v3629 c1_i32_2010
  let c63_i32_2011 : BitVec 32 := 63#32
  let v3633 : BitVec 32 := Scalar.minsi v3632 c63_i32_2011
  let c256_i32_2012 : BitVec 32 := 256#32
  let v3634 : BitVec 32 := Scalar.muli v3633 c256_i32_2012
  v3634
def k0_mult41 (k0_t2 : Fin k0_t2_loop.trips) : BitVec 32 :=
  let c32_i32_2119 : BitVec 32 := 32#32
  let c0_i32_11 : BitVec 32 := 0#32
  let c1_i32_12 : BitVec 32 := 1#32
  let arg9 : BitVec 32 := Scf.iv c0_i32_11 c1_i32_12 k0_t2
  let v3828 : BitVec 32 := Scalar.muli c32_i32_2119 arg9
  let c19_i32 : BitVec 32 := 19#32
  let v3829 : BitVec 32 := Scalar.addi v3828 c19_i32
  let c256_i32_2120 : BitVec 32 := 256#32
  let v3830 : BitVec 32 := Scalar.muli v3829 c256_i32_2120
  v3830
def k0_mult42 (k0_t2 : Fin k0_t2_loop.trips) : BitVec 32 :=
  let c32_i32_2119 : BitVec 32 := 32#32
  let c0_i32_11 : BitVec 32 := 0#32
  let c1_i32_12 : BitVec 32 := 1#32
  let arg9 : BitVec 32 := Scf.iv c0_i32_11 c1_i32_12 k0_t2
  let v3828 : BitVec 32 := Scalar.muli c32_i32_2119 arg9
  let c19_i32 : BitVec 32 := 19#32
  let v3829 : BitVec 32 := Scalar.addi v3828 c19_i32
  let c1_i32_2121 : BitVec 32 := 1#32
  let v3832 : BitVec 32 := Scalar.addi v3829 c1_i32_2121
  let c63_i32_2122 : BitVec 32 := 63#32
  let v3833 : BitVec 32 := Scalar.minsi v3832 c63_i32_2122
  let c256_i32_2123 : BitVec 32 := 256#32
  let v3834 : BitVec 32 := Scalar.muli v3833 c256_i32_2123
  v3834
def k0_mult43 (k0_t2 : Fin k0_t2_loop.trips) : BitVec 32 :=
  let c32_i32_2230 : BitVec 32 := 32#32
  let c0_i32_11 : BitVec 32 := 0#32
  let c1_i32_12 : BitVec 32 := 1#32
  let arg9 : BitVec 32 := Scf.iv c0_i32_11 c1_i32_12 k0_t2
  let v4028 : BitVec 32 := Scalar.muli c32_i32_2230 arg9
  let c20_i32 : BitVec 32 := 20#32
  let v4029 : BitVec 32 := Scalar.addi v4028 c20_i32
  let c256_i32_2231 : BitVec 32 := 256#32
  let v4030 : BitVec 32 := Scalar.muli v4029 c256_i32_2231
  v4030
def k0_mult44 (k0_t2 : Fin k0_t2_loop.trips) : BitVec 32 :=
  let c32_i32_2230 : BitVec 32 := 32#32
  let c0_i32_11 : BitVec 32 := 0#32
  let c1_i32_12 : BitVec 32 := 1#32
  let arg9 : BitVec 32 := Scf.iv c0_i32_11 c1_i32_12 k0_t2
  let v4028 : BitVec 32 := Scalar.muli c32_i32_2230 arg9
  let c20_i32 : BitVec 32 := 20#32
  let v4029 : BitVec 32 := Scalar.addi v4028 c20_i32
  let c1_i32_2232 : BitVec 32 := 1#32
  let v4032 : BitVec 32 := Scalar.addi v4029 c1_i32_2232
  let c63_i32_2233 : BitVec 32 := 63#32
  let v4033 : BitVec 32 := Scalar.minsi v4032 c63_i32_2233
  let c256_i32_2234 : BitVec 32 := 256#32
  let v4034 : BitVec 32 := Scalar.muli v4033 c256_i32_2234
  v4034
def k0_mult45 (k0_t2 : Fin k0_t2_loop.trips) : BitVec 32 :=
  let c32_i32_2341 : BitVec 32 := 32#32
  let c0_i32_11 : BitVec 32 := 0#32
  let c1_i32_12 : BitVec 32 := 1#32
  let arg9 : BitVec 32 := Scf.iv c0_i32_11 c1_i32_12 k0_t2
  let v4228 : BitVec 32 := Scalar.muli c32_i32_2341 arg9
  let c21_i32 : BitVec 32 := 21#32
  let v4229 : BitVec 32 := Scalar.addi v4228 c21_i32
  let c256_i32_2342 : BitVec 32 := 256#32
  let v4230 : BitVec 32 := Scalar.muli v4229 c256_i32_2342
  v4230
def k0_mult46 (k0_t2 : Fin k0_t2_loop.trips) : BitVec 32 :=
  let c32_i32_2341 : BitVec 32 := 32#32
  let c0_i32_11 : BitVec 32 := 0#32
  let c1_i32_12 : BitVec 32 := 1#32
  let arg9 : BitVec 32 := Scf.iv c0_i32_11 c1_i32_12 k0_t2
  let v4228 : BitVec 32 := Scalar.muli c32_i32_2341 arg9
  let c21_i32 : BitVec 32 := 21#32
  let v4229 : BitVec 32 := Scalar.addi v4228 c21_i32
  let c1_i32_2343 : BitVec 32 := 1#32
  let v4232 : BitVec 32 := Scalar.addi v4229 c1_i32_2343
  let c63_i32_2344 : BitVec 32 := 63#32
  let v4233 : BitVec 32 := Scalar.minsi v4232 c63_i32_2344
  let c256_i32_2345 : BitVec 32 := 256#32
  let v4234 : BitVec 32 := Scalar.muli v4233 c256_i32_2345
  v4234
def k0_mult47 (k0_t2 : Fin k0_t2_loop.trips) : BitVec 32 :=
  let c32_i32_2452 : BitVec 32 := 32#32
  let c0_i32_11 : BitVec 32 := 0#32
  let c1_i32_12 : BitVec 32 := 1#32
  let arg9 : BitVec 32 := Scf.iv c0_i32_11 c1_i32_12 k0_t2
  let v4428 : BitVec 32 := Scalar.muli c32_i32_2452 arg9
  let c22_i32 : BitVec 32 := 22#32
  let v4429 : BitVec 32 := Scalar.addi v4428 c22_i32
  let c256_i32_2453 : BitVec 32 := 256#32
  let v4430 : BitVec 32 := Scalar.muli v4429 c256_i32_2453
  v4430
def k0_mult48 (k0_t2 : Fin k0_t2_loop.trips) : BitVec 32 :=
  let c32_i32_2452 : BitVec 32 := 32#32
  let c0_i32_11 : BitVec 32 := 0#32
  let c1_i32_12 : BitVec 32 := 1#32
  let arg9 : BitVec 32 := Scf.iv c0_i32_11 c1_i32_12 k0_t2
  let v4428 : BitVec 32 := Scalar.muli c32_i32_2452 arg9
  let c22_i32 : BitVec 32 := 22#32
  let v4429 : BitVec 32 := Scalar.addi v4428 c22_i32
  let c1_i32_2454 : BitVec 32 := 1#32
  let v4432 : BitVec 32 := Scalar.addi v4429 c1_i32_2454
  let c63_i32_2455 : BitVec 32 := 63#32
  let v4433 : BitVec 32 := Scalar.minsi v4432 c63_i32_2455
  let c256_i32_2456 : BitVec 32 := 256#32
  let v4434 : BitVec 32 := Scalar.muli v4433 c256_i32_2456
  v4434
def k0_mult49 (k0_t2 : Fin k0_t2_loop.trips) : BitVec 32 :=
  let c32_i32_2563 : BitVec 32 := 32#32
  let c0_i32_11 : BitVec 32 := 0#32
  let c1_i32_12 : BitVec 32 := 1#32
  let arg9 : BitVec 32 := Scf.iv c0_i32_11 c1_i32_12 k0_t2
  let v4628 : BitVec 32 := Scalar.muli c32_i32_2563 arg9
  let c23_i32 : BitVec 32 := 23#32
  let v4629 : BitVec 32 := Scalar.addi v4628 c23_i32
  let c256_i32_2564 : BitVec 32 := 256#32
  let v4630 : BitVec 32 := Scalar.muli v4629 c256_i32_2564
  v4630
def k0_mult50 (k0_t2 : Fin k0_t2_loop.trips) : BitVec 32 :=
  let c32_i32_2563 : BitVec 32 := 32#32
  let c0_i32_11 : BitVec 32 := 0#32
  let c1_i32_12 : BitVec 32 := 1#32
  let arg9 : BitVec 32 := Scf.iv c0_i32_11 c1_i32_12 k0_t2
  let v4628 : BitVec 32 := Scalar.muli c32_i32_2563 arg9
  let c23_i32 : BitVec 32 := 23#32
  let v4629 : BitVec 32 := Scalar.addi v4628 c23_i32
  let c1_i32_2565 : BitVec 32 := 1#32
  let v4632 : BitVec 32 := Scalar.addi v4629 c1_i32_2565
  let c63_i32_2566 : BitVec 32 := 63#32
  let v4633 : BitVec 32 := Scalar.minsi v4632 c63_i32_2566
  let c256_i32_2567 : BitVec 32 := 256#32
  let v4634 : BitVec 32 := Scalar.muli v4633 c256_i32_2567
  v4634
def k0_mult51 (k0_t2 : Fin k0_t2_loop.trips) : BitVec 32 :=
  let c32_i32_2674 : BitVec 32 := 32#32
  let c0_i32_11 : BitVec 32 := 0#32
  let c1_i32_12 : BitVec 32 := 1#32
  let arg9 : BitVec 32 := Scf.iv c0_i32_11 c1_i32_12 k0_t2
  let v4828 : BitVec 32 := Scalar.muli c32_i32_2674 arg9
  let c24_i32 : BitVec 32 := 24#32
  let v4829 : BitVec 32 := Scalar.addi v4828 c24_i32
  let c256_i32_2675 : BitVec 32 := 256#32
  let v4830 : BitVec 32 := Scalar.muli v4829 c256_i32_2675
  v4830
def k0_mult52 (k0_t2 : Fin k0_t2_loop.trips) : BitVec 32 :=
  let c32_i32_2674 : BitVec 32 := 32#32
  let c0_i32_11 : BitVec 32 := 0#32
  let c1_i32_12 : BitVec 32 := 1#32
  let arg9 : BitVec 32 := Scf.iv c0_i32_11 c1_i32_12 k0_t2
  let v4828 : BitVec 32 := Scalar.muli c32_i32_2674 arg9
  let c24_i32 : BitVec 32 := 24#32
  let v4829 : BitVec 32 := Scalar.addi v4828 c24_i32
  let c1_i32_2676 : BitVec 32 := 1#32
  let v4832 : BitVec 32 := Scalar.addi v4829 c1_i32_2676
  let c63_i32_2677 : BitVec 32 := 63#32
  let v4833 : BitVec 32 := Scalar.minsi v4832 c63_i32_2677
  let c256_i32_2678 : BitVec 32 := 256#32
  let v4834 : BitVec 32 := Scalar.muli v4833 c256_i32_2678
  v4834
def k0_mult53 (k0_t2 : Fin k0_t2_loop.trips) : BitVec 32 :=
  let c32_i32_2785 : BitVec 32 := 32#32
  let c0_i32_11 : BitVec 32 := 0#32
  let c1_i32_12 : BitVec 32 := 1#32
  let arg9 : BitVec 32 := Scf.iv c0_i32_11 c1_i32_12 k0_t2
  let v5028 : BitVec 32 := Scalar.muli c32_i32_2785 arg9
  let c25_i32 : BitVec 32 := 25#32
  let v5029 : BitVec 32 := Scalar.addi v5028 c25_i32
  let c256_i32_2786 : BitVec 32 := 256#32
  let v5030 : BitVec 32 := Scalar.muli v5029 c256_i32_2786
  v5030
def k0_mult54 (k0_t2 : Fin k0_t2_loop.trips) : BitVec 32 :=
  let c32_i32_2785 : BitVec 32 := 32#32
  let c0_i32_11 : BitVec 32 := 0#32
  let c1_i32_12 : BitVec 32 := 1#32
  let arg9 : BitVec 32 := Scf.iv c0_i32_11 c1_i32_12 k0_t2
  let v5028 : BitVec 32 := Scalar.muli c32_i32_2785 arg9
  let c25_i32 : BitVec 32 := 25#32
  let v5029 : BitVec 32 := Scalar.addi v5028 c25_i32
  let c1_i32_2787 : BitVec 32 := 1#32
  let v5032 : BitVec 32 := Scalar.addi v5029 c1_i32_2787
  let c63_i32_2788 : BitVec 32 := 63#32
  let v5033 : BitVec 32 := Scalar.minsi v5032 c63_i32_2788
  let c256_i32_2789 : BitVec 32 := 256#32
  let v5034 : BitVec 32 := Scalar.muli v5033 c256_i32_2789
  v5034
def k0_mult55 (k0_t2 : Fin k0_t2_loop.trips) : BitVec 32 :=
  let c32_i32_2896 : BitVec 32 := 32#32
  let c0_i32_11 : BitVec 32 := 0#32
  let c1_i32_12 : BitVec 32 := 1#32
  let arg9 : BitVec 32 := Scf.iv c0_i32_11 c1_i32_12 k0_t2
  let v5228 : BitVec 32 := Scalar.muli c32_i32_2896 arg9
  let c26_i32 : BitVec 32 := 26#32
  let v5229 : BitVec 32 := Scalar.addi v5228 c26_i32
  let c256_i32_2897 : BitVec 32 := 256#32
  let v5230 : BitVec 32 := Scalar.muli v5229 c256_i32_2897
  v5230
def k0_mult56 (k0_t2 : Fin k0_t2_loop.trips) : BitVec 32 :=
  let c32_i32_2896 : BitVec 32 := 32#32
  let c0_i32_11 : BitVec 32 := 0#32
  let c1_i32_12 : BitVec 32 := 1#32
  let arg9 : BitVec 32 := Scf.iv c0_i32_11 c1_i32_12 k0_t2
  let v5228 : BitVec 32 := Scalar.muli c32_i32_2896 arg9
  let c26_i32 : BitVec 32 := 26#32
  let v5229 : BitVec 32 := Scalar.addi v5228 c26_i32
  let c1_i32_2898 : BitVec 32 := 1#32
  let v5232 : BitVec 32 := Scalar.addi v5229 c1_i32_2898
  let c63_i32_2899 : BitVec 32 := 63#32
  let v5233 : BitVec 32 := Scalar.minsi v5232 c63_i32_2899
  let c256_i32_2900 : BitVec 32 := 256#32
  let v5234 : BitVec 32 := Scalar.muli v5233 c256_i32_2900
  v5234
def k0_mult57 (k0_t2 : Fin k0_t2_loop.trips) : BitVec 32 :=
  let c32_i32_3007 : BitVec 32 := 32#32
  let c0_i32_11 : BitVec 32 := 0#32
  let c1_i32_12 : BitVec 32 := 1#32
  let arg9 : BitVec 32 := Scf.iv c0_i32_11 c1_i32_12 k0_t2
  let v5428 : BitVec 32 := Scalar.muli c32_i32_3007 arg9
  let c27_i32 : BitVec 32 := 27#32
  let v5429 : BitVec 32 := Scalar.addi v5428 c27_i32
  let c256_i32_3008 : BitVec 32 := 256#32
  let v5430 : BitVec 32 := Scalar.muli v5429 c256_i32_3008
  v5430
def k0_mult58 (k0_t2 : Fin k0_t2_loop.trips) : BitVec 32 :=
  let c32_i32_3007 : BitVec 32 := 32#32
  let c0_i32_11 : BitVec 32 := 0#32
  let c1_i32_12 : BitVec 32 := 1#32
  let arg9 : BitVec 32 := Scf.iv c0_i32_11 c1_i32_12 k0_t2
  let v5428 : BitVec 32 := Scalar.muli c32_i32_3007 arg9
  let c27_i32 : BitVec 32 := 27#32
  let v5429 : BitVec 32 := Scalar.addi v5428 c27_i32
  let c1_i32_3009 : BitVec 32 := 1#32
  let v5432 : BitVec 32 := Scalar.addi v5429 c1_i32_3009
  let c63_i32_3010 : BitVec 32 := 63#32
  let v5433 : BitVec 32 := Scalar.minsi v5432 c63_i32_3010
  let c256_i32_3011 : BitVec 32 := 256#32
  let v5434 : BitVec 32 := Scalar.muli v5433 c256_i32_3011
  v5434
def k0_mult59 (k0_t2 : Fin k0_t2_loop.trips) : BitVec 32 :=
  let c32_i32_3118 : BitVec 32 := 32#32
  let c0_i32_11 : BitVec 32 := 0#32
  let c1_i32_12 : BitVec 32 := 1#32
  let arg9 : BitVec 32 := Scf.iv c0_i32_11 c1_i32_12 k0_t2
  let v5628 : BitVec 32 := Scalar.muli c32_i32_3118 arg9
  let c28_i32 : BitVec 32 := 28#32
  let v5629 : BitVec 32 := Scalar.addi v5628 c28_i32
  let c256_i32_3119 : BitVec 32 := 256#32
  let v5630 : BitVec 32 := Scalar.muli v5629 c256_i32_3119
  v5630
def k0_mult60 (k0_t2 : Fin k0_t2_loop.trips) : BitVec 32 :=
  let c32_i32_3118 : BitVec 32 := 32#32
  let c0_i32_11 : BitVec 32 := 0#32
  let c1_i32_12 : BitVec 32 := 1#32
  let arg9 : BitVec 32 := Scf.iv c0_i32_11 c1_i32_12 k0_t2
  let v5628 : BitVec 32 := Scalar.muli c32_i32_3118 arg9
  let c28_i32 : BitVec 32 := 28#32
  let v5629 : BitVec 32 := Scalar.addi v5628 c28_i32
  let c1_i32_3120 : BitVec 32 := 1#32
  let v5632 : BitVec 32 := Scalar.addi v5629 c1_i32_3120
  let c63_i32_3121 : BitVec 32 := 63#32
  let v5633 : BitVec 32 := Scalar.minsi v5632 c63_i32_3121
  let c256_i32_3122 : BitVec 32 := 256#32
  let v5634 : BitVec 32 := Scalar.muli v5633 c256_i32_3122
  v5634
def k0_mult61 (k0_t2 : Fin k0_t2_loop.trips) : BitVec 32 :=
  let c32_i32_3229 : BitVec 32 := 32#32
  let c0_i32_11 : BitVec 32 := 0#32
  let c1_i32_12 : BitVec 32 := 1#32
  let arg9 : BitVec 32 := Scf.iv c0_i32_11 c1_i32_12 k0_t2
  let v5828 : BitVec 32 := Scalar.muli c32_i32_3229 arg9
  let c29_i32 : BitVec 32 := 29#32
  let v5829 : BitVec 32 := Scalar.addi v5828 c29_i32
  let c256_i32_3230 : BitVec 32 := 256#32
  let v5830 : BitVec 32 := Scalar.muli v5829 c256_i32_3230
  v5830
def k0_mult62 (k0_t2 : Fin k0_t2_loop.trips) : BitVec 32 :=
  let c32_i32_3229 : BitVec 32 := 32#32
  let c0_i32_11 : BitVec 32 := 0#32
  let c1_i32_12 : BitVec 32 := 1#32
  let arg9 : BitVec 32 := Scf.iv c0_i32_11 c1_i32_12 k0_t2
  let v5828 : BitVec 32 := Scalar.muli c32_i32_3229 arg9
  let c29_i32 : BitVec 32 := 29#32
  let v5829 : BitVec 32 := Scalar.addi v5828 c29_i32
  let c1_i32_3231 : BitVec 32 := 1#32
  let v5832 : BitVec 32 := Scalar.addi v5829 c1_i32_3231
  let c63_i32_3232 : BitVec 32 := 63#32
  let v5833 : BitVec 32 := Scalar.minsi v5832 c63_i32_3232
  let c256_i32_3233 : BitVec 32 := 256#32
  let v5834 : BitVec 32 := Scalar.muli v5833 c256_i32_3233
  v5834
def k0_mult63 (k0_t2 : Fin k0_t2_loop.trips) : BitVec 32 :=
  let c32_i32_3340 : BitVec 32 := 32#32
  let c0_i32_11 : BitVec 32 := 0#32
  let c1_i32_12 : BitVec 32 := 1#32
  let arg9 : BitVec 32 := Scf.iv c0_i32_11 c1_i32_12 k0_t2
  let v6028 : BitVec 32 := Scalar.muli c32_i32_3340 arg9
  let c30_i32 : BitVec 32 := 30#32
  let v6029 : BitVec 32 := Scalar.addi v6028 c30_i32
  let c256_i32_3341 : BitVec 32 := 256#32
  let v6030 : BitVec 32 := Scalar.muli v6029 c256_i32_3341
  v6030
def k0_mult64 (k0_t2 : Fin k0_t2_loop.trips) : BitVec 32 :=
  let c32_i32_3340 : BitVec 32 := 32#32
  let c0_i32_11 : BitVec 32 := 0#32
  let c1_i32_12 : BitVec 32 := 1#32
  let arg9 : BitVec 32 := Scf.iv c0_i32_11 c1_i32_12 k0_t2
  let v6028 : BitVec 32 := Scalar.muli c32_i32_3340 arg9
  let c30_i32 : BitVec 32 := 30#32
  let v6029 : BitVec 32 := Scalar.addi v6028 c30_i32
  let c1_i32_3342 : BitVec 32 := 1#32
  let v6032 : BitVec 32 := Scalar.addi v6029 c1_i32_3342
  let c63_i32_3343 : BitVec 32 := 63#32
  let v6033 : BitVec 32 := Scalar.minsi v6032 c63_i32_3343
  let c256_i32_3344 : BitVec 32 := 256#32
  let v6034 : BitVec 32 := Scalar.muli v6033 c256_i32_3344
  v6034
def k0_mult65 (k0_t2 : Fin k0_t2_loop.trips) : BitVec 32 :=
  let c32_i32_3451 : BitVec 32 := 32#32
  let c0_i32_11 : BitVec 32 := 0#32
  let c1_i32_12 : BitVec 32 := 1#32
  let arg9 : BitVec 32 := Scf.iv c0_i32_11 c1_i32_12 k0_t2
  let v6228 : BitVec 32 := Scalar.muli c32_i32_3451 arg9
  let c31_i32 : BitVec 32 := 31#32
  let v6229 : BitVec 32 := Scalar.addi v6228 c31_i32
  let c256_i32_3452 : BitVec 32 := 256#32
  let v6230 : BitVec 32 := Scalar.muli v6229 c256_i32_3452
  v6230
def k0_mult66 (k0_t2 : Fin k0_t2_loop.trips) : BitVec 32 :=
  let c32_i32_3451 : BitVec 32 := 32#32
  let c0_i32_11 : BitVec 32 := 0#32
  let c1_i32_12 : BitVec 32 := 1#32
  let arg9 : BitVec 32 := Scf.iv c0_i32_11 c1_i32_12 k0_t2
  let v6228 : BitVec 32 := Scalar.muli c32_i32_3451 arg9
  let c31_i32 : BitVec 32 := 31#32
  let v6229 : BitVec 32 := Scalar.addi v6228 c31_i32
  let c1_i32_3453 : BitVec 32 := 1#32
  let v6232 : BitVec 32 := Scalar.addi v6229 c1_i32_3453
  let c63_i32_3454 : BitVec 32 := 63#32
  let v6233 : BitVec 32 := Scalar.minsi v6232 c63_i32_3454
  let c256_i32_3455 : BitVec 32 := 256#32
  let v6234 : BitVec 32 := Scalar.muli v6233 c256_i32_3455
  v6234
def k0_off4 (k0_t1 : Fin k0_t1_loop.trips) : Fin 2 → Nat :=
  let c0_16 : Index := 0#32
  let c0_i32 : BitVec 32 := 0#32
  let c1_i32 : BitVec 32 := 1#32
  let arg8 : BitVec 32 := Scf.iv c0_i32 c1_i32 k0_t1
  let c2048_i32 : BitVec 32 := 2048#32
  let v1 : BitVec 32 := Scalar.muli arg8 c2048_i32
  let v2 : BitVec 32 := v1
  let v26 : Index := Scalar.indexCast v2
  ![0, v26.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S80x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S768x32768 : Shape := ⟨2, ![768, 32768]⟩
abbrev S32768x768 : Shape := ⟨2, ![32768, 768]⟩
abbrev S480x32768 : Shape := ⟨2, ![480, 32768]⟩
abbrev S6x128x2x16384 : Shape := ⟨4, ![6, 128, 2, 16384]⟩
abbrev S2x16384x6x128 : Shape := ⟨4, ![2, 16384, 6, 128]⟩
abbrev S6x80x2x16384 : Shape := ⟨4, ![6, 80, 2, 16384]⟩
abbrev S6x64x2x16384 : Shape := ⟨4, ![6, 64, 2, 16384]⟩
abbrev S2x16384x6x64 : Shape := ⟨4, ![2, 16384, 6, 64]⟩
abbrev S2x6x16384x16384 : Shape := ⟨4, ![2, 6, 16384, 16384]⟩
abbrev S_ : Shape := ⟨0, ![]⟩
abbrev S2x6x16384 : Shape := ⟨3, ![2, 6, 16384]⟩
abbrev S2x6x16384x1 : Shape := ⟨4, ![2, 6, 16384, 1]⟩
abbrev S2x6x64x16384 : Shape := ⟨4, ![2, 6, 64, 16384]⟩
abbrev S384x32768 : Shape := ⟨2, ![384, 32768]⟩

abbrev nBuf : Space → Nat
  | .hbm => 35
  | .vmem => 0
  | .smem => 0
  | _ => 0

abbrev bufTy : (tb : Table) → Fin (tcTables nBuf tb) → BufTy
  | .hbm, ⟨0, _⟩ => ⟨S768x32768, .bf16⟩
  | .hbm, ⟨1, _⟩ => ⟨S32768x768, .bf16⟩
  | .hbm, ⟨2, _⟩ => ⟨S480x32768, .bf16⟩
  | .hbm, ⟨3, _⟩ => ⟨S768x32768, .f32⟩
  | .hbm, ⟨4, _⟩ => ⟨S6x128x2x16384, .f32⟩
  | .hbm, ⟨5, _⟩ => ⟨S2x16384x6x128, .f32⟩
  | .hbm, ⟨6, _⟩ => ⟨S32768x768, .f32⟩
  | .hbm, ⟨7, _⟩ => ⟨S2x16384x6x128, .f32⟩
  | .hbm, ⟨8, _⟩ => ⟨S480x32768, .f32⟩
  | .hbm, ⟨9, _⟩ => ⟨S6x80x2x16384, .f32⟩
  | .hbm, ⟨10, _⟩ => ⟨S6x64x2x16384, .f32⟩
  | .hbm, ⟨11, _⟩ => ⟨S2x16384x6x64, .f32⟩
  | .hbm, ⟨12, _⟩ => ⟨S2x6x16384x16384, .f32⟩
  | .hbm, ⟨13, _⟩ => ⟨S_, .f32⟩
  | .hbm, ⟨14, _⟩ => ⟨S_, .f32⟩
  | .hbm, ⟨15, _⟩ => ⟨S2x6x16384x16384, .f32⟩
  | .hbm, ⟨16, _⟩ => ⟨S2x6x16384x16384, .f32⟩
  | .hbm, ⟨17, _⟩ => ⟨S_, .f32⟩
  | .hbm, ⟨18, _⟩ => ⟨S2x6x16384, .f32⟩
  | .hbm, ⟨19, _⟩ => ⟨S_, .f32⟩
  | .hbm, ⟨20, _⟩ => ⟨S2x6x16384, .f32⟩
  | .hbm, ⟨21, _⟩ => ⟨S2x6x16384, .f32⟩
  | .hbm, ⟨22, _⟩ => ⟨S2x6x16384x1, .f32⟩
  | .hbm, ⟨23, _⟩ => ⟨S2x6x16384x16384, .f32⟩
  | .hbm, ⟨24, _⟩ => ⟨S2x6x16384x16384, .f32⟩
  | .hbm, ⟨25, _⟩ => ⟨S2x6x16384x16384, .f32⟩
  | .hbm, ⟨26, _⟩ => ⟨S_, .f32⟩
  | .hbm, ⟨27, _⟩ => ⟨S2x6x16384, .f32⟩
  | .hbm, ⟨28, _⟩ => ⟨S2x6x16384x1, .f32⟩
  | .hbm, ⟨29, _⟩ => ⟨S2x6x16384x16384, .f32⟩
  | .hbm, ⟨30, _⟩ => ⟨S2x6x16384x16384, .f32⟩
  | .hbm, ⟨31, _⟩ => ⟨S2x6x64x16384, .f32⟩
  | .hbm, ⟨32, _⟩ => ⟨S2x16384x6x64, .f32⟩
  | .hbm, ⟨33, _⟩ => ⟨S6x64x2x16384, .f32⟩
  | .hbm, ⟨34, _⟩ => ⟨S384x32768, .f32⟩
  | _, _ => ⟨S768x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Ffn.lean ====
abbrev S32768x1024 : Shape := ⟨2, ![32768, 1024]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x4096, .bf16⟩
  | .hbm, ⟨2, _⟩ => ⟨S1x4096, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefFfnIdeal.lean ====
abbrev S32768x1024 : Shape := ⟨2, ![32768, 1024]⟩
abbrev S1024x4096 : Shape := ⟨2, ![1024, 4096]⟩
abbrev S1x4096 : Shape := ⟨2, ![1, 4096]⟩
abbrev S4096x1024 : Shape := ⟨2, ![4096, 1024]⟩
abbrev S1x1024 : Shape := ⟨2, ![1, 1024]⟩
abbrev S32768x4096 : Shape := ⟨2, ![32768, 4096]⟩
abbrev S_ : Shape := ⟨0, ![]⟩
abbrev S32768 : Shape := ⟨1, ![32768]⟩
abbrev S32768x1 : Shape := ⟨2, ![32768, 1]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4096, .bf16⟩
  | .hbm, ⟨2, _⟩ => ⟨S1x4096, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S32768x4096, .f32⟩
  | .hbm, ⟨9, _⟩ => ⟨S32768x4096, .f32⟩
  | .hbm, ⟨10, _⟩ => ⟨S32768x4096, .f32⟩
  | .hbm, ⟨11, _⟩ => ⟨S_, .f32⟩
  | .hbm, ⟨12, _⟩ => ⟨S32768x4096, .f32⟩
  | .hbm, ⟨13, _⟩ => ⟨S32768x4096, .f32⟩
  | .hbm, ⟨14, _⟩ => ⟨S32768x4096, .f32⟩
  | .hbm, ⟨15, _⟩ => ⟨S4096x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Merge.lean ====
abbrev S384x32768 : Shape := ⟨2, ![384, 32768]⟩
abbrev S32768x256 : Shape := ⟨2, ![32768, 256]⟩
abbrev S32768x1024 : Shape := ⟨2, ![32768, 1024]⟩
abbrev S1024x1024 : Shape := ⟨2, ![1024, 1024]⟩
abbrev S1x384 : Shape := ⟨2, ![1, 384]⟩
abbrev S1x1024 : Shape := ⟨2, ![1, 1024]⟩
abbrev S384x1024 : Shape := ⟨2, ![384, 1024]⟩
abbrev S1024x256 : Shape := ⟨2, ![1024, 256]⟩
abbrev S384x256 : Shape := ⟨2, ![384, 256]⟩
abbrev S256x384 : Shape := ⟨2, ![256, 384]⟩
abbrev S256 : Shape := ⟨1, ![256]⟩
abbrev S256x1 : Shape := ⟨2, ![256, 1]⟩
abbrev S256x256 : Shape := ⟨2, ![256, 256]⟩
abbrev S256x1024 : Shape := ⟨2, ![256, 1024]⟩

abbrev nBuf : Space → Nat
  | .hbm => 10
  | .vmem => 15
  | .smem => 0
  | _ => 0

abbrev bufTy : (tb : Table) → Fin (tcTables nBuf tb) → BufTy
  | .hbm, ⟨0, _⟩ => ⟨S384x32768, .f32⟩
  | .hbm, ⟨1, _⟩ => ⟨S384x32768, .f32⟩
  | .hbm, ⟨2, _⟩ => ⟨S32768x256, .bf16⟩
  | .hbm, ⟨3, _⟩ => ⟨S32768x1024, .f32⟩
  | .hbm, ⟨4, _⟩ => ⟨S1024x1024, .bf16⟩
  | .hbm, ⟨5, _⟩ => ⟨S1x384, .f32⟩
  | .hbm, ⟨6, _⟩ => ⟨S1x384, .f32⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x256, .bf16⟩
  | .local _ .vmem, ⟨5, _⟩ => ⟨S1024x256, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x384, .f32⟩
  | .local _ .vmem, ⟨10, _⟩ => ⟨S1x384, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S384x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefMergeIdeal.lean ====
abbrev S384x32768 : Shape := ⟨2, ![384, 32768]⟩
abbrev S32768x256 : Shape := ⟨2, ![32768, 256]⟩
abbrev S32768x1024 : Shape := ⟨2, ![32768, 1024]⟩
abbrev S1024x1024 : Shape := ⟨2, ![1024, 1024]⟩
abbrev S1x384 : Shape := ⟨2, ![1, 384]⟩
abbrev S1x1024 : Shape := ⟨2, ![1, 1024]⟩
abbrev S32768x384 : Shape := ⟨2, ![32768, 384]⟩
abbrev S_ : Shape := ⟨0, ![]⟩
abbrev S32768 : Shape := ⟨1, ![32768]⟩
abbrev S32768x1 : Shape := ⟨2, ![32768, 1]⟩

abbrev nBuf : Space → Nat
  | .hbm => 76
  | .vmem => 0
  | .smem => 0
  | _ => 0

abbrev bufTy : (tb : Table) → Fin (tcTables nBuf tb) → BufTy
  | .hbm, ⟨0, _⟩ => ⟨S384x32768, .f32⟩
  | .hbm, ⟨1, _⟩ => ⟨S384x32768, .f32⟩
  | .hbm, ⟨2, _⟩ => ⟨S32768x256, .bf16⟩
  | .hbm, ⟨3, _⟩ => ⟨S32768x1024, .f32⟩
  | .hbm, ⟨4, _⟩ => ⟨S1024x1024, .bf16⟩
  | .hbm, ⟨5, _⟩ => ⟨S1x384, .f32⟩
  | .hbm, ⟨6, _⟩ => ⟨S1x384, .f32⟩
  | .hbm, ⟨7, _⟩ => ⟨S1x1024, .f32⟩
  | .hbm, ⟨8, _⟩ => ⟨S1x1024, .f32⟩
  | .hbm, ⟨9, _⟩ => ⟨S32768x384, .f32⟩
  | .hbm, ⟨10, _⟩ => ⟨S32768x384, .f32⟩
  | .hbm, ⟨11, _⟩ => ⟨S32768x384, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x384, .f32⟩
  | .hbm, ⟨23, _⟩ => ⟨S32768x384, .f32⟩
  | .hbm, ⟨24, _⟩ => ⟨S32768x384, .f32⟩
  | .hbm, ⟨25, _⟩ => ⟨S32768x384, .f32⟩
  | .hbm, ⟨26, _⟩ => ⟨S32768x384, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x384, .f32⟩
  | .hbm, ⟨38, _⟩ => ⟨S32768x384, .f32⟩
  | .hbm, ⟨39, _⟩ => ⟨S32768x384, .f32⟩
  | .hbm, ⟨40, _⟩ => ⟨S32768x384, .f32⟩
  | .hbm, ⟨41, _⟩ => ⟨S32768x256, .f32⟩
  | .hbm, ⟨42, _⟩ => ⟨S32768x1024, .f32⟩
  | .hbm, ⟨43, _⟩ => ⟨S1024x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768x1, .f32⟩
  | .hbm, ⟨68, _⟩ => ⟨S32768x1, .f32⟩
  | .hbm, ⟨69, _⟩ => ⟨S32768x1, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | _, _ => ⟨S384x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Inproj.lean ====
abbrev S32768x1024 : Shape := ⟨2, ![32768, 1024]⟩
abbrev S1024x2016 : Shape := ⟨2, ![1024, 2016]⟩
abbrev S192 : Shape := ⟨1, ![192]⟩
abbrev S192x576 : Shape := ⟨2, ![192, 576]⟩
abbrev S128 : Shape := ⟨1, ![128]⟩
abbrev S128x768 : Shape := ⟨2, ![128, 768]⟩
abbrev S256 : Shape := ⟨1, ![256]⟩
abbrev S4x128x128 : Shape := ⟨3, ![4, 128, 128]⟩
abbrev S4x128 : Shape := ⟨2, ![4, 128]⟩
abbrev S16384x16 : Shape := ⟨2, ![16384, 16]⟩
abbrev S1024x32 : Shape := ⟨2, ![1024, 32]⟩
abbrev S1024x1152 : Shape := ⟨2, ![1024, 1152]⟩
abbrev S1024x128 : Shape := ⟨2, ![1024, 128]⟩
abbrev S1024x192 : Shape := ⟨2, ![1024, 192]⟩
abbrev S_ : Shape := ⟨0, ![]⟩
abbrev S1024x64 : Shape := ⟨2, ![1024, 64]⟩
abbrev S1024x16 : Shape := ⟨2, ![1024, 16]⟩
abbrev S1024x512 : Shape := ⟨2, ![1024, 512]⟩
abbrev S1024x2176 : Shape := ⟨2, ![1024, 2176]⟩
abbrev S192x6x96 : Shape := ⟨3, ![192, 6, 96]⟩
abbrev S192x6x32 : Shape := ⟨3, ![192, 6, 32]⟩
abbrev S192x6x16 : Shape := ⟨3, ![192, 6, 16]⟩
abbrev S192x6x128 : Shape := ⟨3, ![192, 6, 128]⟩
abbrev S192x768 : Shape := ⟨2, ![192, 768]⟩
abbrev S128x6x128 : Shape := ⟨3, ![128, 6, 128]⟩
abbrev S128x6x64 : Shape := ⟨3, ![128, 6, 64]⟩
abbrev S1x192 : Shape := ⟨2, ![1, 192]⟩
abbrev S1x128 : Shape := ⟨2, ![1, 128]⟩
abbrev S128x384 : Shape := ⟨2, ![128, 384]⟩
abbrev S1x256 : Shape := ⟨2, ![1, 256]⟩
abbrev S1x128x128 : Shape := ⟨3, ![1, 128, 128]⟩
abbrev S128x128 : Shape := ⟨2, ![128, 128]⟩
abbrev S128x512 : Shape := ⟨2, ![128, 512]⟩
abbrev S128x4 : Shape := ⟨2, ![128, 4]⟩
abbrev S128x4x64 : Shape := ⟨3, ![128, 4, 64]⟩
abbrev S128x256 : Shape := ⟨2, ![128, 256]⟩
abbrev S16384x64 : Shape := ⟨2, ![16384, 64]⟩
abbrev S16384x32 : Shape := ⟨2, ![16384, 32]⟩
abbrev S16384x128 : Shape := ⟨2, ![16384, 128]⟩
abbrev S768x32768 : Shape := ⟨2, ![768, 32768]⟩
abbrev S32768x384 : Shape := ⟨2, ![32768, 384]⟩
abbrev S480x32768 : Shape := ⟨2, ![480, 32768]⟩
abbrev S32768x768 : Shape := ⟨2, ![32768, 768]⟩
abbrev S32768x256 : Shape := ⟨2, ![32768, 256]⟩
abbrev S1024x1024 : Shape := ⟨2, ![1024, 1024]⟩
abbrev S768x1024 : Shape := ⟨2, ![768, 1024]⟩
abbrev S1024x384 : Shape := ⟨2, ![1024, 384]⟩
abbrev S480x1024 : Shape := ⟨2, ![480, 1024]⟩
abbrev S1024x768 : Shape := ⟨2, ![1024, 768]⟩
abbrev S1024x256 : Shape := ⟨2, ![1024, 256]⟩
abbrev S16x256 : Shape := ⟨2, ![16, 256]⟩
abbrev S64x256 : Shape := ⟨2, ![64, 256]⟩
abbrev S256x1024 : Shape := ⟨2, ![256, 1024]⟩
abbrev S256x2176 : Shape := ⟨2, ![256, 2176]⟩
abbrev S256x384 : Shape := ⟨2, ![256, 384]⟩
abbrev S384x256 : Shape := ⟨2, ![384, 256]⟩
abbrev S256x128 : Shape := ⟨2, ![256, 128]⟩
abbrev S256x1 : Shape := ⟨2, ![256, 1]⟩
abbrev S256x768 : Shape := ⟨2, ![256, 768]⟩
abbrev S256x192 : Shape := ⟨2, ![256, 192]⟩
abbrev S256x512 : Shape := ⟨2, ![256, 512]⟩
abbrev S256x256 : Shape := ⟨2, ![256, 256]⟩
abbrev S512x256 : Shape := ⟨2, ![512, 256]⟩
abbrev S128x1 : Shape := ⟨2, ![128, 1]⟩

abbrev nBuf : Space → Nat
  | .hbm => 95
  | .vmem => 35
  | .smem => 0
  | _ => 0

abbrev bufTy : (tb : Table) → Fin (tcTables nBuf tb) → BufTy
  | .hbm, ⟨0, _⟩ => ⟨S32768x1024, .f32⟩
  | .hbm, ⟨1, _⟩ => ⟨S1024x2016, .f32⟩
  | .hbm, ⟨2, _⟩ => ⟨S192, .f32⟩
  | .hbm, ⟨3, _⟩ => ⟨S192x576, .f32⟩
  | .hbm, ⟨4, _⟩ => ⟨S128, .f32⟩
  | .hbm, ⟨5, _⟩ => ⟨S128x768, .f32⟩
  | .hbm, ⟨6, _⟩ => ⟨S256, .f32⟩
  | .hbm, ⟨7, _⟩ => ⟨S256, .f32⟩
  | .hbm, ⟨8, _⟩ => ⟨S4x128x128, .f32⟩
  | .hbm, ⟨9, _⟩ => ⟨S4x128, .f32⟩
  | .hbm, ⟨10, _⟩ => ⟨S256, .f32⟩
  | .hbm, ⟨11, _⟩ => ⟨S16384x16, .f32⟩
  | .hbm, ⟨12, _⟩ => ⟨S16384x16, .f32⟩
  | .hbm, ⟨13, _⟩ => ⟨S1024x32, .f32⟩
  | .hbm, ⟨14, _⟩ => ⟨S1024x1152, .f32⟩
  | .hbm, ⟨15, _⟩ => ⟨S1024x128, .f32⟩
  | .hbm, ⟨16, _⟩ => ⟨S1024x192, .f32⟩
  | .hbm, ⟨17, _⟩ => ⟨S_, .f32⟩
  | .hbm, ⟨18, _⟩ => ⟨S1024x64, .f32⟩
  | .hbm, ⟨19, _⟩ => ⟨S_, .f32⟩
  | .hbm, ⟨20, _⟩ => ⟨S1024x64, .f32⟩
  | .hbm, ⟨21, _⟩ => ⟨S1024x16, .f32⟩
  | .hbm, ⟨22, _⟩ => ⟨S1024x16, .f32⟩
  | .hbm, ⟨23, _⟩ => ⟨S1024x32, .f32⟩
  | .hbm, ⟨24, _⟩ => ⟨S1024x512, .f32⟩
  | .hbm, ⟨25, _⟩ => ⟨S1024x2176, .f32⟩
  | .hbm, ⟨26, _⟩ => ⟨S192x6x96, .f32⟩
  | .hbm, ⟨27, _⟩ => ⟨S192x6x32, .f32⟩
  | .hbm, ⟨28, _⟩ => ⟨S192x6x16, .f32⟩
  | .hbm, ⟨29, _⟩ => ⟨S192x6x16, .f32⟩
  | .hbm, ⟨30, _⟩ => ⟨S192x6x32, .f32⟩
  | .hbm, ⟨31, _⟩ => ⟨S192x6x128, .f32⟩
  | .hbm, ⟨32, _⟩ => ⟨S192x768, .f32⟩
  | .hbm, ⟨33, _⟩ => ⟨S128x6x128, .f32⟩
  | .hbm, ⟨34, _⟩ => ⟨S128x6x64, .f32⟩
  | .hbm, ⟨35, _⟩ => ⟨S_, .f32⟩
  | .hbm, ⟨36, _⟩ => ⟨S128x6x64, .f32⟩
  | .hbm, ⟨37, _⟩ => ⟨S128x6x128, .f32⟩
  | .hbm, ⟨38, _⟩ => ⟨S1024x2176, .bf16⟩
  | .hbm, ⟨39, _⟩ => ⟨S1x192, .f32⟩
  | .hbm, ⟨40, _⟩ => ⟨S192x768, .bf16⟩
  | .hbm, ⟨41, _⟩ => ⟨S1x128, .f32⟩
  | .hbm, ⟨42, _⟩ => ⟨S128x768, .f32⟩
  | .hbm, ⟨43, _⟩ => ⟨S128x768, .bf16⟩
  | .hbm, ⟨44, _⟩ => ⟨S128x6x64, .f32⟩
  | .hbm, ⟨45, _⟩ => ⟨S128x384, .f32⟩
  | .hbm, ⟨46, _⟩ => ⟨S128x384, .bf16⟩
  | .hbm, ⟨47, _⟩ => ⟨S1x256, .f32⟩
  | .hbm, ⟨48, _⟩ => ⟨S1x256, .f32⟩
  | .hbm, ⟨49, _⟩ => ⟨S1x128x128, .f32⟩
  | .hbm, ⟨50, _⟩ => ⟨S128x128, .f32⟩
  | .hbm, ⟨51, _⟩ => ⟨S1x128x128, .f32⟩
  | .hbm, ⟨52, _⟩ => ⟨S128x128, .f32⟩
  | .hbm, ⟨53, _⟩ => ⟨S1x128x128, .f32⟩
  | .hbm, ⟨54, _⟩ => ⟨S128x128, .f32⟩
  | .hbm, ⟨55, _⟩ => ⟨S1x128x128, .f32⟩
  | .hbm, ⟨56, _⟩ => ⟨S128x128, .f32⟩
  | .hbm, ⟨57, _⟩ => ⟨S128x512, .f32⟩
  | .hbm, ⟨58, _⟩ => ⟨S128x512, .bf16⟩
  | .hbm, ⟨59, _⟩ => ⟨S128x4, .f32⟩
  | .hbm, ⟨60, _⟩ => ⟨S128x4x64, .f32⟩
  | .hbm, ⟨61, _⟩ => ⟨S128x256, .f32⟩
  | .hbm, ⟨62, _⟩ => ⟨S1x256, .f32⟩
  | .hbm, ⟨63, _⟩ => ⟨S_, .f32⟩
  | .hbm, ⟨64, _⟩ => ⟨S16384x64, .f32⟩
  | .hbm, ⟨65, _⟩ => ⟨S_, .f32⟩
  | .hbm, ⟨66, _⟩ => ⟨S16384x32, .f32⟩
  | .hbm, ⟨67, _⟩ => ⟨S16384x64, .f32⟩
  | .hbm, ⟨68, _⟩ => ⟨S16384x16, .f32⟩
  | .hbm, ⟨69, _⟩ => ⟨S_, .f32⟩
  | .hbm, ⟨70, _⟩ => ⟨S16384x32, .f32⟩
  | .hbm, ⟨71, _⟩ => ⟨S16384x64, .f32⟩
  | .hbm, ⟨72, _⟩ => ⟨S16384x128, .f32⟩
  | .hbm, ⟨73, _⟩ => ⟨S_, .f32⟩
  | .hbm, ⟨74, _⟩ => ⟨S16384x128, .f32⟩
  | .hbm, ⟨75, _⟩ => ⟨S16384x128, .f32⟩
  | .hbm, ⟨76, _⟩ => ⟨S_, .f32⟩
  | .hbm, ⟨77, _⟩ => ⟨S16384x64, .f32⟩
  | .hbm, ⟨78, _⟩ => ⟨S16384x128, .f32⟩
  | .hbm, ⟨79, _⟩ => ⟨S_, .f32⟩
  | .hbm, ⟨80, _⟩ => ⟨S16384x128, .f32⟩
  | .hbm, ⟨81, _⟩ => ⟨S16384x128, .f32⟩
  | .hbm, ⟨82, _⟩ => ⟨S_, .f32⟩
  | .hbm, ⟨83, _⟩ => ⟨S16384x64, .f32⟩
  | .hbm, ⟨84, _⟩ => ⟨S16384x128, .f32⟩
  | .hbm, ⟨85, _⟩ => ⟨S_, .f32⟩
  | .hbm, ⟨86, _⟩ => ⟨S16384x64, .f32⟩
  | .hbm, ⟨87, _⟩ => ⟨S16384x128, .f32⟩
  | .hbm, ⟨88, _⟩ => ⟨S768x32768, .bf16⟩
  | .hbm, ⟨89, _⟩ => ⟨S32768x384, .bf16⟩
  | .hbm, ⟨90, _⟩ => ⟨S480x32768, .bf16⟩
  | .hbm, ⟨91, _⟩ => ⟨S768x32768, .bf16⟩
  | .hbm, ⟨92, _⟩ => ⟨S32768x768, .bf16⟩
  | .hbm, ⟨93, _⟩ => ⟨S480x32768, .bf16⟩
  | .hbm, ⟨94, _⟩ => ⟨S32768x256, .bf16⟩
  | .local _ .vmem, ⟨0, _⟩ => ⟨S1024x1024, .f32⟩
  | .local _ .vmem, ⟨1, _⟩ => ⟨S1024x1024, .f32⟩
  | .local _ .vmem, ⟨2, _⟩ => ⟨S1024x2176, .bf16⟩
  | .local _ .vmem, ⟨3, _⟩ => ⟨S1x192, .f32⟩
  | .local _ .vmem, ⟨4, _⟩ => ⟨S192x768, .bf16⟩
  | .local _ .vmem, ⟨5, _⟩ => ⟨S1x128, .f32⟩
  | .local _ .vmem, ⟨6, _⟩ => ⟨S128x768, .bf16⟩
  | .local _ .vmem, ⟨7, _⟩ => ⟨S128x384, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x256, .f32⟩
  | .local _ .vmem, ⟨17, _⟩ => ⟨S1x256, .f32⟩
  | .local _ .vmem, ⟨18, _⟩ => ⟨S128x512, .bf16⟩
  | .local _ .vmem, ⟨19, _⟩ => ⟨S128x256, .f32⟩
  | .local _ .vmem, ⟨20, _⟩ => ⟨S1x256, .f32⟩
  | .local _ .vmem, ⟨21, _⟩ => ⟨S768x1024, .bf16⟩
  | .local _ .vmem, ⟨22, _⟩ => ⟨S768x1024, .bf16⟩
  | .local _ .vmem, ⟨23, _⟩ => ⟨S1024x384, .bf16⟩
  | .local _ .vmem, ⟨24, _⟩ => ⟨S1024x384, .bf16⟩
  | .local _ .vmem, ⟨25, _⟩ => ⟨S480x1024, .bf16⟩
  | .local _ .vmem, ⟨26, _⟩ => ⟨S480x1024, .bf16⟩
  | .local _ .vmem, ⟨27, _⟩ => ⟨S768x1024, .bf16⟩
  | .local _ .vmem, ⟨28, _⟩ => ⟨S768x1024, .bf16⟩
  | .local _ .vmem, ⟨29, _⟩ => ⟨S1024x768, .bf16⟩
  | .local _ .vmem, ⟨30, _⟩ => ⟨S1024x768, .bf16⟩
  | .local _ .vmem, ⟨31, _⟩ => ⟨S480x1024, .bf16⟩
  | .local _ .vmem, ⟨32, _⟩ => ⟨S480x1024, .bf16⟩
  | .local _ .vmem, ⟨33, _⟩ => ⟨S1024x256, .bf16⟩
  | .local _ .vmem, ⟨34, _⟩ => ⟨S1024x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_2 : Ref sig .tc := ⟨.hbm, 63, rfl⟩
abbrev main_v47 : Ref sig .tc := ⟨.hbm, 64, rfl⟩
abbrev main_cst_3 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_4 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_v64_0 : Ref sig .tc := ⟨.hbm, 88, rfl⟩
abbrev main_v64_1 : Ref sig .tc := ⟨.hbm, 89, rfl⟩
abbrev main_v64_2 : Ref sig .tc := ⟨.hbm, 90, rfl⟩
abbrev main_v64_3 : Ref sig .tc := ⟨.hbm, 91, rfl⟩
abbrev main_v64_4 : Ref sig .tc := ⟨.hbm, 92, rfl⟩
abbrev main_v64_5 : Ref sig .tc := ⟨.hbm, 93, rfl⟩
abbrev main_v64_6 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S768x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S480x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S768x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x768 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S480x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== RefInprojIdeal.lean ====
abbrev S32768x1024 : Shape := ⟨2, ![32768, 1024]⟩
abbrev S1024x2016 : Shape := ⟨2, ![1024, 2016]⟩
abbrev S192 : Shape := ⟨1, ![192]⟩
abbrev S192x576 : Shape := ⟨2, ![192, 576]⟩
abbrev S128 : Shape := ⟨1, ![128]⟩
abbrev S128x768 : Shape := ⟨2, ![128, 768]⟩
abbrev S256 : Shape := ⟨1, ![256]⟩
abbrev S4x128x128 : Shape := ⟨3, ![4, 128, 128]⟩
abbrev S4x128 : Shape := ⟨2, ![4, 128]⟩
abbrev S16384x16 : Shape := ⟨2, ![16384, 16]⟩
abbrev S32768x2016 : Shape := ⟨2, ![32768, 2016]⟩
abbrev S32768x384 : Shape := ⟨2, ![32768, 384]⟩
abbrev S_ : Shape := ⟨0, ![]⟩
abbrev S32768x3x2x64 : Shape := ⟨4, ![32768, 3, 2, 64]⟩
abbrev S32768x3x64 : Shape := ⟨3, ![32768, 3, 64]⟩
abbrev S32768x3x1x64 : Shape := ⟨4, ![32768, 3, 1, 64]⟩
abbrev S32768x3x256 : Shape := ⟨3, ![32768, 3, 256]⟩
abbrev S32768x768 : Shape := ⟨2, ![32768, 768]⟩
abbrev S768x32768 : Shape := ⟨2, ![768, 32768]⟩
abbrev S32768x6x64 : Shape := ⟨3, ![32768, 6, 64]⟩
abbrev S32768x192 : Shape := ⟨2, ![32768, 192]⟩
abbrev S32768 : Shape := ⟨1, ![32768]⟩
abbrev S32768x1 : Shape := ⟨2, ![32768, 1]⟩
abbrev S1x192 : Shape := ⟨2, ![1, 192]⟩
abbrev S32768x576 : Shape := ⟨2, ![32768, 576]⟩
abbrev S32768x6x96 : Shape := ⟨3, ![32768, 6, 96]⟩
abbrev S32768x16 : Shape := ⟨2, ![32768, 16]⟩
abbrev S32768x6x32 : Shape := ⟨3, ![32768, 6, 32]⟩
abbrev S32768x1x16 : Shape := ⟨3, ![32768, 1, 16]⟩
abbrev S32768x6x16 : Shape := ⟨3, ![32768, 6, 16]⟩
abbrev S32768x128 : Shape := ⟨2, ![32768, 128]⟩
abbrev S1x128 : Shape := ⟨2, ![1, 128]⟩
abbrev S32768x6x128 : Shape := ⟨3, ![32768, 6, 128]⟩
abbrev S32768x32 : Shape := ⟨2, ![32768, 32]⟩
abbrev S32768x1x32 : Shape := ⟨3, ![32768, 1, 32]⟩
abbrev S32768x512 : Shape := ⟨2, ![32768, 512]⟩
abbrev S32768x256 : Shape := ⟨2, ![32768, 256]⟩
abbrev S1x256 : Shape := ⟨2, ![1, 256]⟩
abbrev S256x128x4x64 : Shape := ⟨4, ![256, 128, 4, 64]⟩
abbrev S4x256x64x128 : Shape := ⟨4, ![4, 256, 64, 128]⟩
abbrev S128x4 : Shape := ⟨2, ![128, 4]⟩
abbrev S1x128x4x1 : Shape := ⟨4, ![1, 128, 4, 1]⟩
abbrev S32768x6x1 : Shape := ⟨3, ![32768, 6, 1]⟩
abbrev S32768x6x15 : Shape := ⟨3, ![32768, 6, 15]⟩
abbrev S32768x6x80 : Shape := ⟨3, ![32768, 6, 80]⟩
abbrev S32768x480 : Shape := ⟨2, ![32768, 480]⟩
abbrev S480x32768 : Shape := ⟨2, ![480, 32768]⟩

abbrev nBuf : Space → Nat
  | .hbm => 211
  | .vmem => 0
  | .smem => 0
  | _ => 0

abbrev hbmTy0_0 (i : Nat) : BufTy := match i % 128 with
  | 0 => ⟨S32768x1024, .f32⟩
  | 1 => ⟨S1024x2016, .f32⟩
  | 2 => ⟨S192, .f32⟩
  | 3 => ⟨S192x576, .f32⟩
  | 4 => ⟨S128, .f32⟩
  | 5 => ⟨S128x768, .f32⟩
  | 6 => ⟨S256, .f32⟩
  | 7 => ⟨S256, .f32⟩
  | 8 => ⟨S4x128x128, .f32⟩
  | 9 => ⟨S4x128, .f32⟩
  | 10 => ⟨S256, .f32⟩
  | 11 => ⟨S16384x16, .f32⟩
  | 12 => ⟨S16384x16, .f32⟩
  | 13 => ⟨S32768x2016, .f32⟩
  | 14 => ⟨S32768x384, .f32⟩
  | 15 => ⟨S_, .f32⟩
  | 16 => ⟨S32768x384, .f32⟩
  | 17 => ⟨S32768x384, .f32⟩
  | 18 => ⟨S32768x3x2x64, .f32⟩
  | 19 => ⟨S_, .f32⟩
  | 20 => ⟨S32768x3x64, .f32⟩
  | 21 => ⟨S32768x3x1x64, .f32⟩
  | 22 => ⟨S32768x3x64, .f32⟩
  | 23 => ⟨S32768x3x1x64, .f32⟩
  | 24 => ⟨S32768x3x64, .f32⟩
  | 25 => ⟨S32768x3x256, .f32⟩
  | 26 => ⟨S32768x768, .f32⟩
  | 27 => ⟨S768x32768, .f32⟩
  | 28 => ⟨S32768x384, .f32⟩
  | 29 => ⟨S32768x384, .f32⟩
  | 30 => ⟨S32768x6x64, .f32⟩
  | 31 => ⟨S32768x192, .f32⟩
  | 32 => ⟨S32768x192, .f32⟩
  | 33 => ⟨S_, .f32⟩
  | 34 => ⟨S32768, .f32⟩
  | 35 => ⟨S32768x1, .f32⟩
  | 36 => ⟨S_, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S32768x1, .f32⟩
  | 43 => ⟨S32768x192, .f32⟩
  | 44 => ⟨S32768x192, .f32⟩
  | 45 => ⟨S1x192, .f32⟩
  | 46 => ⟨S32768x192, .f32⟩
  | 47 => ⟨S32768x192, .f32⟩
  | 48 => ⟨S32768x576, .f32⟩
  | 49 => ⟨S32768x6x96, .f32⟩
  | 50 => ⟨S32768x16, .f32⟩
  | 51 => ⟨S32768x16, .f32⟩
  | 52 => ⟨S32768x6x32, .f32⟩
  | 53 => ⟨S32768x1x16, .f32⟩
  | 54 => ⟨S32768x1x16, .f32⟩
  | 55 => ⟨S32768x6x16, .f32⟩
  | 56 => ⟨S32768x6x16, .f32⟩
  | 57 => ⟨S32768x6x16, .f32⟩
  | 58 => ⟨S32768x6x16, .f32⟩
  | 59 => ⟨S32768x6x16, .f32⟩
  | 60 => ⟨S32768x6x16, .f32⟩
  | 61 => ⟨S32768x6x16, .f32⟩
  | 62 => ⟨S32768x6x16, .f32⟩
  | 63 => ⟨S32768x6x16, .f32⟩
  | 64 => ⟨S32768x6x16, .f32⟩
  | 65 => ⟨S32768x6x16, .f32⟩
  | 66 => ⟨S32768x6x16, .f32⟩
  | 67 => ⟨S32768x6x32, .f32⟩
  | 68 => ⟨S32768x128, .f32⟩
  | 69 => ⟨S32768x128, .f32⟩
  | 70 => ⟨S_, .f32⟩
  | 71 => ⟨S32768, .f32⟩
  | 72 => ⟨S32768x1, .f32⟩
  | 73 => ⟨S_, .f32⟩
  | 74 => ⟨S32768x1, .f32⟩
  | 75 => ⟨S32768x1, .f32⟩
  | 76 => ⟨S_, .f32⟩
  | 77 => ⟨S32768x1, .f32⟩
  | 78 => ⟨S32768x1, .f32⟩
  | 79 => ⟨S32768x1, .f32⟩
  | 80 => ⟨S32768x128, .f32⟩
  | 81 => ⟨S32768x128, .f32⟩
  | 82 => ⟨S1x128, .f32⟩
  | 83 => ⟨S32768x128, .f32⟩
  | 84 => ⟨S32768x128, .f32⟩
  | 85 => ⟨S32768x768, .f32⟩
  | 86 => ⟨S32768x6x128, .f32⟩
  | 87 => ⟨S32768x32, .f32⟩
  | 88 => ⟨S32768x16, .f32⟩
  | 89 => ⟨S32768x16, .f32⟩
  | 90 => ⟨S32768x16, .f32⟩
  | 91 => ⟨S32768x16, .f32⟩
  | 92 => ⟨S32768x16, .f32⟩
  | 93 => ⟨S32768x16, .f32⟩
  | 94 => ⟨S32768x16, .f32⟩
  | 95 => ⟨S32768x16, .f32⟩
  | 96 => ⟨S32768x32, .f32⟩
  | 97 => ⟨S32768x6x64, .f32⟩
  | 98 => ⟨S32768x6x96, .f32⟩
  | 99 => ⟨S_, .f32⟩
  | 100 => ⟨S32768x6x96, .f32⟩
  | 101 => ⟨S32768x6x96, .f32⟩
  | 102 => ⟨S32768x6x64, .f32⟩
  | 103 => ⟨S32768x1x32, .f32⟩
  | 104 => ⟨S32768x6x32, .f32⟩
  | 105 => ⟨S32768x6x96, .f32⟩
  | 106 => ⟨S32768x512, .f32⟩
  | 107 => ⟨S32768x512, .f32⟩
  | 108 => ⟨S32768x512, .f32⟩
  | 109 => ⟨S_, .f32⟩
  | 110 => ⟨S32768x512, .f32⟩
  | 111 => ⟨S32768x512, .f32⟩
  | 112 => ⟨S32768x512, .f32⟩
  | 113 => ⟨S_, .f32⟩
  | 114 => ⟨S32768x512, .f32⟩
  | 115 => ⟨S32768x512, .f32⟩
  | 116 => ⟨S32768x512, .f32⟩
  | 117 => ⟨S_, .f32⟩
  | 118 => ⟨S32768x512, .f32⟩
  | 119 => ⟨S32768x512, .f32⟩
  | 120 => ⟨S_, .f32⟩
  | 121 => ⟨S32768x512, .f32⟩
  | 122 => ⟨S32768x512, .f32⟩
  | 123 => ⟨S32768x512, .f32⟩
  | 124 => ⟨S32768x256, .f32⟩
  | 125 => ⟨S32768x256, .f32⟩
  | 126 => ⟨S_, .f32⟩
  | 127 => ⟨S32768, .f32⟩
  | _ => ⟨S32768x1024, .f32⟩

abbrev hbmTy0_1 (i : Nat) : BufTy := match i % 128 with
  | 0 => ⟨S32768x1, .f32⟩
  | 1 => ⟨S_, .f32⟩
  | 2 => ⟨S32768x1, .f32⟩
  | 3 => ⟨S32768x1, .f32⟩
  | 4 => ⟨S32768x256, .f32⟩
  | 5 => ⟨S32768x256, .f32⟩
  | 6 => ⟨S32768x256, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S32768x256, .f32⟩
  | 14 => ⟨S32768x256, .f32⟩
  | 15 => ⟨S_, .f32⟩
  | 16 => ⟨S32768x1, .f32⟩
  | 17 => ⟨S32768x1, .f32⟩
  | 18 => ⟨S32768x1, .f32⟩
  | 19 => ⟨S32768x256, .f32⟩
  | 20 => ⟨S32768x256, .f32⟩
  | 21 => ⟨S1x256, .f32⟩
  | 22 => ⟨S32768x256, .f32⟩
  | 23 => ⟨S32768x256, .f32⟩
  | 24 => ⟨S1x256, .f32⟩
  | 25 => ⟨S32768x256, .f32⟩
  | 26 => ⟨S32768x256, .f32⟩
  | 27 => ⟨S256x128x4x64, .f32⟩
  | 28 => ⟨S4x256x64x128, .f32⟩
  | 29 => ⟨S256x128x4x64, .f32⟩
  | 30 => ⟨S128x4, .f32⟩
  | 31 => ⟨S1x128x4x1, .f32⟩
  | 32 => ⟨S256x128x4x64, .f32⟩
  | 33 => ⟨S256x128x4x64, .f32⟩
  | 34 => ⟨S32768x256, .f32⟩
  | 35 => ⟨S32768x256, .f32⟩
  | 36 => ⟨S32768x256, .f32⟩
  | 37 => ⟨S_, .f32⟩
  | 38 => ⟨S32768, .f32⟩
  | 39 => ⟨S32768x1, .f32⟩
  | 40 => ⟨S_, .f32⟩
  | 41 => ⟨S32768x1, .f32⟩
  | 42 => ⟨S32768x1, .f32⟩
  | 43 => ⟨S_, .f32⟩
  | 44 => ⟨S32768x1, .f32⟩
  | 45 => ⟨S32768x1, .f32⟩
  | 46 => ⟨S32768x1, .f32⟩
  | 47 => ⟨S32768x256, .f32⟩
  | 48 => ⟨S32768x256, .f32⟩
  | 49 => ⟨S1x256, .f32⟩
  | 50 => ⟨S32768x256, .f32⟩
  | 51 => ⟨S32768x256, .f32⟩
  | 52 => ⟨S768x32768, .bf16⟩
  | 53 => ⟨S32768x384, .bf16⟩
  | 54 => ⟨S_, .f32⟩
  | 55 => ⟨S32768x6x1, .f32⟩
  | 56 => ⟨S_, .f32⟩
  | 57 => ⟨S32768x6x15, .f32⟩
  | 58 => ⟨S32768x6x80, .f32⟩
  | 59 => ⟨S32768x480, .f32⟩
  | 60 => ⟨S480x32768, .f32⟩
  | 61 => ⟨S480x32768, .bf16⟩
  | 62 => ⟨S_, .f32⟩
  | 63 => ⟨S32768x6x32, .f32⟩
  | 64 => ⟨S32768x6x128, .f32⟩
  | 65 => ⟨S32768x768, .f32⟩
  | 66 => ⟨S768x32768, .f32⟩
  | 67 => ⟨S768x32768, .bf16⟩
  | 68 => ⟨S_, .f32⟩
  | 69 => ⟨S32768x6x32, .f32⟩
  | 70 => ⟨S32768x6x128, .f32⟩
  | 71 => ⟨S32768x768, .f32⟩
  | 72 => ⟨S32768x768, .bf16⟩
  | 73 => ⟨S32768x6x64, .f32⟩
  | 74 => ⟨S_, .f32⟩
  | 75 => ⟨S32768x6x1, .f32⟩
  | 76 => ⟨S_, .f32⟩
  | 77 => ⟨S32768x6x15, .f32⟩
  | 78 => ⟨S32768x6x80, .f32⟩
  | 79 => ⟨S32768x480, .f32⟩
  | 80 => ⟨S480x32768, .f32⟩
  | 81 => ⟨S480x32768, .bf16⟩
  | 82 => ⟨S32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_4 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_7 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_8 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_9 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_10 : Ref sig .tc := ⟨.hbm, 117, rfl⟩
abbrev main_v93 : Ref sig .tc := ⟨.hbm, 118, rfl⟩
abbrev main_v94 : Ref sig .tc := ⟨.hbm, 119, rfl⟩
abbrev main_cst_11 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_12 : Ref sig .tc := ⟨.hbm, 126, rfl⟩
abbrev main_v100 : Ref sig .tc := ⟨.hbm, 127, rfl⟩
abbrev main_v101 : Ref sig .tc := ⟨.hbm, 128, rfl⟩
abbrev main_cst_13 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_14 : Ref sig .tc := ⟨.hbm, 135, rfl⟩
abbrev main_v107 : Ref sig .tc := ⟨.hbm, 136, rfl⟩
abbrev main_v108 : Ref sig .tc := ⟨.hbm, 137, rfl⟩
abbrev main_cst_15 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_16 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_17 : Ref sig .tc := ⟨.hbm, 165, rfl⟩
abbrev main_v134 : Ref sig .tc := ⟨.hbm, 166, rfl⟩
abbrev main_v135 : Ref sig .tc := ⟨.hbm, 167, rfl⟩
abbrev main_cst_18 : Ref sig .tc := ⟨.hbm, 168, rfl⟩
abbrev main_v136 : Ref sig .tc := ⟨.hbm, 169, rfl⟩
abbrev main_v137 : Ref sig .tc := ⟨.hbm, 170, rfl⟩
abbrev main_cst_19 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_20 : Ref sig .tc := ⟨.hbm, 182, rfl⟩
abbrev main_v148 : Ref sig .tc := ⟨.hbm, 183, rfl⟩
abbrev main_cst_21 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_cst_22 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_23 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_24 : Ref sig .tc := ⟨.hbm, 202, rfl⟩
abbrev main_v164 : Ref sig .tc := ⟨.hbm, 203, rfl⟩
abbrev main_cst_25 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩

abbrev nD : Nat := 1
abbrev τ : Topo := Topo.v7x

variable {F : FTy → Type} [FloatOps F]
-- ==== Proof.Step.lean ====
/-
  One key tile of the streamed attention as a program of its own.

  The printed loop body is 32 such tiles in a row; here a tile is written once, with the eight column pieces of the
  query block as a parameter, so that everything about it is proved once.  The two score slots are used in turn: a
  tile reads the scores of slot `cur` and writes those of the following tile to slot `nxt`.
-/
module

public import Idealize.ShloMosaic.Lib.Pipeline
public import Idealize.ShloMosaic.Lib.Scf
public import Idealize.ShloMosaic.Lib.Sig
public import Idealize.ShloMosaic.PureOps

@[expose] public section

noncomputable section

namespace Cert.Proof.Mla

open Idealize.ShloMosaic Idealize.SL.Sem

/-! ## Shapes -/

/-- the query block of a tile: 128 channels by 2048 queries -/
abbrev SQ : Shape := ⟨2, ![128, 2048]⟩
/-- 256 queries of it -/
abbrev SQc : Shape := ⟨2, ![128, 256]⟩
/-- all keys of a head, and one tile of them -/
abbrev SKs : Shape := ⟨2, ![16384, 128]⟩
abbrev SK : Shape := ⟨2, ![256, 128]⟩
/-- all values of a head (rows) and one tile of them -/
abbrev SVs : Shape := ⟨2, ![80, 16384]⟩
abbrev SV : Shape := ⟨2, ![80, 256]⟩
/-- the accumulator and one column piece of it -/
abbrev SA : Shape := ⟨2, ![80, 2048]⟩
abbrev SAc : Shape := ⟨2, ![80, 256]⟩
/-- the two score slots, and a column piece of one -/
abbrev SS : Shape := ⟨3, ![2, 256, 2048]⟩
abbrev SSc : Shape := ⟨3, ![1, 256, 256]⟩
/-- a column piece of one slot's scores -/
abbrev SC : Shape := ⟨2, ![256, 256]⟩
/-- a row per query, and a column piece of it -/
abbrev SM : Shape := ⟨2, ![1, 2048]⟩
abbrev SMc : Shape := ⟨2, ![1, 256]⟩
abbrev S1c : Shape := ⟨1, ![256]⟩

/-! ## The facts the operations ask for -/

/-- the offsets of column piece `n` in the accumulator, and of that piece of a score slot -/
abbrev offA (n : Fin 8) : Fin 2 → Nat := ![0, 256 * n.val]
abbrev offS (slot : Fin 2) (n : Fin 8) : Fin 3 → Nat := ![slot.val, 0, 256 * n.val]

theorem inbA : ∀ (n : Fin 8) (a), offA n a + SAc.size a ≤ SA.size a := by decide
theorem inbS : ∀ (s : Fin 2) (n : Fin 8) (a), offS s n a + SSc.size a ≤ SS.size a := by decide
theorem sliceQ : ∀ n : Fin 8, SQ.Slices (offA n) SQc := by decide
theorem sliceM : ∀ n : Fin 8, SM.Slices (offA n) SMc := by decide
theorem wfS : DotDims.WF SK SQc SC [1] [0] [0] [1] [] [] := by decide
theorem wfA : DotDims.WF SV SC SAc [1] [0] [0] [1] [] [] := by decide

/-- the contraction of the scores: keys by queries over the channels -/
abbrev dotS : DotDims SK SQc SC where
  lhsContracting := [1]
  rhsContracting := [0]
  lhsNonContracting := [0]
  rhsNonContracting := [1]
  lhsBatch := []
  rhsBatch := []
  wf := wfS
/-- the contraction of the values with the weights -/
abbrev dotA : DotDims SV SC SAc where
  lhsContracting := [1]
  rhsContracting := [0]
  lhsNonContracting := [0]
  rhsNonContracting := [1]
  lhsBatch := []
  rhsBatch := []
  wf := wfA

theorem posSSc : 0 < SSc.numel := by decide
theorem posSAc : 0 < SAc.numel := by decide
theorem posSK : 0 < SK.numel := by decide
theorem posSV : 0 < SV.numel := by decide
theorem castC : SC.ShapeCasts SSc := by decide
theorem castC' : SSc.ShapeCasts SC := by decide
theorem castA : SAc.ShapeCasts SAc := by decide
theorem castM : S1c.ShapeCasts SMc := by decide
theorem redC : SC.Reduces [0] S1c := by decide
theorem bcC : SMc.Broadcasts SC := by decide
theorem bcA : SMc.Broadcasts SAc := by decide
theorem catM : Shape.Concatenates [SMc, SMc, SMc, SMc, SMc, SMc, SMc, SMc] SM 1 := by decide
theorem bitsBF : FTy.bits .bf16 < FTy.bits .f32 := by decide

/-! ## The values -/

variable {F : FTy → Type} [FloatOps F]

/-- the scores of one key tile against 256 queries -/
def score (k : Vec F SK .bf16) (q : Vec F SQ .bf16) (n : Fin 8) : FVec F SC .f32 :=
  matmul dotS none k (extractStridedSlice SQc (offA n) q (sliceQ n)) (constant SC .f32 0x00000000#32)

/-- their maximum, a value per query -/
def scoreMax (k : Vec F SK .bf16) (q : Vec F SQ .bf16) (n : Fin 8) : FVec F SMc .f32 :=
  shapeCast SMc (multiReduction .maximumf [0] S1c (score k q n) 0xFF800000#32 redC (.inl rfl) rfl) castM

/-- the maxima of a whole key tile -/
def tileMax (k : Vec F SK .bf16) (q : Vec F SQ .bf16) : FVec F SM .f32 :=
  concatenate SM 1 [⟨SMc, scoreMax k q 0⟩, ⟨SMc, scoreMax k q 1⟩, ⟨SMc, scoreMax k q 2⟩, ⟨SMc, scoreMax k q 3⟩,
    ⟨SMc, scoreMax k q 4⟩, ⟨SMc, scoreMax k q 5⟩, ⟨SMc, scoreMax k q 6⟩, ⟨SMc, scoreMax k q 7⟩] catM

/-- the running maximum after a tile -/
def newMax (mp mt : FVec F SM .f32) : FVec F SM .f32 := maximumf mp mt
/-- the factor the accumulator is scaled by -/
def scaleOf (mp mt : FVec F SM .f32) : FVec F SM .f32 := exp2 (subf mp (newMax mp mt))

/-- the weights of one column piece from its scores -/
def weights (mn : FVec F SM .f32) (s : Vec F SSc .f32) (n : Fin 8) : FVec F SC .bf16 :=
  truncf .bf16 (exp2 (subf (shapeCast SC s castC') (broadcastTo SC (extractStridedSlice SMc (offA n) mn (sliceM n)) bcC))) bitsBF

/-- the accumulator's column piece after the tile -/
def accNext (mn al : FVec F SM .f32) (v : Vec F SV .bf16) (s : Vec F SSc .f32) (a : Vec F SAc .f32) (n : Fin 8) : FVec F SAc .f32 :=
  shapeCast SAc (addf (mulf a (broadcastTo SAc (extractStridedSlice SMc (offA n) al (sliceM n)) bcA))
    (matmul dotA none v (weights mn s n) (constant SAc .f32 0x00000000#32))) castA

/-! ## The programs -/

variable {nD : Nat} {τ : Topo} {sig : RefSig} {Λ : Labels}

/-- One column piece: the next tile's scores go to slot `nxt`, those of slot `cur` into the accumulator. -/
def colProg (acc : Memref sig .tc .vmem SA .f32) (sc : Memref sig .tc .vmem SS .f32) (cur nxt : Fin 2) (n : Fin 8)
    (q : Vec F SQ .bf16) (k : Vec F SK .bf16) (v : Vec F SV .bf16) (mn al : FVec F SM .f32) :
    Prog (TpuEff nD τ sig (Elt F) Λ .tc) PUnit := do
  let _ : Vec F SSc .f32 ← Prog.lift (.load sc (Rect.unit (s := SS) (offS nxt n) SSc.size (inbS nxt n)).toLoadRect (View.loadsAt_vmem posSSc))
  Prog.lift (.store sc (Rect.unit (s := SS) (offS nxt n) SSc.size (inbS nxt n)) (shapeCast SSc (score k q n) castC) Finset.univ (View.stores_vmem_bits_univ posSSc rfl) (.inl rfl))
  let s : Vec F SSc .f32 ← Prog.lift (.load sc (Rect.unit (s := SS) (offS cur n) SSc.size (inbS cur n)).toLoadRect (View.loadsAt_vmem posSSc))
  let a : Vec F SAc .f32 ← Prog.lift (.load acc (Rect.unit (s := SA) (offA n) SAc.size (inbA n)).toLoadRect (View.loadsAt_vmem posSAc))
  let _ : Vec F SAc .f32 ← Prog.lift (.load acc (Rect.unit (s := SA) (offA n) SAc.size (inbA n)).toLoadRect (View.loadsAt_vmem posSAc))
  Prog.lift (.store acc (Rect.unit (s := SA) (offA n) SAc.size (inbA n)) (accNext mn al v s a n) Finset.univ (View.stores_vmem_bits_univ posSAc rfl) (.inl rfl))

/-- A list of column pieces in order. -/
def colsProg (acc : Memref sig .tc .vmem SA .f32) (sc : Memref sig .tc .vmem SS .f32) (cur nxt : Fin 2)
    (q : Vec F SQ .bf16) (k : Vec F SK .bf16) (v : Vec F SV .bf16) (mn al : FVec F SM .f32) :
    List (Fin 8) → Prog (TpuEff nD τ sig (Elt F) Λ .tc) PUnit
  | [] => pure ⟨⟩
  | n :: ns => do
    colProg acc sc cur nxt n q k v mn al
    colsProg acc sc cur nxt q k v mn al ns

/-- One key tile: the following tile's keys and this tile's values are read at the offsets given. -/
def tileProg (ks : Memref sig .tc .vmem SKs .bf16) (vs : Memref sig .tc .vmem SVs .bf16)
    (acc : Memref sig .tc .vmem SA .f32) (sc : Memref sig .tc .vmem SS .f32) (cur nxt : Fin 2)
    (oK oV : Fin 2 → Nat) (hK : ∀ a, oK a + SK.size a ≤ SKs.size a) (hV : ∀ a, oV a + SV.size a ≤ SVs.size a)
    (q : Vec F SQ .bf16) (m : FVec F SM .f32 × FVec F SM .f32) :
    Prog (TpuEff nD τ sig (Elt F) Λ .tc) (FVec F SM .f32 × FVec F SM .f32) := do
  let k : Vec F SK .bf16 ← Prog.lift (.load ks (Rect.unit (s := SKs) oK SK.size hK).toLoadRect (View.loadsAt_vmem posSK))
  let v : Vec F SV .bf16 ← Prog.lift (.load vs (Rect.unit (s := SVs) oV SV.size hV).toLoadRect (View.loadsAt_vmem posSV))
  colsProg acc sc cur nxt q k v (newMax m.1 m.2) (scaleOf m.1 m.2) [0, 1, 2, 3, 4, 5, 6, 7]
  pure (newMax m.1 m.2, tileMax k q)

/-- Two key tiles, the score slots in turn; a list of such pairs in order. -/
def pairsProg (ks : Memref sig .tc .vmem SKs .bf16) (vs : Memref sig .tc .vmem SVs .bf16)
    (acc : Memref sig .tc .vmem SA .f32) (sc : Memref sig .tc .vmem SS .f32)
    (oK oV : Fin 32 → Fin 2 → Nat) (hK : ∀ u a, oK u a + SK.size a ≤ SKs.size a) (hV : ∀ u a, oV u a + SV.size a ≤ SVs.size a)
    (q : Vec F SQ .bf16) :
    List (Fin 16) → FVec F SM .f32 × FVec F SM .f32 →
      Prog (TpuEff nD τ sig (Elt F) Λ .tc) (FVec F SM .f32 × FVec F SM .f32)
  | [], m => pure m
  | p :: ps, m => do
    let m₁ ← tileProg ks vs acc sc 0 1 (oK ⟨2 * p.val, by omega⟩) (oV ⟨2 * p.val, by omega⟩) (hK _) (hV _) q m
    let m₂ ← tileProg ks vs acc sc 1 0 (oK ⟨2 * p.val + 1, by omega⟩) (oV ⟨2 * p.val + 1, by omega⟩) (hK _) (hV _) q m₁
    pairsProg ks vs acc sc oK oV hK hV q ps m₂

/-- The 16 pairs of one trip. -/
abbrev pairs16 : List (Fin 16) := [0, 1, 2, 3, 4, 5, 6, 7, 8, 9, 10, 11, 12, 13, 14, 15]

end Cert.Proof.Mla

end
-- ==== Proof.Rules.lean ====
/-
  Loads and stores of a memref held by what is read through it.

  A memref is held as `owns`: its elements, with the array `X` read through it.  A load at a rectangle gives `X` at the
  rectangle's indices; an unmasked store gives back the memref with `X` replaced there (`put`).  With these two rules a
  kernel body is followed as a function of arrays, whatever buffers its memrefs are windows of.
-/
module

public import Idealize.ShloMosaic.Lib.Tactic
public import Idealize.ShloMosaic.Lib.Pipeline.Kit

@[expose] public section

noncomputable section

namespace Cert.Proof.Mla

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- `X` with the elements under the rectangle replaced by `w`. -/
def put {α : Type} {s : Shape} (r : Rect s) (w : r.shape.Idx → α) (X : s.Idx → α) : s.Idx → α :=
  fun i => match preimage? r.emb i with
    | some x => w x
    | none => X i

theorem put_emb {α : Type} {s : Shape} (r : Rect s) (w : r.shape.Idx → α) (X : s.Idx → α) (x : r.shape.Idx) :
    put r w X (r.emb x) = w x := by
  unfold put; rw [preimage?_emb]

theorem put_out {α : Type} {s : Shape} (r : Rect s) (w : r.shape.Idx → α) (X : s.Idx → α) (i : s.Idx)
    (h : ∀ x, r.emb x ≠ i) : put r w X i = X i := by
  unfold put; rw [preimage?_eq_none h]

variable {nD : Nat} {τ : Topo} {sig : RefSig} {Val : EltTy → Type} {Λ : Labels} {U : Type} [URA U]

local notation "𝕄" => MT nD τ sig Unit Val ℕ U ℕ

variable {defs : Defs nD τ sig Val Λ} {𝒱 : Variants} {c : Dev nD} {bd : Option 𝒱.V} {E : Set ℕ}
variable {s : Shape} {e : EltTy} {α : Type}

theorem owns_load {m : Memref sig .tc .vmem s e} {r : Rect s} {hl : m.view.LoadsAt r.toLoadRect}
    {k : (r.shape.Idx → Val e) → Prog (TpuEff nD τ sig Val Λ .tc) α} {X : s.Idx → Val e} {Q : α → sProp 𝕄} :
    (owns (c : Thread nD τ) m fullShare X : sProp 𝕄)
      ⊢ iprop((owns (c : Thread nD τ) m fullShare X -∗ wp frame (wpE defs 𝒱 (c : Thread nD τ) bd) E (k (fun x => X (r.emb x))) Q)
        -∗ wp frame (wpE defs 𝒱 (c : Thread nD τ) bd) E (Prog.lift (.load m r.toLoadRect hl) >>= k) Q) := by
  unfold owns
  iintro ⟨%f, %hf, H⟩ HK
  subst hf
  iapply (wp_load 𝒱 (c : Thread nD τ) bd E (m := m) (r := r.toLoadRect) (hl := hl) (k := k) (Q := Q) (q := fullShare) (f := f) (S := m.view.set) (m.view.setOn_subset_set r.toLoadRect.set)) $$ H
  iintro H
  iapply HK
  iexists f
  isplitr
  · ipureintro; rfl
  iexact H

theorem owns_store {m : Memref sig .tc .vmem s e} {r : Rect s} {w : r.shape.Idx → Val e}
    {hx : (m.access r).Stores Finset.univ} {hm : Finset.univ = Finset.univ ∨ ∀ a, r.stride a = 1}
    {k : PUnit → Prog (TpuEff nD τ sig Val Λ .tc) α} {X : s.Idx → Val e} {Q : α → sProp 𝕄} :
    (owns (c : Thread nD τ) m fullShare X : sProp 𝕄)
      ⊢ iprop((owns (c : Thread nD τ) m fullShare (put r w X) -∗ wp frame (wpE defs 𝒱 (c : Thread nD τ) bd) E (k ⟨⟩) Q)
        -∗ wp frame (wpE defs 𝒱 (c : Thread nD τ) bd) E (Prog.lift (.store m r w Finset.univ hx hm) >>= k) Q) := by
  unfold owns
  iintro ⟨%f, %hf, H⟩ HK
  subst hf
  iapply (wp_store 𝒱 (c : Thread nD τ) bd E (m := m) (r := r) (w := w) (hx := hx) (hm := hm) (k := k) (Q := Q) (f := f) (S := m.view.set) (m.view.set_slice_subset r)) $$ H
  iintro H
  iapply HK
  iexists _
  isplitr
  swap
  · iexact H
  ipureintro
  funext i
  by_cases h : i ∈ (Finset.univ : Finset r.shape.Idx).map r.emb
  · obtain ⟨x, hx, rfl⟩ := Finset.mem_map.mp h
    rw [put_emb]
    exact View.read_slice_write_emb r f w hx
  · rw [put_out _ _ _ _ fun x hx => h (Finset.mem_map.mpr ⟨x, Finset.mem_univ _, hx⟩)]
    exact View.read_slice_write_of_not_mem r f w _ h

end Cert.Proof.Mla

end
-- ==== Proof.Cols.lean ====
/-
  What the column pieces of a key tile do to the accumulator and to the score slots.

  The accumulator and a score slot are cut into eight column pieces.  A tile runs over the pieces; each piece of the
  accumulator is replaced by `accNext` of itself and of the current slot's piece, and each piece of the other slot by
  the following tile's scores.
-/
module

public import proofs.«01_k».proof.Proof.Step
public import proofs.«01_k».proof.Proof.Rules
public import Idealize.ShloMosaic.Lib.Pointwise

@[expose] public section

set_option maxRecDepth 16384

noncomputable section

namespace Cert.Proof.Mla

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Pieces -/

abbrev rA (n : Fin 8) : Rect SA := Rect.unit (s := SA) (offA n) SAc.size (inbA n)
abbrev rS (t : Fin 2) (n : Fin 8) : Rect SS := Rect.unit (s := SS) (offS t n) SSc.size (inbS t n)

/-- column piece `n` of an accumulator, and of a score slot -/
def pieceA {α : Type} (n : Fin 8) (A : SA.Idx → α) : SAc.Idx → α := fun x => A ((rA n).emb x)
def pieceS {α : Type} (t : Fin 2) (n : Fin 8) (S : SS.Idx → α) : SSc.Idx → α := fun x => S ((rS t n).emb x)

/-- the piece an accumulator index lies in, and its place there -/
def colOf (i : SA.Idx) : Fin 8 := ⟨(i 1).val / 256, by have : (i 1).val < 2048 := (i 1).isLt; omega⟩
def locOf (i : SA.Idx) : SAc.Idx := ix2 (i 0) ⟨(i 1).val % 256, by omega⟩

theorem emb_locOf (i : SA.Idx) : (rA (colOf i)).emb (locOf i) = i := by
  funext a
  apply Fin.ext
  rw [Rect.emb_apply]
  fin_cases a
  · show 0 + 1 * (i 0).val = (i 0).val
    omega
  · show 256 * ((i 1).val / 256) + 1 * ((i 1).val % 256) = (i 1).val
    omega

theorem colOf_emb (n : Fin 8) (x : SAc.Idx) : colOf ((rA n).emb x) = n := by
  apply Fin.ext
  have h1 : (((rA n).emb x) 1).val = 256 * n.val + 1 * (x 1).val := Rect.emb_apply _ _ _
  have h2 : (x 1).val < 256 := (x 1).isLt
  show (((rA n).emb x) 1).val / 256 = n.val
  rw [h1]; omega

theorem put_rA {α : Type} (n : Fin 8) (w : SAc.Idx → α) (A : SA.Idx → α) (i : SA.Idx) :
    put (rA n) w A i = if colOf i = n then w (locOf i) else A i := by
  split
  · next h =>
    have := put_emb (rA n) w A (locOf i)
    rwa [← h, emb_locOf, h] at this
  · next h =>
    exact put_out _ _ _ _ fun x hx => h (by rw [← hx]; exact colOf_emb n x)

theorem pieceA_put_ne {α : Type} {n n' : Fin 8} (h : n' ≠ n) (w : SAc.Idx → α) (A : SA.Idx → α) :
    pieceA n' (put (rA n) w A) = pieceA n' A := by
  funext x
  show put (rA n) w A ((rA n').emb x) = A ((rA n').emb x)
  rw [put_rA, colOf_emb, if_neg h]

theorem pieceS_put_eq {α : Type} (t : Fin 2) (n : Fin 8) (w : SSc.Idx → α) (S : SS.Idx → α) :
    pieceS t n (put (rS t n) w S) = w := by
  unfold pieceS
  simp only [put_emb]

theorem pieceS_put_ne {α : Type} {t t' : Fin 2} {n n' : Fin 8} (h : t' ≠ t ∨ n' ≠ n) (w : SSc.Idx → α) (S : SS.Idx → α) :
    pieceS t' n' (put (rS t n) w S) = pieceS t' n' S := by
  unfold pieceS
  funext x
  rw [put_out]
  intro y hy
  have e0 : 0 + t.val + 1 * (y 0).val = 0 + t'.val + 1 * (x 0).val := by
    have a := congrArg (fun i : SS.Idx => (i 0).val) hy
    have b : (((rS t n).emb y) 0).val = t.val + 1 * (y 0).val := Rect.emb_apply _ _ _
    have b' : (((rS t' n').emb x) 0).val = t'.val + 1 * (x 0).val := Rect.emb_apply _ _ _
    simp only [b, b'] at a
    omega
  have e2 : 256 * n.val + 1 * (y 2).val = 256 * n'.val + 1 * (x 2).val := by
    have a := congrArg (fun i : SS.Idx => (i 2).val) hy
    have b : (((rS t n).emb y) 2).val = 256 * n.val + 1 * (y 2).val := Rect.emb_apply _ _ _
    have b' : (((rS t' n').emb x) 2).val = 256 * n'.val + 1 * (x 2).val := Rect.emb_apply _ _ _
    simp only [b, b'] at a
    exact a
  have y0 : (y 0).val < 1 := (y 0).isLt
  have x0 : (x 0).val < 1 := (x 0).isLt
  have y2 : (y 2).val < 256 := (y 2).isLt
  have x2 : (x 2).val < 256 := (x 2).isLt
  rcases h with h | h
  · exact h (Fin.ext (by omega))
  · exact h (Fin.ext (by omega))

/-! ## The arrays a tile leaves -/

/-- the accumulator after a tile, from the current slot's pieces `C` -/
def accStep (C : Fin 8 → Vec F SSc .f32) (v : Vec F SV .bf16) (mn al : FVec F SM .f32) (A : Vec F SA .f32) : Vec F SA .f32 :=
  fun i => accNext mn al v (C (colOf i)) (pieceA (colOf i) A) (colOf i) (locOf i)

/-- the pieces of the slot a tile fills -/
def slotOf (k : Vec F SK .bf16) (q : Vec F SQ .bf16) (n : Fin 8) : Vec F SSc .f32 := shapeCast SSc (score k q n) castC

/-! ## The programs' rules -/

variable {nD : Nat} {τ : Topo} {sig : RefSig} {Λ : Labels} {U : Type} [URA U]

local notation "𝕄" => MT nD τ sig Unit (Elt F) ℕ U ℕ

variable {defs : Defs nD τ sig (Elt F) Λ} {𝒱 : Variants} {c : Dev nD} {bd : Option 𝒱.V} {E : Set ℕ}

theorem wp_col {α : Type} {Q : α → sProp 𝕄} {acc : Memref sig .tc .vmem SA .f32} {sc : Memref sig .tc .vmem SS .f32}
    {cur nxt : Fin 2} {n : Fin 8} {q : Vec F SQ .bf16} {k : Vec F SK .bf16} {v : Vec F SV .bf16} {mn al : FVec F SM .f32}
    {kk : PUnit → Prog (TpuEff nD τ sig (Elt F) Λ .tc) α} (hne : cur ≠ nxt) (A : Vec F SA .f32) (S : Vec F SS .f32) :
    iprop(owns (c : Thread nD τ) acc fullShare A ∗ owns (c : Thread nD τ) sc fullShare S)
      ⊢ (iprop((owns (c : Thread nD τ) acc fullShare (put (rA n) (accNext mn al v (pieceS cur n S) (pieceA n A) n) A)
            -∗ owns (c : Thread nD τ) sc fullShare (put (rS nxt n) (slotOf k q n) S)
            -∗ wp frame (wpE defs 𝒱 (c : Thread nD τ) bd) E (kk ⟨⟩) Q)
        -∗ wp frame (wpE defs 𝒱 (c : Thread nD τ) bd) E (colProg acc sc cur nxt n q k v mn al >>= kk) Q) : sProp 𝕄) := by
  unfold colProg
  simp only [bind_assoc]
  iintro ⟨HA, HS⟩ HK
  iapply owns_load $$ HS
  iintro HS
  iapply owns_store $$ HS
  iintro HS
  iapply owns_load $$ HS
  iintro HS
  iapply owns_load $$ HA
  iintro HA
  iapply owns_load $$ HA
  iintro HA
  iapply owns_store $$ HA
  iintro HA
  rw [show (fun x => put (rS nxt n) (shapeCast SSc (score k q n) castC) S ((rS cur n).emb x)) = pieceS cur n S from
    pieceS_put_ne (.inl hne) _ _]
  iapply HK $$ [HA] [HS]
  · iexact HA
  · iexact HS

/-- The pieces of a list, one after another. -/
theorem wp_cols {α : Type} {Q : α → sProp 𝕄} {acc : Memref sig .tc .vmem SA .f32} {sc : Memref sig .tc .vmem SS .f32}
    {cur nxt : Fin 2} {q : Vec F SQ .bf16} {k : Vec F SK .bf16} {v : Vec F SV .bf16} {mn al : FVec F SM .f32}
    {kk : PUnit → Prog (TpuEff nD τ sig (Elt F) Λ .tc) α} (hne : cur ≠ nxt) (ns : List (Fin 8)) (hn : ns.Nodup)
    (C : Fin 8 → Vec F SSc .f32) (A : Vec F SA .f32) (S : Vec F SS .f32) (hC : ∀ n, pieceS cur n S = C n) :
    iprop(owns (c : Thread nD τ) acc fullShare A ∗ owns (c : Thread nD τ) sc fullShare S)
      ⊢ (iprop((∀ S' : Vec F SS .f32, ⌜∀ n, pieceS nxt n S' = if n ∈ ns then slotOf k q n else pieceS nxt n S⌝
            -∗ owns (c : Thread nD τ) acc fullShare (fun i => if colOf i ∈ ns then accStep C v mn al A i else A i)
            -∗ owns (c : Thread nD τ) sc fullShare S'
            -∗ wp frame (wpE defs 𝒱 (c : Thread nD τ) bd) E (kk ⟨⟩) Q)
        -∗ wp frame (wpE defs 𝒱 (c : Thread nD τ) bd) E (colsProg acc sc cur nxt q k v mn al ns >>= kk) Q) : sProp 𝕄) := by
  induction ns generalizing A S with
  | nil =>
    iintro ⟨HA, HS⟩ HK
    ihave HK := HK $$ %S
    simp only [List.not_mem_nil, if_false]
    iapply HK $$ [] HA HS
    ipureintro; intro n; trivial
  | cons n ns ih =>
    obtain ⟨hnn, hnd⟩ := List.nodup_cons.mp hn
    unfold colsProg
    simp only [bind_assoc]
    iintro ⟨HA, HS⟩ HK
    iapply (wp_col hne A S) $$ [HA HS]
    · isplitl [HA] <;> iassumption
    iintro HA HS
    iapply (ih hnd (put (rA n) (accNext mn al v (pieceS cur n S) (pieceA n A) n) A) (put (rS nxt n) (slotOf k q n) S)
      (fun n' => (pieceS_put_ne (.inl hne) _ _).trans (hC n'))) $$ [HA HS]
    · isplitl [HA] <;> iassumption
    iintro %S' %hS' HA HS
    ihave HK := HK $$ %S'
    rw [show (fun i => if colOf i ∈ ns then accStep C v mn al (put (rA n) (accNext mn al v (pieceS cur n S) (pieceA n A) n) A) i
          else put (rA n) (accNext mn al v (pieceS cur n S) (pieceA n A) n) A i)
        = (fun i => if colOf i ∈ n :: ns then accStep C v mn al A i else A i) from ?_]
    · iapply HK $$ [] HA HS
      ipureintro
      intro n'
      rw [hS' n']
      by_cases h : n' = n
      · subst h
        rw [if_neg hnn, pieceS_put_eq, if_pos List.mem_cons_self]
      · rw [pieceS_put_ne (.inr h)]
        simp only [List.mem_cons, h, _root_.false_or]
    · funext i
      by_cases h : colOf i = n
      · have h' : colOf i ∉ ns := h ▸ hnn
        rw [if_neg h', put_rA, if_pos h, if_pos (h ▸ List.mem_cons_self), hC n]
        subst h
        rfl
      · by_cases h' : colOf i ∈ ns
        · rw [if_pos h', if_pos (List.mem_cons_of_mem _ h')]
          unfold accStep
          rw [pieceA_put_ne h]
        · rw [if_neg h', put_rA, if_neg h, if_neg]
          simp only [List.mem_cons, h, h', _root_.or_self, not_false_eq_true]

/-! ## Tiles -/

/-- what is carried from tile to tile: the accumulator, the current slot's pieces, and the two maxima -/
structure St (F : FTy → Type) where
  acc : Vec F SA .f32
  slot : Fin 8 → Vec F SSc .f32
  mx : FVec F SM .f32 × FVec F SM .f32

/-- a tile: `v` its values, `k` the following tile's keys -/
def St.step (q : Vec F SQ .bf16) (k : Vec F SK .bf16) (v : Vec F SV .bf16) (s : St F) : St F where
  acc := accStep s.slot v (newMax s.mx.1 s.mx.2) (scaleOf s.mx.1 s.mx.2) s.acc
  slot := slotOf k q
  mx := (newMax s.mx.1 s.mx.2, tileMax k q)

/-- the keys at an offset, and the values -/
def keysAt (o : Fin 2 → Nat) (h : ∀ a, o a + SK.size a ≤ SKs.size a) (X : Vec F SKs .bf16) : Vec F SK .bf16 :=
  fun x => X ((Rect.unit (s := SKs) o SK.size h).emb x)
def valsAt (o : Fin 2 → Nat) (h : ∀ a, o a + SV.size a ≤ SVs.size a) (X : Vec F SVs .bf16) : Vec F SV .bf16 :=
  fun x => X ((Rect.unit (s := SVs) o SV.size h).emb x)

theorem wp_tile {α : Type} {Q : α → sProp 𝕄} {ks : Memref sig .tc .vmem SKs .bf16} {vs : Memref sig .tc .vmem SVs .bf16}
    {acc : Memref sig .tc .vmem SA .f32} {sc : Memref sig .tc .vmem SS .f32}
    {cur nxt : Fin 2} {oK oV : Fin 2 → Nat} {hK : ∀ a, oK a + SK.size a ≤ SKs.size a} {hV : ∀ a, oV a + SV.size a ≤ SVs.size a}
    {q : Vec F SQ .bf16} {kk : FVec F SM .f32 × FVec F SM .f32 → Prog (TpuEff nD τ sig (Elt F) Λ .tc) α} (hne : cur ≠ nxt)
    (K : Vec F SKs .bf16) (V : Vec F SVs .bf16) (s : St F) :
    iprop(owns (c : Thread nD τ) ks fullShare K ∗ owns (c : Thread nD τ) vs fullShare V
        ∗ owns (c : Thread nD τ) acc fullShare s.acc ∗ (∃ S : Vec F SS .f32, ⌜∀ n, pieceS cur n S = s.slot n⌝ ∗ owns (c : Thread nD τ) sc fullShare S))
      ⊢ (iprop((iprop(owns (c : Thread nD τ) ks fullShare K ∗ owns (c : Thread nD τ) vs fullShare V
            ∗ owns (c : Thread nD τ) acc fullShare (s.step q (keysAt oK hK K) (valsAt oV hV V)).acc
            ∗ (∃ S : Vec F SS .f32, ⌜∀ n, pieceS nxt n S = (s.step q (keysAt oK hK K) (valsAt oV hV V)).slot n⌝ ∗ owns (c : Thread nD τ) sc fullShare S))
            -∗ wp frame (wpE defs 𝒱 (c : Thread nD τ) bd) E (kk (s.step q (keysAt oK hK K) (valsAt oV hV V)).mx) Q)
        -∗ wp frame (wpE defs 𝒱 (c : Thread nD τ) bd) E (tileProg ks vs acc sc cur nxt oK oV hK hV q s.mx >>= kk) Q) : sProp 𝕄) := by
  unfold tileProg
  simp only [bind_assoc]
  iintro ⟨HK, HV, HA, %S, %hS, HS⟩ Hk
  iapply owns_load $$ HK
  iintro HK
  iapply owns_load $$ HV
  iintro HV
  iapply (wp_cols hne [0, 1, 2, 3, 4, 5, 6, 7] (by decide) s.slot s.acc S hS) $$ [HA HS]
  · isplitl [HA] <;> iassumption
  iintro %S' %hS' HA HS
  have hall : ∀ n : Fin 8, n ∈ ([0, 1, 2, 3, 4, 5, 6, 7] : List (Fin 8)) := by decide
  simp only [hall, if_true] at hS' ⊢
  rw [pure_bind]
  iapply Hk
  isplitl [HK]; · iexact HK
  isplitl [HV]; · iexact HV
  isplitl [HA]; · iexact HA
  iexists S'
  isplitr
  · ipureintro; exact hS'
  iexact HS

end Cert.Proof.Mla

end
-- ==== Proof.Tile.lean ====
/-
  One query tile, and all of them: the two nested loops of the streamed attention.

  The key loop carries the state `run q K V j` (accumulator, current scores, maxima) from key tile to key tile; the
  query loop fills the result tile by tile, so that in the end it is `mlaOut`.
-/
module

public import proofs.«01_k».proof.Proof.Cols
public import Idealize.ShloMosaic.Lib.Pointwise

@[expose] public section

set_option maxRecDepth 16384

noncomputable section

namespace Cert.Proof.Mla

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Shapes and facts -/

/-- all queries of a head, the result of a head, a query tile of it, a whole tile's scores, and a row of maxima -/
abbrev SQs : Shape := ⟨2, ![128, 16384]⟩
abbrev SO : Shape := ⟨2, ![64, 16384]⟩
abbrev SOt : Shape := ⟨2, ![64, 2048]⟩
abbrev SF : Shape := ⟨2, ![256, 2048]⟩
abbrev SFs : Shape := ⟨3, ![1, 256, 2048]⟩
abbrev SMs : Shape := ⟨1, ![2048]⟩

theorem wfI : DotDims.WF SK SQ SF [1] [0] [0] [1] [] [] := by decide
abbrev dotI : DotDims SK SQ SF where
  lhsContracting := [1]
  rhsContracting := [0]
  lhsNonContracting := [0]
  rhsNonContracting := [1]
  lhsBatch := []
  rhsBatch := []
  wf := wfI

theorem castF : SF.ShapeCasts SFs := by decide
theorem castAA : SA.ShapeCasts SA := by decide
theorem castMs : SMs.ShapeCasts SM := by decide
theorem redF : SF.Reduces [0] SMs := by decide
theorem sliceNum : SA.Slices ![0, 0] SOt := by decide
theorem sliceDen : SA.Slices ![64, 0] SM := by decide
theorem bcO : SM.Broadcasts SOt := by decide
theorem posSQ : 0 < SQ.numel := by decide
theorem posSA : 0 < SA.numel := by decide
theorem posSFs : 0 < SFs.numel := by decide
theorem posSOt : 0 < SOt.numel := by decide
theorem inbA0 : ∀ a, (![0, 0] : Fin 2 → Nat) a + SA.size a ≤ SA.size a := by decide
theorem inbK0 : ∀ a, (![0, 0] : Fin 2 → Nat) a + SK.size a ≤ SKs.size a := by decide
theorem inbS0 : ∀ a, (![0, 0, 0] : Fin 3 → Nat) a + SFs.size a ≤ SS.size a := by decide

/-! ## The values -/

/-- the first key tile's scores for the whole query tile, as the slot takes them, and their maxima -/
def firstScore (k : Vec F SK .bf16) (q : Vec F SQ .bf16) : FVec F SF .f32 := matmul dotI none k q (constant SF .f32 0x00000000#32)
def firstMax (k : Vec F SK .bf16) (q : Vec F SQ .bf16) : FVec F SM .f32 :=
  shapeCast SM (multiReduction .maximumf [0] SMs (firstScore k q) 0xFF800000#32 redF (.inl rfl) rfl) castMs
/-- the accumulator's start -/
def zeroAcc : FVec F SA .f32 := shapeCast SA (broadcast SA (Scalar.ofBits .f32 0x00000000#32)) castAA
/-- the quotient of the accumulated rows by the accumulated weights -/
def quot (A : Vec F SA .f32) : FVec F SOt .f32 :=
  divf (extractStridedSlice SOt ![0, 0] A sliceNum) (broadcastTo SOt (extractStridedSlice SM ![64, 0] A sliceDen) bcO)

/-- the offsets of the key tile read ahead of tile `j`, and of the values of tile `j` -/
abbrev offK (j : Nat) : Fin 2 → Nat := ![256 * min (j + 1) 63, 0]
abbrev offV (j : Nat) : Fin 2 → Nat := ![0, 256 * min j 63]
theorem inbK (j : Nat) (a) : offK j a + SK.size a ≤ SKs.size a := by
  fin_cases a
  · show 256 * min (j + 1) 63 + 256 ≤ 16384; omega
  · show 0 + 128 ≤ 128; omega
theorem inbV (j : Nat) (a) : offV j a + SV.size a ≤ SVs.size a := by
  fin_cases a
  · show 0 + 80 ≤ 80; omega
  · show 256 * min j 63 + 256 ≤ 16384; omega

/-- the column piece `n` of the first tile's scores -/
def firstSlot (w : Vec F SFs .f32) (n : Fin 8) : Vec F SSc .f32 := fun x => w (ix3 0 (x 1) ⟨256 * n.val + (x 2).val, by
  have : (x 2).val < 256 := (x 2).isLt
  show _ < 2048
  omega⟩)

/-- the state before key tile `j` -/
def run (m0 : FVec F SM .f32) (q : Vec F SQ .bf16) (K : Vec F SKs .bf16) (V : Vec F SVs .bf16) : Nat → St F
  | 0 => { acc := zeroAcc, slot := firstSlot (shapeCast SFs (firstScore (keysAt ![0, 0] inbK0 K) q) castF), mx := (m0, firstMax (keysAt ![0, 0] inbK0 K) q) }
  | j + 1 => (run m0 q K V j).step q (keysAt (offK j) (inbK j) K) (valsAt (offV j) (inbV j) V)

/-- the result of one query tile -/
def tileOut (m0 : FVec F SM .f32) (q : Vec F SQ .bf16) (K : Vec F SKs .bf16) (V : Vec F SVs .bf16) : Vec F SOt .f32 :=
  quot (run m0 q K V 64).acc

/-- query tile `t` -/
def qTile (Q : Vec F SQs .bf16) (t : Fin 8) : Vec F SQ .bf16 := fun x => Q (ix2 (x 0) ⟨2048 * t.val + (x 1).val, by
  have : (x 1).val < 2048 := (x 1).isLt
  show _ < 16384
  omega⟩)

/-- the result of a head -/
def mlaOut (m0 : FVec F SM .f32) (Q : Vec F SQs .bf16) (K : Vec F SKs .bf16) (V : Vec F SVs .bf16) : Vec F SO .f32 := fun i =>
  tileOut m0 (qTile Q ⟨(i 1).val / 2048, by have : (i 1).val < 16384 := (i 1).isLt; omega⟩) K V (ix2 (i 0) ⟨(i 1).val % 2048, by show _ < 2048; omega⟩)

/-! ## The programs -/

variable {nD : Nat} {τ : Topo} {sig : RefSig} {Λ : Labels} {U : Type} [URA U]

/-- one query tile; `l` is the key loop -/
def queryProg (l : Scf.Loop 32) (hl : l.OK) (qs : Memref sig .tc .vmem SQs .bf16) (ks : Memref sig .tc .vmem SKs .bf16) (vs : Memref sig .tc .vmem SVs .bf16)
    (os : Memref sig .tc .vmem SO .f32) (acc : Memref sig .tc .vmem SA .f32) (sc : Memref sig .tc .vmem SS .f32)
    (oQ oO : Fin 2 → Nat) (hQ : ∀ a, oQ a + SQ.size a ≤ SQs.size a) (hO : ∀ a, oO a + SOt.size a ≤ SO.size a)
    (m0 : FVec F SM .f32)
    (body : Vec F SQ .bf16 → Fin l.trips → FVec F SM .f32 × FVec F SM .f32 → Prog (TpuEff nD τ sig (Elt F) Λ .tc) (FVec F SM .f32 × FVec F SM .f32)) :
    Prog (TpuEff nD τ sig (Elt F) Λ .tc) Unit := do
  let q : Vec F SQ .bf16 ← Prog.lift (.load qs (Rect.unit (s := SQs) oQ SQ.size hQ).toLoadRect (View.loadsAt_vmem posSQ))
  let _ : Vec F SA .f32 ← Prog.lift (.load acc (Rect.unit (s := SA) ![0, 0] SA.size inbA0).toLoadRect (View.loadsAt_vmem posSA))
  Prog.lift (.store acc (Rect.unit (s := SA) ![0, 0] SA.size inbA0) (zeroAcc (F := F)) Finset.univ (View.stores_vmem_bits_univ posSA rfl) (.inl rfl))
  let k : Vec F SK .bf16 ← Prog.lift (.load ks (Rect.unit (s := SKs) ![0, 0] SK.size inbK0).toLoadRect (View.loadsAt_vmem posSK))
  let _ : Vec F SFs .f32 ← Prog.lift (.load sc (Rect.unit (s := SS) ![0, 0, 0] SFs.size inbS0).toLoadRect (View.loadsAt_vmem posSFs))
  Prog.lift (.store sc (Rect.unit (s := SS) ![0, 0, 0] SFs.size inbS0) (shapeCast SFs (firstScore k q) castF) Finset.univ (View.stores_vmem_bits_univ posSFs rfl) (.inl rfl))
  let _ ← Scf.Loop.for l hl (m0, firstMax k q) (body q)
  let A : Vec F SA .f32 ← Prog.lift (.load acc (Rect.unit (s := SA) ![0, 0] SA.size inbA0).toLoadRect (View.loadsAt_vmem posSA))
  let _ : Vec F SOt .f32 ← Prog.lift (.load os (Rect.unit (s := SO) oO SOt.size hO).toLoadRect (View.loadsAt_vmem posSOt))
  Prog.lift (.store os (Rect.unit (s := SO) oO SOt.size hO) (quot A) Finset.univ (View.stores_vmem_bits_univ posSOt rfl) (.inl rfl))
  pure ()

/-! ## The key loop -/

local notation "𝕄" => MT nD τ sig Unit (Elt F) ℕ U ℕ

variable {defs : Defs nD τ sig (Elt F) Λ} {𝒱 : Variants} {c : Dev nD} {bd : Option 𝒱.V} {E : Set ℕ}

/-- the list is `p, p + 1, …, 15` -/
def Upto : Nat → List (Fin 16) → Prop
  | p, [] => p = 16
  | p, a :: rest => a.val = p ∧ Upto (p + 1) rest

theorem upto16 : Upto 0 pairs16 := by simp [Upto]

/-- what a key tile works on: keys, values, accumulator, scores with the current ones in slot `cur` -/
def held (c : Dev nD) (ks : Memref sig .tc .vmem SKs .bf16) (vs : Memref sig .tc .vmem SVs .bf16)
    (acc : Memref sig .tc .vmem SA .f32) (sc : Memref sig .tc .vmem SS .f32) (K : Vec F SKs .bf16) (V : Vec F SVs .bf16)
    (cur : Fin 2) (s : St F) : sProp 𝕄 :=
  iprop(owns (c : Thread nD τ) ks fullShare K ∗ owns (c : Thread nD τ) vs fullShare V
    ∗ owns (c : Thread nD τ) acc fullShare s.acc ∗ (∃ S : Vec F SS .f32, ⌜∀ n, pieceS cur n S = s.slot n⌝ ∗ owns (c : Thread nD τ) sc fullShare S))

theorem wp_pairs {α : Type} {Q : α → sProp 𝕄} {ks : Memref sig .tc .vmem SKs .bf16} {vs : Memref sig .tc .vmem SVs .bf16}
    {acc : Memref sig .tc .vmem SA .f32} {sc : Memref sig .tc .vmem SS .f32} (t : Nat)
    {oK oV : Fin 32 → Fin 2 → Nat} (hK : ∀ u a, oK u a + SK.size a ≤ SKs.size a) (hV : ∀ u a, oV u a + SV.size a ≤ SVs.size a)
    (eK : oK = fun u => offK (32 * t + u.val)) (eV : oV = fun u => offV (32 * t + u.val))
    (m0 : FVec F SM .f32) (q : Vec F SQ .bf16) (K : Vec F SKs .bf16) (V : Vec F SVs .bf16)
    {kk : FVec F SM .f32 × FVec F SM .f32 → Prog (TpuEff nD τ sig (Elt F) Λ .tc) α} (ps : List (Fin 16)) (p : Nat) (hp : Upto p ps) :
    (held c ks vs acc sc K V 0 (run m0 q K V (32 * t + 2 * p)) : sProp 𝕄)
      ⊢ (iprop((held c ks vs acc sc K V 0 (run m0 q K V (32 * t + 32))
            -∗ wp frame (wpE defs 𝒱 (c : Thread nD τ) bd) E (kk (run m0 q K V (32 * t + 32)).mx) Q)
        -∗ wp frame (wpE defs 𝒱 (c : Thread nD τ) bd) E (pairsProg ks vs acc sc oK oV hK hV q ps (run m0 q K V (32 * t + 2 * p)).mx >>= kk) Q) : sProp 𝕄) := by
  subst eK eV
  induction ps generalizing p with
  | nil =>
    obtain rfl : p = 16 := hp
    iintro H HK
    unfold pairsProg
    rw [pure_bind]
    iapply HK
    iexact H
  | cons a rest ih =>
    obtain ⟨rfl, hp'⟩ := hp
    unfold pairsProg
    simp only [bind_assoc]
    unfold held at ih ⊢
    iintro H HK
    iapply (wp_tile (cur := 0) (nxt := 1) (by decide) K V (run m0 q K V (32 * t + 2 * a.val))) $$ H
    iintro H
    iapply (wp_tile (cur := 1) (nxt := 0) (by decide) K V (run m0 q K V (32 * t + (2 * a.val + 1)))) $$ [H]
    · iexact H
    iintro H
    iapply (ih (a.val + 1) hp') $$ [H]
    · iexact H
    iexact HK

end Cert.Proof.Mla

end
-- ==== Proof.Head.lean ====
/-
  All query tiles of a head: the result memref ends as `mlaOut`.
-/
module

public import proofs.«01_k».proof.Proof.Tile
public import Idealize.ShloMosaic.Lib.Pointwise

@[expose] public section

set_option maxRecDepth 16384

noncomputable section

namespace Cert.Proof.Mla

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {nD : Nat} {τ : Topo} {sig : RefSig} {Λ : Labels} {U : Type} [URA U]

/-! ## Reading back what was written -/

theorem emb_full {s : Shape} (o : Fin s.rank → Nat) (ho : o = fun _ => 0) (h : ∀ a, o a + s.size a ≤ s.size a) (x : s.Idx) :
    (Rect.unit (s := s) o s.size h).emb x = x := by
  subst ho
  funext a
  apply Fin.ext
  rw [Rect.emb_apply]
  show 0 + 1 * (x a).val = (x a).val
  omega

theorem zeros2 : (![0, 0] : Fin 2 → Nat) = fun _ => 0 := by decide

theorem put_accAll {α : Type} (w : SA.Idx → α) (A : SA.Idx → α) : put (Rect.unit (s := SA) ![0, 0] SA.size inbA0) w A = w := by
  funext i
  have := put_emb (Rect.unit (s := SA) ![0, 0] SA.size inbA0) w A i
  rwa [emb_full (s := SA) _ zeros2] at this

theorem get_accAll {α : Type} (A : SA.Idx → α) : (fun x => A ((Rect.unit (s := SA) ![0, 0] SA.size inbA0).emb x)) = A := by
  funext i
  exact congrArg A (emb_full (s := SA) _ zeros2 _ i)

theorem piece_first (w : Vec F SFs .f32) (S : Vec F SS .f32) (n : Fin 8) :
    pieceS 0 n (put (Rect.unit (s := SS) ![0, 0, 0] SFs.size inbS0) w S) = firstSlot w n := by
  unfold pieceS firstSlot
  funext x
  rw [← put_emb (Rect.unit (s := SS) ![0, 0, 0] SFs.size inbS0) w S]
  congr 1
  funext a
  apply Fin.ext
  rw [Rect.emb_apply, Rect.emb_apply]
  have x0 : (x 0).val < 1 := (x 0).isLt
  fin_cases a
  · show 0 + 1 * (x 0).val = 0 + 1 * 0
    omega
  · show 0 + 1 * (x 1).val = 0 + 1 * (x 1).val
    rfl
  · show 256 * n.val + 1 * (x 2).val = 0 + 1 * (256 * n.val + (x 2).val)
    omega

/-- the offset of query tile `t` -/
abbrev offQ (t : Nat) : Fin 2 → Nat := ![0, 2048 * t]

theorem get_qTile (Q : Vec F SQs .bf16) (t : Fin 8) (h : ∀ a, offQ t.val a + SQ.size a ≤ SQs.size a) :
    (fun x => Q ((Rect.unit (s := SQs) (offQ t.val) SQ.size h).emb x)) = qTile Q t := by
  unfold qTile
  funext x
  congr 1
  funext a
  apply Fin.ext
  rw [Rect.emb_apply]
  fin_cases a
  · show 0 + 1 * (x 0).val = (x 0).val
    omega
  · show 2048 * t.val + 1 * (x 1).val = 2048 * t.val + (x 1).val
    omega

/-- One more tile of the result. -/
theorem put_out_tile (m0 : FVec F SM .f32) (Q : Vec F SQs .bf16) (K : Vec F SKs .bf16) (V : Vec F SVs .bf16) (t : Fin 8)
    (h : ∀ a, offQ t.val a + SOt.size a ≤ SO.size a) (X : Vec F SO .f32)
    (hX : ∀ i : SO.Idx, (i 1).val < 2048 * t.val → X i = mlaOut m0 Q K V i) (i : SO.Idx) (hi : (i 1).val < 2048 * (t.val + 1)) :
    put (Rect.unit (s := SO) (offQ t.val) SOt.size h) (tileOut m0 (qTile Q t) K V) X i = mlaOut m0 Q K V i := by
  by_cases hlt : (i 1).val < 2048 * t.val
  · rw [put_out, hX i hlt]
    intro x hx
    have e : (((Rect.unit (s := SO) (offQ t.val) SOt.size h).emb x) 1).val = 2048 * t.val + 1 * (x 1).val := Rect.emb_apply _ _ _
    rw [hx] at e
    omega
  · have hemb : (Rect.unit (s := SO) (offQ t.val) SOt.size h).emb
        (ix2 (i 0) ⟨(i 1).val % 2048, by show _ < 2048; omega⟩ : SOt.Idx) = i := by
      funext a
      apply Fin.ext
      rw [Rect.emb_apply]
      fin_cases a
      · show 0 + 1 * (i 0).val = (i 0).val
        omega
      · show 2048 * t.val + 1 * ((i 1).val % 2048) = (i 1).val
        omega
    have := put_emb (Rect.unit (s := SO) (offQ t.val) SOt.size h) (tileOut m0 (qTile Q t) K V) X (ix2 (i 0) ⟨(i 1).val % 2048, by show _ < 2048; omega⟩)
    rw [hemb] at this
    rw [this]
    unfold mlaOut
    have ht : (⟨(i 1).val / 2048, by have : (i 1).val < 16384 := (i 1).isLt; omega⟩ : Fin 8) = t := Fin.ext (by show (i 1).val / 2048 = t.val; omega)
    rw [ht]

/-! ## One query tile -/

local notation "𝕄" => MT nD τ sig Unit (Elt F) ℕ U ℕ

variable {defs : Defs nD τ sig (Elt F) Λ} {𝒱 : Variants} {c : Dev nD} {bd : Option 𝒱.V} {E : Set ℕ}

/-- what the query loop works on -/
def heldAll (c : Dev nD) (qs : Memref sig .tc .vmem SQs .bf16) (ks : Memref sig .tc .vmem SKs .bf16) (vs : Memref sig .tc .vmem SVs .bf16)
    (os : Memref sig .tc .vmem SO .f32) (acc : Memref sig .tc .vmem SA .f32) (sc : Memref sig .tc .vmem SS .f32)
    (Q : Vec F SQs .bf16) (K : Vec F SKs .bf16) (V : Vec F SVs .bf16) (X : Vec F SO .f32) : sProp 𝕄 :=
  iprop(owns (c : Thread nD τ) qs fullShare Q ∗ owns (c : Thread nD τ) ks fullShare K ∗ owns (c : Thread nD τ) vs fullShare V
    ∗ owns (c : Thread nD τ) os fullShare X
    ∗ (∃ A : Vec F SA .f32, owns (c : Thread nD τ) acc fullShare A) ∗ (∃ S : Vec F SS .f32, owns (c : Thread nD τ) sc fullShare S))

theorem wp_query {qs : Memref sig .tc .vmem SQs .bf16} {ks : Memref sig .tc .vmem SKs .bf16} {vs : Memref sig .tc .vmem SVs .bf16}
    {os : Memref sig .tc .vmem SO .f32} {acc : Memref sig .tc .vmem SA .f32} {sc : Memref sig .tc .vmem SS .f32}
    {l : Scf.Loop 32} (hl : l.OK) (hl2 : l.trips = 2) {oQ oO : Fin 2 → Nat} (hQ : ∀ a, oQ a + SQ.size a ≤ SQs.size a) (hO : ∀ a, oO a + SOt.size a ≤ SO.size a)
    (t : Fin 8) (eQ : oQ = offQ t.val) (eO : oO = offQ t.val)
    {oK oV : Fin l.trips → Fin 32 → Fin 2 → Nat} (hK : ∀ j u a, oK j u a + SK.size a ≤ SKs.size a) (hV : ∀ j u a, oV j u a + SV.size a ≤ SVs.size a)
    (eK : ∀ j, oK j = fun u => offK (32 * j.val + u.val)) (eV : ∀ j, oV j = fun u => offV (32 * j.val + u.val))
    (m0 : FVec F SM .f32) (Q : Vec F SQs .bf16) (K : Vec F SKs .bf16) (V : Vec F SVs .bf16) (X : Vec F SO .f32)
    (hX : ∀ i : SO.Idx, (i 1).val < 2048 * t.val → X i = mlaOut m0 Q K V i) :
    (heldAll c qs ks vs os acc sc Q K V X : sProp 𝕄)
      ⊢ wp frame (wpE defs 𝒱 (c : Thread nD τ) bd) E (queryProg l hl qs ks vs os acc sc oQ oO hQ hO m0
          fun q j m => pairsProg ks vs acc sc (oK j) (oV j) (hK j) (hV j) q pairs16 m)
          (fun _ => iprop(∃ X' : Vec F SO .f32, ⌜∀ i : SO.Idx, (i 1).val < 2048 * (t.val + 1) → X' i = mlaOut m0 Q K V i⌝ ∗ heldAll c qs ks vs os acc sc Q K V X')) := by
  subst eQ eO
  unfold queryProg heldAll
  iintro ⟨HQ, HK, HV, HO, ⟨%A, HA⟩, %S, HS⟩
  iapply owns_load $$ HQ
  iintro HQ
  iapply owns_load $$ HA
  iintro HA
  iapply owns_store $$ HA
  iintro HA
  iapply owns_load $$ HK
  iintro HK
  iapply owns_load $$ HS
  iintro HS
  iapply owns_store $$ HS
  iintro HS
  rw [put_accAll, get_qTile]
  iapply (Scf.wp_for_bind (M := 𝕄) frame (wpE defs 𝒱 (c : Thread nD τ) bd) E l.lb l.ub l.st hl _ _
    (fun j m => iprop(⌜m = (run m0 (qTile Q t) K V (32 * j)).mx⌝ ∗ held c ks vs acc sc K V 0 (run m0 (qTile Q t) K V (32 * j)))) ?_) $$ [HK HV HA HS]
  · intro j m
    iintro ⟨%hm, H⟩
    subst hm
    beta_reduce
    rw [← bind_pure (pairsProg _ _ _ _ _ _ _ _ _ _ _)]
    iapply (wp_pairs j.val (hK j) (hV j) (eK j) (eV j) m0 (qTile Q t) K V pairs16 0 upto16) $$ [H]
    · iexact H
    iintro H
    rw [wp_pure]
    imodintro
    isplitr
    · ipureintro; rfl
    iexact H
  · isplitr
    · ipureintro; rfl
    unfold held
    isplitl [HK]; · iexact HK
    isplitl [HV]; · iexact HV
    isplitl [HA]; · iexact HA
    iexists _
    isplitr
    swap
    · iexact HS
    ipureintro
    intro n
    exact piece_first _ _ n
  · iintro %m ⟨%hm, H⟩
    rw [show Scf.trips l.lb l.ub l.st = 2 from hl2]
    unfold held
    icases H with ⟨HK, HV, HA, %S', %hS', HS⟩
    iapply owns_load $$ HA
    iintro HA
    iapply owns_load $$ HO
    iintro HO
    iapply owns_store $$ HO
    iintro HO
    rw [get_accAll, wp_pure]
    imodintro
    iexists _
    isplitr
    swap
    · isplitl [HQ]; · iexact HQ
      isplitl [HK]; · iexact HK
      isplitl [HV]; · iexact HV
      isplitl [HO]; · iexact HO
      isplitl [HA]
      · iexists _; iexact HA
      · iexists _; iexact HS
    ipureintro
    exact put_out_tile m0 Q K V t hO X hX

/-! ## The head -/

theorem wp_head {qs : Memref sig .tc .vmem SQs .bf16} {ks : Memref sig .tc .vmem SKs .bf16} {vs : Memref sig .tc .vmem SVs .bf16}
    {os : Memref sig .tc .vmem SO .f32} {acc : Memref sig .tc .vmem SA .f32} {sc : Memref sig .tc .vmem SS .f32}
    {l₁ l : Scf.Loop 32} (hl₁ : l₁.OK) (hl8 : l₁.trips = 8) (hl : l.OK) (hl2 : l.trips = 2)
    {oQ oO : Fin l₁.trips → Fin 2 → Nat} (hQ : ∀ t a, oQ t a + SQ.size a ≤ SQs.size a) (hO : ∀ t a, oO t a + SOt.size a ≤ SO.size a)
    (eQ : ∀ t, oQ t = offQ t.val) (eO : ∀ t, oO t = offQ t.val)
    {oK oV : Fin l.trips → Fin 32 → Fin 2 → Nat} (hK : ∀ j u a, oK j u a + SK.size a ≤ SKs.size a) (hV : ∀ j u a, oV j u a + SV.size a ≤ SVs.size a)
    (eK : ∀ j, oK j = fun u => offK (32 * j.val + u.val)) (eV : ∀ j, oV j = fun u => offV (32 * j.val + u.val))
    (m0 : FVec F SM .f32) (Q : Vec F SQs .bf16) (K : Vec F SKs .bf16) (V : Vec F SVs .bf16) (X : Vec F SO .f32)
    (body : Fin l₁.trips → Unit → Prog (TpuEff nD τ sig (Elt F) Λ .tc) Unit)
    (hbody : ∀ t u, body t u = queryProg l hl qs ks vs os acc sc (oQ t) (oO t) (hQ t) (hO t) m0
          fun q j m => pairsProg ks vs acc sc (oK j) (oV j) (hK j) (hV j) q pairs16 m) :
    (heldAll c qs ks vs os acc sc Q K V X : sProp 𝕄)
      ⊢ wp frame (wpE defs 𝒱 (c : Thread nD τ) bd) E (Scf.Loop.for l₁ hl₁ () body) (fun _ => heldAll c qs ks vs os acc sc Q K V (mlaOut m0 Q K V)) := by
  iintro H
  iapply (Scf.wp_for (M := 𝕄) frame (wpE defs 𝒱 (c : Thread nD τ) bd) E l₁.lb l₁.ub l₁.st hl₁ () body
    (fun t _ => iprop(∃ X' : Vec F SO .f32, ⌜∀ i : SO.Idx, (i 1).val < 2048 * t → X' i = mlaOut m0 Q K V i⌝ ∗ heldAll c qs ks vs os acc sc Q K V X')) ?_)
  · intro t u
    iintro ⟨%X', %hX', H⟩
    rw [hbody t u]
    iapply (wp_query hl hl2 (hQ t) (hO t) ⟨t.val, hl8 ▸ t.isLt⟩ (eQ t) (eO t) hK hV eK eV m0 Q K V X' hX') $$ [H]
    iexact H
  · isplitl [H]
    · iexists X
      isplitr
      · ipureintro; intro i hi; omega
      iexact H
    iintro %_ ⟨%X', %hX', H⟩
    rw [show Scf.trips l₁.lb l₁.ub l₁.st = 8 from hl8] at hX'
    obtain rfl : X' = mlaOut m0 Q K V := funext fun i => hX' i (i 1).isLt
    iexact H

end Cert.Proof.Mla

end
-- ==== Proof.BodyKI.lean ====
/-
  The printed body of the key loop is the 32 tiles of `pairsProg`, that of the query loop `queryProg`, and the offsets
  the two loops compute from their trip numbers are the ones expected.
-/
module

public import proofs.«01_k».proof.Proof.Head
public import Idealize.ShloMosaic.Lib.Tactic
public import proofs.«01_k».proof.Proof.Gen.KernelIdeal.Skeleton

@[expose] public section

noncomputable section

namespace Cert.Proof.Mla.KI

open Idealize.ShloMosaic Idealize.ShloMosaic.Tactic Idealize.SL.Sem
open Cert.KernelIdeal Cert.KernelIdeal.Gen

variable {F : FTy → Type} [FloatOps F]

set_option maxRecDepth 1000000 in
set_option maxHeartbeats 0 in
theorem body_eq (i : grid0.Coords) (a2 : Memref sig .tc .vmem S128x16384 .bf16) (h2 : a2.IsWhole) (a3 : Memref sig .tc .vmem S16384x128 .bf16) (h3 : a3.IsWhole) (a4 : Memref sig .tc .vmem S80x16384 .bf16) (h4 : a4.IsWhole) (a5 : Memref sig .tc .vmem S64x16384 .f32) (h5 : a5.IsWhole) (a6 : Memref sig .tc .vmem S80x2048 .f32) (h6 : a6.IsWhole) (a7 : Memref sig .tc .vmem S2x256x2048 .f32) (h7 : a7.IsWhole) (q : Vec F S128x2048 .bf16)
    (t : Fin k0_t2_loop.trips) (m : FVec F S1x2048 .f32 × FVec F S1x2048 .f32) :
    k0_t2_body i a2 h2 a3 h3 a4 h4 a5 h5 a6 h6 a7 h7 q t m
      = pairsProg a3 a4 a6 a7 (fun u => k0_off2 t (BitVec.ofNat 32 u.val)) (fun u => k0_off3 t (BitVec.ofNat 32 u.val))
          (k0_off2_inb t) (k0_off3_inb t) q pairs16 m := by
  obtain ⟨mp, mt⟩ := m
  sl_kernel_rfl

set_option maxRecDepth 1000000 in
set_option maxHeartbeats 0 in
theorem query_eq (i : grid0.Coords) (a2 : Memref sig .tc .vmem S128x16384 .bf16) (h2 : a2.IsWhole) (a3 : Memref sig .tc .vmem S16384x128 .bf16) (h3 : a3.IsWhole) (a4 : Memref sig .tc .vmem S80x16384 .bf16) (h4 : a4.IsWhole) (a5 : Memref sig .tc .vmem S64x16384 .f32) (h5 : a5.IsWhole) (a6 : Memref sig .tc .vmem S80x2048 .f32) (h6 : a6.IsWhole) (a7 : Memref sig .tc .vmem S2x256x2048 .f32) (h7 : a7.IsWhole)
    (t : Fin k0_t1_loop.trips) (u : Unit) :
    k0_t1_body i a2 h2 a3 h3 a4 h4 a5 h5 a6 h6 a7 h7 t u
      = queryProg (F := F) k0_t2_loop k0_t2_ok a2 a3 a4 a5 a6 a7 (k0_off1 t) (k0_off4 t) (k0_off1_inb t) (k0_off4_inb t) k0_pay2
          (k0_t2_body i a2 h2 a3 h3 a4 h4 a5 h5 a6 h6 a7 h7) := by
  sl_kernel_rfl

theorem trips1 : k0_t1_loop.trips = 8 := by decide +kernel
theorem trips2 : k0_t2_loop.trips = 2 := by decide +kernel
theorem offQ_eq : ∀ t, k0_off1 t = offQ t.val := by decide +kernel
theorem offO_eq : ∀ t, k0_off4 t = offQ t.val := by decide +kernel
theorem offK_at : ∀ (j : Fin k0_t2_loop.trips) (u : Fin 32), k0_off2 j (BitVec.ofNat 32 u.val) = offK (32 * j.val + u.val) := by decide +kernel
theorem offV_at : ∀ (j : Fin k0_t2_loop.trips) (u : Fin 32), k0_off3 j (BitVec.ofNat 32 u.val) = offV (32 * j.val + u.val) := by decide +kernel

end Cert.Proof.Mla.KI

end
-- ==== Proof.FrameKI.lean ====
/-
  The same for the idealized kernel: its body at a grid point leaves the head's attention in the result block, and the pipeline
  around it runs.
-/
module

public import proofs.«01_k».proof.Proof.BodyKI
public import proofs.«01_k».proof.Proof.Gen.KernelIdeal.Frame

@[expose] public section

set_option maxRecDepth 16384

noncomputable section

namespace Cert.Proof.Mla.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- the attention of one head from its blocks -/
abbrev headOut (Q : Vec F S128x16384 .bf16) (K : Vec F S16384x128 .bf16) (V : Vec F S80x16384 .bf16) : Vec F S64x16384 .f32 :=
  mlaOut k0_pay2 Q K V

set_option maxHeartbeats 1000000 in
theorem sound_kernel (c : Dev nD) (i : grid0.Coords) (a2 : Memref sig .tc .vmem S128x16384 .bf16) (h2 : a2.IsWhole) (a3 : Memref sig .tc .vmem S16384x128 .bf16) (h3 : a3.IsWhole) (a4 : Memref sig .tc .vmem S80x16384 .bf16) (h4 : a4.IsWhole) (a5 : Memref sig .tc .vmem S64x16384 .f32) (h5 : a5.IsWhole) (a6 : Memref sig .tc .vmem S80x2048 .f32) (h6 : a6.IsWhole) (a7 : Memref sig .tc .vmem S2x256x2048 .f32) (h7 : a7.IsWhole)
    (Q : Vec F S128x16384 .bf16) (K : Vec F S16384x128 .bf16) (V : Vec F S80x16384 .bf16) (X : Vec F S64x16384 .f32) :
    (heldAll c a2 a3 a4 a5 a6 a7 Q K V X : sProp 𝕄)
      ⊢ wp frame (wpE (defs₀ (F := F)) Variants.none (c : Thread nD τ) none) Set.univ (cc0_mla i a2 h2 a3 h3 a4 h4 a5 h5 a6 h6 a7 h7)
          (fun _ => heldAll c a2 a3 a4 a5 a6 a7 Q K V (headOut Q K V)) := by
  simp only [cc0_mla_eq_skeleton]; unfold cc0_mla_skel
  rw [wp_bind]
  iintro H
  iapply (wp_wand_r frame _ _)
  isplitl [H]
  · iapply (wp_head k0_t1_ok trips1 k0_t2_ok trips2 k0_off1_inb k0_off4_inb offQ_eq offO_eq
      (fun j => k0_off2_inb j) (fun j => k0_off3_inb j) (fun j => funext (offK_at j)) (fun j => funext (offV_at j)) k0_pay2 Q K V X
      (k0_t1_body i a2 h2 a3 h3 a4 h4 a5 h5 a6 h6 a7 h7) (fun t u => (query_eq i a2 h2 a3 h3 a4 h4 a5 h5 a6 h6 a7 h7 t u).trans
        (congrArg (queryProg (F := F) k0_t2_loop k0_t2_ok a2 a3 a4 a5 a6 a7 (k0_off1 t) (k0_off4 t) (k0_off1_inb t) (k0_off4_inb t) k0_pay2)
          (funext fun q => funext fun j => funext fun m => body_eq i a2 h2 a3 h3 a4 h4 a5 h5 a6 h6 a7 h7 q j m)))) $$ H
  iintro %_ H
  rw [wp_pure]
  imodintro
  iexact H

variable (m : (ℓ : Loc nD τ sig) → Buf (Elt F) ℓ) (ρ : Dev nD → PrngReg)

/-- the pipeline's data: the inputs stay, the result block becomes the head's attention -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => headOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = headOut (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- what the pipeline hands the body at a point, and what it takes back -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- what is kept between points: the two scratch buffers with some contents, and the generator's register -/
theorem scratch_eq (c : Dev nD) : (Pipeline.ΦA spec0 c : sProp 𝕄) =
    iprop(((∃ A, owns (c : Thread nD τ) (Memref.whole cc0_scratch0) fullShare A)
      ∗ ∃ S, owns (c : Thread nD τ) (Memref.whole cc0_scratch1) fullShare S) ∗ ∃ r, prngReg c r) := by
  unfold Pipeline.ΦA
  rw [scopedRest0_eq]
  simp only [owns_whole]

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3,
    show (dats m 0 c).Φ t.castSucc = Pipeline.ΦA spec0 c from rfl]
  rw [scratch_eq]
  iintro ⟨⟨⟨⟨%A, HA⟩, %S, HS⟩, HR⟩, Ho, ⟨%d0, H0⟩, ⟨%d1, H1⟩, ⟨%d2, H2⟩, %d3, H3⟩
  iapply (wp_wand_r frame _ _)
  isplitl [HA HS H0 H1 H2 H3]
  · iapply (sound_kernel c (grid0.coords t) _ _ _ _ _ _ _ _ _ _ _ _ (iblk m c 0 t) (iblk m c 1 t) (iblk m c 2 t) ((dats m 0 c).before 3 t d3))
    unfold heldAll
    isplitl [H0]; · iexact H0
    isplitl [H1]; · iexact H1
    isplitl [H2]; · iexact H2
    isplitl [H3]; · iexact H3
    isplitl [HA]
    · iexists A
      iexact HA
    · iexists S
      iexact HS
  iintro %_ H
  unfold heldAll
  icases H with ⟨H0, H1, H2, H3, ⟨%A', HA⟩, %S', HS⟩
  isplitl [HA HS HR]
  · isplitl [HA HS]
    · isplitl [HA]
      · iexists A'; iexact HA
      · iexists S'; iexact HS
    iexact HR
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: `main` ends with every window's array as the pipeline's data say and every counter at zero. -/
theorem run_main_counters : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)
    (Q' := fun r => Pipeline.FramePost cfgs (dats m) 0 (V m) r ∧ r.2.sem = fun _ => 0) (hQ' := fun _ h => h)

/-- `run_main_counters` without the counters -/
theorem run_main : θ_run defs (onTc (τ := τ) (main (F := F))) (s₀ m ρ) (Pipeline.FramePost cfgs (dats m) 0 (V m)) :=
  (θ_run defs _ _).mono (fun _ h => h.1) (run_main_counters m ρ)

/-- The frame: the arguments end as they began, and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩)
    (run_main_counters m ρ)

end Cert.Proof.Mla.KI

end
-- ==== Proof.Soft.lean ====
/-
  Softmax over the extended reals: the streamed base-2 form and the plain base-e form agree.

  The scores are real numbers; the values may be any extended reals.
-/
module

public import Idealize.ShloMosaic.PureOps
public import Idealize.ShloMosaic.PureOps.Ideal
public import Mathlib.Analysis.SpecialFunctions.Pow.Real

@[expose] public section

noncomputable section

namespace Cert.Proof.Mla

open Idealize.ShloMosaic

/-- the weight of a score `s` against the maximum `M` -/
def wt (M s : ℝ) : ℝ := Real.rpow 2 (s - M)

theorem wt_pos (M s : ℝ) : 0 < wt M s := Real.rpow_pos_of_pos (by norm_num) _

theorem wt_scale (M M' s : ℝ) : wt M s * Real.rpow 2 (M - M') = wt M' s := by
  have h : (2 : ℝ) ^ (s - M + (M - M')) = 2 ^ (s - M) * 2 ^ (M - M') := Real.rpow_add (by norm_num) _ _
  show (2 : ℝ) ^ (s - M) * 2 ^ (M - M') = 2 ^ (s - M')
  rw [← h]; congr 1; ring

theorem wt_exp (M m s : ℝ) : wt M s = Real.exp (s * Real.log 2 - m) * Real.exp (m - M * Real.log 2) := by
  show (2 : ℝ) ^ (s - M) = _
  rw [Real.rpow_def_of_pos (by norm_num), ← Real.exp_add]; congr 1; ring

theorem exp2_sub (s M : ℝ) : Ideal.exp2 ((s : EReal) - (M : EReal)) = (wt M s : ℝ) := by
  rw [← EReal.coe_sub, Ideal.exp2_coe]; rfl

/-- A sum of extended reals times a nonnegative real. -/
theorem sum_mul_real {ι : Type} (S : Finset ι) (f : ι → EReal) (d : ℝ) (hd : 0 ≤ d) :
    (∑ i ∈ S, f i) * (d : EReal) = ∑ i ∈ S, f i * (d : EReal) := by
  classical
  induction S using Finset.induction_on with
  | empty => simp
  | insert a S ha ih =>
    rw [Finset.sum_insert ha, Finset.sum_insert ha, ← ih]
    exact EReal.right_distrib_of_nonneg_of_ne_top (by exact_mod_cast hd) (EReal.coe_ne_top d) _ _

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- One tile: the accumulated sum is scaled to the new maximum and the tile's weighted values are added. -/
theorem acc_step {n : ℕ} (j : ℕ) (v : ℕ → Fin n → EReal) (σ : ℕ → Fin n → ℝ) (M M' : ℝ) :
    (∑ i ∈ Finset.range j, ∑ x, v i x * (wt M (σ i x) : EReal)) * Ideal.exp2 ((M : EReal) - (M' : EReal))
        + ∑ x, v j x * Ideal.exp2 ((σ j x : EReal) - (M' : EReal))
      = ∑ i ∈ Finset.range (j + 1), ∑ x, v i x * (wt M' (σ i x) : EReal) := by
  rw [Finset.sum_range_succ, exp2_sub, sum_mul_real _ _ _ (wt_pos _ _).le]
  congr 1
  · refine Finset.sum_congr rfl fun i _ => ?_
    rw [sum_mul_real _ _ _ (wt_pos _ _).le]
    refine Finset.sum_congr rfl fun x _ => ?_
    rw [mul_assoc, ← EReal.coe_mul]
    congr 2
    exact wt_scale M M' _

theorem fold_max_real {ι : Type} (S : Finset ι) (hS : S.Nonempty) (f : ι → EReal) (g : ι → ℝ) (h : ∀ i, f i = g i) :
    ∃ r : ℝ, S.fold max ⊥ f = r := by
  have h1 : S.fold max ⊥ f ≠ ⊤ := by
    apply ne_of_lt
    rw [Finset.fold_max_lt]
    exact ⟨bot_lt_top, fun i _ => by rw [h i]; exact EReal.coe_lt_top _⟩
  have h2 : S.fold max ⊥ f ≠ ⊥ := by
    obtain ⟨i, hi⟩ := hS
    apply ne_of_gt
    rw [Finset.lt_fold_max]
    exact .inr ⟨i, hi, by rw [h i]; exact EReal.bot_lt_coe _⟩
  exact ⟨_, (EReal.coe_toReal h1 h2).symm⟩

theorem div_real (x : EReal) (d : ℝ) (hd : 0 < d) : Ideal.div x (d : EReal) = x * ((d⁻¹ : ℝ) : EReal) := by
  have h : (d : EReal) ≠ 0 := by exact_mod_cast hd.ne'
  unfold Ideal.div
  rw [if_neg h, EReal.coe_inv]

/-- The streamed quotient is the softmax-weighted sum. -/
theorem soft_eq {n : ℕ} (hn : 0 < n) (v : Fin n → EReal) (σ : Fin n → ℝ) (M m : ℝ) :
    Ideal.div (∑ κ, v κ * (wt M (σ κ) : EReal)) (∑ κ, 1 * (wt M (σ κ) : EReal))
      = ∑ κ, v κ * Ideal.div (Ideal.exp (((σ κ * Real.log 2 : ℝ) : EReal) - (m : EReal)))
          (∑ κ', Ideal.exp (((σ κ' * Real.log 2 : ℝ) : EReal) - (m : EReal))) := by
  haveI : Nonempty (Fin n) := ⟨⟨0, hn⟩⟩
  simp only [one_mul, ← EReal.coe_sub, Ideal.exp_coe, ← coe_sum]
  have h1 : 0 < ∑ κ, wt M (σ κ) := Finset.sum_pos (fun κ _ => wt_pos _ _) Finset.univ_nonempty
  have h2 : 0 < ∑ κ, Real.exp (σ κ * Real.log 2 - m) := Finset.sum_pos (fun κ _ => Real.exp_pos _) Finset.univ_nonempty
  rw [div_real _ _ h1, sum_mul_real _ _ _ (inv_nonneg.mpr h1.le)]
  refine Finset.sum_congr rfl fun κ _ => ?_
  rw [div_real _ _ h2, mul_assoc, ← EReal.coe_mul, ← EReal.coe_mul]
  congr 2
  rw [← div_eq_mul_inv, ← div_eq_mul_inv]
  simp only [wt_exp M m]
  rw [← Finset.sum_mul, mul_div_mul_right _ _ (Real.exp_pos _).ne']

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_two : Ideal.ofBits .f32 0x40000000#32 = ((2 : ℝ) : EReal) := by simp [Ideal.ofBits, Ideal.ieee, -EReal.coe_mul]; norm_num
theorem log_two : Ideal.log ((2 : ℝ) : EReal) = (Real.log 2 : ℝ) := by rw [Ideal.log_coe, if_neg (by norm_num)]
/-- the start of the running maximum is a real number -/
theorem ofBits_start : ∃ r : ℝ, Ideal.ofBits .f32 0xF149F2CA#32 = r := by
  refine ⟨_, (EReal.coe_toReal ?_ ?_).symm⟩ <;> simp [Ideal.ofBits, Ideal.ieee, -EReal.coe_mul]

end Cert.Proof.Mla

end
-- ==== Proof.Read.lean ====
/-
  The operations of one key tile read at an index, over the extended reals.
-/
module

public import proofs.«01_k».proof.Proof.Tile
public import proofs.«01_k».proof.Proof.Soft
public import Idealize.ShloMosaic.Lib.Pointwise

@[expose] public section

set_option maxRecDepth 16384

noncomputable section

namespace Cert.Proof.Mla

open Idealize.ShloMosaic Idealize.ShloMosaic.TcCoe

/-- query column `256 n + y` -/
abbrev colAt (n : Fin 8) (y : Fin 256) : Fin 2048 := ⟨256 * n.val + y.val, by omega⟩

theorem score_at (k : FVec Ideal SK .bf16) (q : FVec Ideal SQ .bf16) (n : Fin 8) (x y : Fin 256) :
    score (F := Ideal) k q n (ix2 x y) = ∑ c : Fin 128, k (ix2 x c) * q (ix2 c (colAt n y)) := by
  pointwise [score]

theorem slotOf_at (k : FVec Ideal SK .bf16) (q : FVec Ideal SQ .bf16) (n : Fin 8) (x y : Fin 256) :
    slotOf (F := Ideal) k q n (ix3 0 x y) = ∑ c : Fin 128, k (ix2 x c) * q (ix2 c (colAt n y)) := by
  pointwise [slotOf, score]

theorem scoreMax_at (k : FVec Ideal SK .bf16) (q : FVec Ideal SQ .bf16) (n : Fin 8) (y : Fin 256) :
    scoreMax (F := Ideal) k q n (ix2 0 y)
      = Finset.univ.fold max ⊥ fun x : Fin 256 => ∑ c : Fin 128, k (ix2 x c) * q (ix2 c (colAt n y)) := by
  pointwise [scoreMax, score]
  rw [ofBits_bot]

/-- A row put together from eight pieces, each of which has the value `R` at the column's place in it. -/
theorem pieces_at (f : Fin 8 → FVec Ideal SMc .f32) (R : EReal) (col : Fin 2048)
    (h : ∀ (n : Fin 8) (y : ℕ) (hy : y < 256), col.val = 256 * n.val + y → f n (ix2 0 ⟨y, hy⟩) = R) :
    concatenate SM 1 [⟨SMc, f 0⟩, ⟨SMc, f 1⟩, ⟨SMc, f 2⟩, ⟨SMc, f 3⟩, ⟨SMc, f 4⟩, ⟨SMc, f 5⟩, ⟨SMc, f 6⟩, ⟨SMc, f 7⟩] catM (ix2 0 col) = R := by
  have hc := col.isLt
  pointwise
  split
  · exact h 0 _ _ (by show col.val = 256 * 0 + _; omega)
  split
  · exact h 1 _ _ (by show col.val = 256 * 1 + _; omega)
  split
  · exact h 2 _ _ (by show col.val = 256 * 2 + _; omega)
  split
  · exact h 3 _ _ (by show col.val = 256 * 3 + _; omega)
  split
  · exact h 4 _ _ (by show col.val = 256 * 4 + _; omega)
  split
  · exact h 5 _ _ (by show col.val = 256 * 5 + _; omega)
  split
  · exact h 6 _ _ (by show col.val = 256 * 6 + _; omega)
  exact h 7 _ _ (by show col.val = 256 * 7 + _; omega)

theorem tileMax_at (k : FVec Ideal SK .bf16) (q : FVec Ideal SQ .bf16) (col : Fin 2048) :
    tileMax (F := Ideal) k q (ix2 0 col)
      = Finset.univ.fold max ⊥ fun x : Fin 256 => ∑ c : Fin 128, k (ix2 x c) * q (ix2 c col) := by
  refine pieces_at (scoreMax (F := Ideal) k q) _ col fun n y hy h => ?_
  rw [scoreMax_at, show colAt n ⟨y, hy⟩ = col from Fin.ext h.symm]

theorem firstScore_at (k : FVec Ideal SK .bf16) (q : FVec Ideal SQ .bf16) (n : Fin 8) (x y : Fin 256) :
    firstSlot (F := Ideal) (shapeCast SFs (firstScore (F := Ideal) k q) castF) n (ix3 0 x y)
      = ∑ c : Fin 128, k (ix2 x c) * q (ix2 c (colAt n y)) := by
  pointwise [firstSlot, firstScore]

theorem firstMax_at (k : FVec Ideal SK .bf16) (q : FVec Ideal SQ .bf16) (col : Fin 2048) :
    firstMax (F := Ideal) k q (ix2 0 col)
      = Finset.univ.fold max ⊥ fun x : Fin 256 => ∑ c : Fin 128, k (ix2 x c) * q (ix2 c col) := by
  pointwise [firstMax, firstScore]
  rw [ofBits_bot]

theorem accNext_at (mn al : FVec Ideal SM .f32) (v : FVec Ideal SV .bf16) (s : FVec Ideal SSc .f32) (a : FVec Ideal SAc .f32)
    (n : Fin 8) (r : Fin 80) (y : Fin 256) :
    accNext (F := Ideal) mn al v s a n (ix2 r y)
      = a (ix2 r y) * al (ix2 0 (colAt n y))
        + ∑ x : Fin 256, v (ix2 r x) * Ideal.exp2 (s (ix3 0 x y) - mn (ix2 0 (colAt n y))) := by
  pointwise [accNext, weights]
  rfl

theorem zeroAcc_at (r : Fin 80) (col : Fin 2048) : zeroAcc (F := Ideal) (ix2 r col) = 0 := by
  pointwise [zeroAcc]

theorem quot_at (A : FVec Ideal SA .f32) (r : Fin 64) (col : Fin 2048) :
    quot (F := Ideal) A (ix2 r col) = Ideal.div (A (ix2 ⟨r.val, by omega⟩ col)) (A (ix2 64 col)) := by
  pointwise [quot]

theorem newMax_at (a b : FVec Ideal SM .f32) (i : SM.Idx) : newMax (F := Ideal) a b i = max (a i) (b i) := rfl
theorem scaleOf_at (a b : FVec Ideal SM .f32) (i : SM.Idx) : scaleOf (F := Ideal) a b i = Ideal.exp2 (a i - max (a i) (b i)) := rfl

end Cert.Proof.Mla

end
-- ==== Proof.Stream.lean ====
/-
  What the streamed attention of one head computes over the extended reals.

  Before key tile `j` the accumulator holds, for each query, the values of the keys gone through so far, weighted with
  powers of two of their scores less a real number `M` (the running maximum; only that it is real is used).
-/
module

public import proofs.«01_k».proof.Proof.Read

@[expose] public section

set_option maxRecDepth 16384

noncomputable section

namespace Cert.Proof.Mla

open Idealize.ShloMosaic Idealize.ShloMosaic.TcCoe

/-- key `x` of tile `i` -/
abbrev keyAt (i : ℕ) (x : Fin 256) : Fin 16384 := ⟨256 * min i 63 + x.val, by omega⟩

theorem keys_at (K : FVec Ideal SKs .bf16) (j : ℕ) (x : Fin 256) (c : Fin 128) :
    keysAt (F := Ideal) (offK j) (inbK j) K (ix2 x c) = K (ix2 (keyAt (j + 1) x) c) := by
  unfold keysAt
  congr 1
  funext a
  apply Fin.ext
  rw [Rect.emb_apply]
  fin_cases a
  · show 256 * min (j + 1) 63 + 1 * x.val = 256 * min (j + 1) 63 + x.val
    omega
  · show 0 + 1 * c.val = c.val
    omega

theorem keys0_at (K : FVec Ideal SKs .bf16) (x : Fin 256) (c : Fin 128) :
    keysAt (F := Ideal) ![0, 0] inbK0 K (ix2 x c) = K (ix2 (keyAt 0 x) c) := by
  unfold keysAt
  congr 1
  funext a
  apply Fin.ext
  rw [Rect.emb_apply]
  fin_cases a
  · show 0 + 1 * x.val = 256 * min 0 63 + x.val
    omega
  · show 0 + 1 * c.val = c.val
    omega

theorem vals_at (V : FVec Ideal SVs .bf16) (j : ℕ) (r : Fin 80) (x : Fin 256) :
    valsAt (F := Ideal) (offV j) (inbV j) V (ix2 r x) = V (ix2 r (keyAt j x)) := by
  unfold valsAt
  congr 1
  funext a
  apply Fin.ext
  rw [Rect.emb_apply]
  fin_cases a
  · show 0 + 1 * r.val = r.val
    omega
  · show 256 * min j 63 + 1 * x.val = 256 * min j 63 + x.val
    omega

theorem piece_at (n : Fin 8) (A : FVec Ideal SA .f32) (r : Fin 80) (y : Fin 256) : pieceA n A (ix2 r y) = A (ix2 r (colAt n y)) := by
  unfold pieceA
  congr 1
  funext a
  apply Fin.ext
  rw [Rect.emb_apply]
  fin_cases a
  · show 0 + 1 * r.val = r.val
    omega
  · show 256 * n.val + 1 * y.val = 256 * n.val + y.val
    omega

/-- the piece and the place in it of a query column -/
theorem col_split (col : Fin 2048) : colAt ⟨col.val / 256, by omega⟩ ⟨col.val % 256, by omega⟩ = col :=
  Fin.ext (by show 256 * (col.val / 256) + col.val % 256 = col.val; omega)

theorem accStep_at (C : Fin 8 → FVec Ideal SSc .f32) (v : FVec Ideal SV .bf16) (mn al : FVec Ideal SM .f32) (A : FVec Ideal SA .f32)
    (r : Fin 80) (col : Fin 2048) :
    accStep (F := Ideal) C v mn al A (ix2 r col) = A (ix2 r col) * al (ix2 0 col)
      + ∑ x : Fin 256, v (ix2 r x) * Ideal.exp2 (C ⟨col.val / 256, by omega⟩ (ix3 0 x ⟨col.val % 256, by omega⟩) - mn (ix2 0 col)) := by
  have h := accNext_at mn al v (C ⟨col.val / 256, by omega⟩) (pieceA ⟨col.val / 256, by omega⟩ A) ⟨col.val / 256, by omega⟩ r ⟨col.val % 256, by omega⟩
  rw [piece_at, col_split] at h
  exact h

variable (m0 : FVec Ideal SM .f32) (q : FVec Ideal SQ .bf16) (K : FVec Ideal SKs .bf16) (V : FVec Ideal SVs .bf16)
  (σ : Fin 16384 → Fin 2048 → ℝ)

/-- the state before tile `j`: current scores, maxima, accumulator -/
structure Inv (j : ℕ) (s : St Ideal) : Prop where
  slot : ∀ (n : Fin 8) (x y : Fin 256), s.slot n (ix3 0 x y) = (σ (keyAt j x) (colAt n y) : EReal)
  next : ∀ col : Fin 2048, ∃ T : ℝ, s.mx.2 (ix2 0 col) = (T : EReal)
  acc : ∀ col : Fin 2048, ∃ M : ℝ, s.mx.1 (ix2 0 col) = (M : EReal) ∧ ∀ r : Fin 80,
    s.acc (ix2 r col) = ∑ i ∈ Finset.range j, ∑ x : Fin 256, V (ix2 r (keyAt i x)) * (wt M (σ (keyAt i x) col) : EReal)

theorem inv_run (hm : ∀ col : Fin 2048, ∃ M : ℝ, m0 (ix2 0 col) = (M : EReal))
    (hσ : ∀ κ col, ∑ c : Fin 128, K (ix2 κ c) * q (ix2 c col) = (σ κ col : EReal)) (j : ℕ) : Inv V σ j (run (F := Ideal) m0 q K V j) := by
  induction j with
  | zero =>
    refine ⟨fun n x y => ?_, fun col => ?_, fun col => ?_⟩
    · have h := firstScore_at (keysAt (F := Ideal) ![0, 0] inbK0 K) q n x y
      simp only [keys0_at, hσ] at h
      exact h
    · obtain ⟨T, hT⟩ := fold_max_real Finset.univ Finset.univ_nonempty (fun x : Fin 256 => ((σ (keyAt 0 x) col : ℝ) : EReal)) _ fun _ => rfl
      have h := firstMax_at (keysAt (F := Ideal) ![0, 0] inbK0 K) q col
      simp only [keys0_at, hσ] at h
      have h' := h.trans hT
      have e : (run (F := Ideal) m0 q K V 0).mx.2 = firstMax (F := Ideal) (keysAt (F := Ideal) ![0, 0] inbK0 K) q := by
        dsimp only [run]
      exact ⟨T, (congrFun e _).trans h'⟩
    · obtain ⟨M, hM⟩ := hm col
      refine ⟨M, hM, fun r => ?_⟩
      rw [Finset.range_zero, Finset.sum_empty]
      exact zeroAcc_at r col
  | succ j ih =>
    refine ⟨fun n x y => ?_, fun col => ?_, fun col => ?_⟩
    · have h := slotOf_at (keysAt (F := Ideal) (offK j) (inbK j) K) q n x y
      simp only [keys_at, hσ] at h
      exact h
    · obtain ⟨T, hT⟩ := fold_max_real Finset.univ Finset.univ_nonempty (fun x : Fin 256 => ((σ (keyAt (j + 1) x) col : ℝ) : EReal)) _ fun _ => rfl
      have h := tileMax_at (keysAt (F := Ideal) (offK j) (inbK j) K) q col
      simp only [keys_at, hσ] at h
      exact ⟨T, h.trans hT⟩
    · obtain ⟨M, hM, hA⟩ := ih.acc col
      obtain ⟨T, hT⟩ := ih.next col
      have hmax : max (M : EReal) (T : EReal) = ((max M T : ℝ) : EReal) := (EReal.coe_strictMono.monotone.map_max).symm
      refine ⟨max M T, ?_, fun r => ?_⟩
      · show max _ _ = _
        rw [hM, hT, hmax]
      · refine (accStep_at _ _ _ _ _ r col).trans ?_
        rw [scaleOf_at, newMax_at, hM, hT, hmax, hA r,
          ← acc_step j (fun i x => V (ix2 r (keyAt i x))) (fun i x => σ (keyAt i x) col) M]
        simp only [ih.slot, col_split, vals_at]

/-- A query's result: the quotient of the weighted values by the weights. -/
theorem tileOut_at (hm : ∀ col : Fin 2048, ∃ M : ℝ, m0 (ix2 0 col) = (M : EReal))
    (hσ : ∀ κ col, ∑ c : Fin 128, K (ix2 κ c) * q (ix2 c col) = (σ κ col : EReal))
    (hones : ∀ κ : Fin 16384, V (ix2 64 κ) = 1) (r : Fin 64) (col : Fin 2048) (m : ℝ) :
    tileOut (F := Ideal) m0 q K V (ix2 r col)
      = ∑ κ : Fin 16384, V (ix2 ⟨r.val, by omega⟩ κ) * Ideal.div (Ideal.exp (((σ κ col * Real.log 2 : ℝ) : EReal) - (m : EReal)))
          (∑ κ' : Fin 16384, Ideal.exp (((σ κ' col * Real.log 2 : ℝ) : EReal) - (m : EReal))) := by
  obtain ⟨M, -, hA⟩ := (inv_run m0 q K V σ hm hσ 64).acc col
  have flat : ∀ f : Fin 16384 → EReal, ∑ i ∈ Finset.range 64, ∑ x : Fin 256, f (keyAt i x) = ∑ κ : Fin 16384, f κ := fun f => by
    rw [Finset.sum_range, Fin.sum_univ_tiles 64 256 rfl f]
    refine Finset.sum_congr rfl fun i _ => Finset.sum_congr rfl fun x _ => congrArg f (Fin.ext ?_)
    show 256 * min i.val 63 + x.val = i.val * 256 + x.val
    omega
  unfold tileOut
  rw [quot_at, hA, hA, flat fun κ => V (ix2 ⟨r.val, by omega⟩ κ) * (wt M (σ κ col) : EReal),
    flat fun κ => V (ix2 64 κ) * (wt M (σ κ col) : EReal)]
  simp only [hones]
  exact soft_eq (by norm_num) _ _ M m

end Cert.Proof.Mla

end
-- ==== Proof.Refer.lean ====
/- The reference's result, named, and read at an index. -/
module

public import proofs.«01_k».proof.Proof.Gen.ReferenceIdeal
public import Idealize.ShloMosaic.Lib.Pointwise
public import proofs.«01_k».proof.Proof.Soft

@[expose] public section

set_option maxRecDepth 16384

noncomputable section

namespace Cert.Proof.Mla.Ref

open Idealize.ShloMosaic Idealize.ShloMosaic.TcCoe Cert.ReferenceIdeal Cert.ReferenceIdeal.Gen
open Cert.ReferenceIdeal.Facts Cert.ReferenceIdeal.Facts₀

variable (q : FVec Ideal S768x32768 .bf16) (k : FVec Ideal S32768x768 .bf16) (v : FVec Ideal S480x32768 .bf16)

/-- the scores, in base e -/
def scores : FVec Ideal S2x6x16384x16384 .f32 :=
  mulf
    (Host.dotGeneral dot_S2x16384x6x128_S2x16384x6x128_S2x6x16384x16384_3_3_1_1_02_02 none
      (transpose S2x16384x6x128 [2, 3, 0, 1] (shapeCast S6x128x2x16384 (extf FTy.f32 q (by decide)) (by decide)) (by decide))
      (shapeCast S2x16384x6x128 (extf FTy.f32 k (by decide)) (by decide)))
    (broadcastInDim S2x6x16384x16384 ![] (by decide) (Host.log (constant S_ FTy.f32 1073741824#32)))

/-- the scores' maximum over the keys -/
def rowMax (s : FVec Ideal S2x6x16384x16384 .f32) : FVec Ideal S2x6x16384 .f32 :=
  maximumf (broadcastInDim S2x6x16384 ![] (by decide) (constant S_ FTy.f32 4286578688#32))
    (Host.reduce FloatOps.maximumf s (constant S_ FTy.f32 4286578688#32) (by decide : S2x6x16384x16384.ReducesTo [3] S2x6x16384) (by decide))

/-- the exponentials of scores less a number for each query -/
def exps (s : FVec Ideal S2x6x16384x16384 .f32) (m : FVec Ideal S2x6x16384 .f32) : FVec Ideal S2x6x16384x16384 .f32 :=
  Host.exp (subf s (broadcastInDim S2x6x16384x16384 ![0, 1, 2, 3] (by decide) (broadcastInDim S2x6x16384x1 ![0, 1, 2] (by decide) m)))

/-- exponentials over their sum -/
def probs (e : FVec Ideal S2x6x16384x16384 .f32) : FVec Ideal S2x6x16384x16384 .f32 :=
  Host.divf e (broadcastInDim S2x6x16384x16384 ![0, 1, 2, 3] (by decide) (broadcastInDim S2x6x16384x1 ![0, 1, 2] (by decide)
    (Host.reduceAdd e (constant S_ FTy.f32 0#32) (by decide : S2x6x16384x16384.ReducesTo [3] S2x6x16384) (by decide))))

/-- the weighted sum of the values, in the layout of the call's result -/
def mix (p : FVec Ideal S2x6x16384x16384 .f32) : FVec Ideal S384x32768 .f32 :=
  shapeCast S384x32768 (transpose S6x64x2x16384 [2, 3, 0, 1] (transpose S2x16384x6x64 [0, 3, 1, 2]
    (Host.dotGeneral dot_S2x16384x6x64_S2x6x16384x16384_S2x6x64x16384_1_3_3_2_02_01 none
      (transpose S2x16384x6x64 [2, 3, 0, 1] (extractStridedSlice S6x64x2x16384 ![0, 0, 0, 0]
        (shapeCast S6x80x2x16384 (extf FTy.f32 v (by decide)) (by decide)) (by decide)) (by decide)) p) (by decide)) (by decide)) (by decide)

/-- the reference's result -/
def result : FVec Ideal S384x32768 .f32 := mix v (probs (exps (scores q k) (rowMax (scores q k))))

theorem scores_at (b : Fin 2) (h : Fin 6) (x y : Fin 16384) : scores q k (ix4 b h x y)
    = (∑ c : Fin 128, q (ix2 ⟨h.val * 128 + c.val, by omega⟩ ⟨b.val * 16384 + x.val, by omega⟩)
        * k (ix2 ⟨b.val * 16384 + y.val, by omega⟩ ⟨h.val * 128 + c.val, by omega⟩)) * ((Real.log 2 : ℝ) : EReal) := by
  pointwise [scores]
  rw [ofBits_two, log_two]

/-- a maximum along an axis, started at minus infinity, of real numbers is a real number -/
theorem hostMax_real {s t u : Shape} {a : Fin s.rank} (h' : s.ReducesTo [a] t) (h : s.Reduces [a] t) (ha : 0 < s.size a)
    (hu : 0 < u.numel) (x : FVec Ideal s .f32) (init : FVec Ideal u .f32) (hi : init (Shape.Idx.first hu) = (⊥ : EReal))
    (g : s.Idx → ℝ) (hx : ∀ i, x i = (g i : EReal)) (j : t.Idx) :
    ∃ r : ℝ, Host.reduce FloatOps.maximumf x init h' hu j = (r : EReal) := by
  rw [Ideal.maximumf_eq_max, Host.reduce_eq_fold_single max x init h' h hu j, hi]
  exact fold_max_real _ ⟨⟨0, ha⟩, Finset.mem_univ _⟩ _ (g ∘ h.lift j) fun i => hx _

/-- the larger of minus infinity and a real number is real -/
theorem floorMax_real {s : Shape} (x y : FVec Ideal s .f32) (j : s.Idx) (hx : ∀ j, x j = (⊥ : EReal))
    (hy : ∃ r : ℝ, y j = (r : EReal)) : ∃ m : ℝ, maximumf x y j = (m : EReal) := by
  obtain ⟨r, hr⟩ := hy
  refine ⟨r, ?_⟩
  show max (x j) (y j) = _
  rw [hx, hr]
  exact max_eq_right bot_le

/-- minus infinity, as an array and repeated along new axes -/
theorem start_at (t : Shape) (i : t.Idx) : constant (F := Ideal) t FTy.f32 4286578688#32 i = (⊥ : EReal) := ofBits_bot
theorem startRep_at (t : Shape) (h) (i : t.Idx) :
    broadcastInDim t ![] h (constant (F := Ideal) S_ FTy.f32 4286578688#32) i = (⊥ : EReal) := ofBits_bot

theorem rowMax_real (s : FVec Ideal S2x6x16384x16384 .f32) (g : S2x6x16384x16384.Idx → ℝ) (hs : ∀ i, s i = (g i : EReal))
    (j : S2x6x16384.Idx) : ∃ m : ℝ, rowMax s j = (m : EReal) := by
  unfold rowMax
  exact floorMax_real _ _ j (startRep_at _ _) (hostMax_real _ (by decide) (by decide) _ s _ (start_at _ _) g hs j)

theorem exps_at (s : FVec Ideal S2x6x16384x16384 .f32) (m : FVec Ideal S2x6x16384 .f32) (b : Fin 2) (h : Fin 6) (x y : Fin 16384) :
    exps s m (ix4 b h x y) = Ideal.exp (s (ix4 b h x y) - m (ix3 b h x)) := by
  pointwise [exps]

theorem probs_at (e : FVec Ideal S2x6x16384x16384 .f32) (b : Fin 2) (h : Fin 6) (x y : Fin 16384) :
    probs e (ix4 b h x y) = Ideal.div (e (ix4 b h x y)) (∑ κ : Fin 16384, e (ix4 b h x κ)) := by
  pointwise [probs]

theorem mix_at (p : FVec Ideal S2x6x16384x16384 .f32) (r : Fin 384) (x : Fin 32768) : mix v p (ix2 r x)
    = ∑ κ : Fin 16384, v (ix2 ⟨r.val / 64 * 80 + r.val % 64, by omega⟩ ⟨x.val / 16384 * 16384 + κ.val, by omega⟩)
        * p (ix4 ⟨x.val / 16384, by omega⟩ ⟨r.val / 64, by omega⟩ ⟨x.val % 16384, by omega⟩ κ) := by
  pointwise [mix]

/-- The reference's result at row `r` and column `x`, where the products of queries and keys are the real numbers `σ`. -/
theorem result_at (σ : Fin 2 → Fin 6 → Fin 16384 → Fin 16384 → ℝ)
    (hσ : ∀ (b : Fin 2) (h : Fin 6) (x y : Fin 16384), ∑ c : Fin 128, q (ix2 ⟨h.val * 128 + c.val, by omega⟩ ⟨b.val * 16384 + x.val, by omega⟩)
        * k (ix2 ⟨b.val * 16384 + y.val, by omega⟩ ⟨h.val * 128 + c.val, by omega⟩) = (σ b h x y : EReal))
    (r : Fin 384) (x : Fin 32768) (b : Fin 2) (h : Fin 6) (z : Fin 16384) (hb : b.val = x.val / 16384) (hh : h.val = r.val / 64)
    (hz : z.val = x.val % 16384) :
    ∃ m : ℝ, result q k v (ix2 r x)
      = ∑ κ : Fin 16384, v (ix2 ⟨r.val / 64 * 80 + r.val % 64, by omega⟩ ⟨x.val / 16384 * 16384 + κ.val, by omega⟩)
          * Ideal.div (Ideal.exp (((σ b h z κ * Real.log 2 : ℝ) : EReal) - (m : EReal)))
              (∑ κ' : Fin 16384, Ideal.exp (((σ b h z κ' * Real.log 2 : ℝ) : EReal) - (m : EReal))) := by
  have hs : ∀ (b : Fin 2) (h : Fin 6) (x y : Fin 16384), scores q k (ix4 b h x y) = ((σ b h x y * Real.log 2 : ℝ) : EReal) := fun b h x y => by
    rw [scores_at, hσ, EReal.coe_mul]
  obtain ⟨m, hm⟩ := rowMax_real (scores q k) (fun i => σ (i 0) (i 1) (i 2) (i 3) * Real.log 2)
    (fun i => by rw [eq_ix4 i]; exact hs _ _ _ _) (ix3 b h z)
  refine ⟨m, ?_⟩
  unfold result
  rw [mix_at, show (⟨x.val / 16384, by omega⟩ : Fin 2) = b from Fin.ext hb.symm, show (⟨r.val / 64, by omega⟩ : Fin 6) = h from Fin.ext hh.symm,
    show (⟨x.val % 16384, by omega⟩ : Fin 16384) = z from Fin.ext hz.symm]
  simp only [probs_at, exps_at, hs, hm]

end Cert.Proof.Mla.Ref

end
-- ==== Proof.Pre.lean ====
/- The claim's precondition, read: the queries and keys are real numbers and the row beside each head's values is ones. -/
module

public import proofs.«01_k».proof.Proof.Gen.Pre_served
public import Idealize.ShloMosaic.Lib.ReduceAll
public import Idealize.ShloMosaic.Lib.Pointwise
public import proofs.«01_k».proof.Proof.Soft

@[expose] public section

set_option maxRecDepth 16384

noncomputable section

namespace Cert.Proof.Mla.Served

open Idealize.ShloMosaic Idealize.ShloMosaic.TcCoe Cert.Pre_served Cert.Pre_served.Gen

variable (q : FVec Ideal S768x32768 .bf16) (k : FVec Ideal S32768x768 .bf16) (v : FVec Ideal S480x32768 .bf16)

/-- a conjunction over every axis that is true: each of its terms is -/
theorem all_true {s u : Shape} {axes : List (Fin s.rank)} (x : s.Idx → BitVec 1) (init : u.Idx → BitVec 1) (h : s.ReducesTo axes S_)
    (hu : 0 < u.numel) (e : Host.reduce IntOp.andi x init h hu = fun _ => 1#1) (i : s.Idx) : x i = 1#1 :=
  haveI : Subsingleton S_.Idx := ⟨fun a b => funext fun i => i.elim0⟩
  Host.reduce_andi_all x init h hu (fun i => i.elim0) (congrFun e _) i

/-- a number of finite magnitude is real -/
theorem real_of_abs {φ : FTy} (x : Ideal φ) (h : BitVec.ofBool (decide (FloatOps.absf x < Ideal.ofBits FTy.f32 2139095040#32)) = 1#1) :
    ∃ r : ℝ, x = (r : EReal) := by
  rw [ofBits_top] at h
  have h2 : max (x : EReal) (-x) < ⊤ := by
    by_contra hn
    rw [show decide (FloatOps.absf x < (⊤ : EReal)) = false from decide_eq_false hn] at h
    exact absurd h (by decide)
  have h3 := max_lt_iff.1 h2
  refine ⟨EReal.toReal x, (EReal.coe_toReal h3.1.ne fun hb => ?_).symm⟩
  rw [hb] at h3
  exact absurd h3.2 (by simp)

theorem real_q (h : (Cert.Pre_served.fn (F := Ideal) q k v).1 = fun _ => 1#1) (i : S768x32768.Idx) : ∃ r : ℝ, q i = (r : EReal) := by
  dsimp only [Cert.Pre_served.fn] at h
  have e := all_true _ _ _ _ h i
  clear h
  pointwise at e
  exact real_of_abs _ e

theorem real_k (h : (Cert.Pre_served.fn (F := Ideal) q k v).2.1 = fun _ => 1#1) (i : S32768x768.Idx) : ∃ r : ℝ, k i = (r : EReal) := by
  dsimp only [Cert.Pre_served.fn] at h
  have e := all_true _ _ _ _ h i
  clear h
  pointwise at e
  exact real_of_abs _ e

theorem ones_v (h : (Cert.Pre_served.fn (F := Ideal) q k v).2.2 = fun _ => 1#1) (hd : Fin 6) (κ : Fin 32768) :
    v (ix2 ⟨hd.val * 80 + 64, by omega⟩ κ) = (1 : EReal) := by
  dsimp only [Cert.Pre_served.fn] at h
  have e := all_true _ _ _ _ h (ix2 hd κ)
  clear h
  pointwise at e
  by_contra hn
  rw [decide_eq_false hn] at e
  exact absurd e (by decide)

/-- the products of queries and keys are real numbers -/
theorem real_scores (hq : (Cert.Pre_served.fn (F := Ideal) q k v).1 = fun _ => 1#1)
    (hk : (Cert.Pre_served.fn (F := Ideal) q k v).2.1 = fun _ => 1#1) : ∃ σ : Fin 2 → Fin 6 → Fin 16384 → Fin 16384 → ℝ,
    ∀ (b : Fin 2) (h : Fin 6) (x y : Fin 16384), ∑ c : Fin 128, q (ix2 ⟨h.val * 128 + c.val, by omega⟩ ⟨b.val * 16384 + x.val, by omega⟩)
        * k (ix2 ⟨b.val * 16384 + y.val, by omega⟩ ⟨h.val * 128 + c.val, by omega⟩) = (σ b h x y : EReal) := by
  choose f hf using real_q q k v hq
  choose g hg using real_k q k v hk
  refine ⟨fun b h x y => ∑ c : Fin 128, f (ix2 ⟨h.val * 128 + c.val, by omega⟩ ⟨b.val * 16384 + x.val, by omega⟩)
        * g (ix2 ⟨b.val * 16384 + y.val, by omega⟩ ⟨h.val * 128 + c.val, by omega⟩), fun b h x y => ?_⟩
  simp only [hf, hg]
  rw [coe_sum]
  rfl

end Cert.Proof.Mla.Served

end
-- ==== Proof.Final.lean ====
/- The kernel's result array is the reference's. -/
module

public import proofs.«01_k».proof.Proof.FrameKI
public import proofs.«01_k».proof.Proof.Stream
public import proofs.«01_k».proof.Proof.Refer
public import proofs.«01_k».proof.Proof.Pre
public import proofs.«01_k».proof.Defs
public import Idealize.ShloMosaic.Lib.Pipeline.ValueKit

@[expose] public section

set_option maxRecDepth 16384

noncomputable section

namespace Cert.Proof.Mla.KI

open Idealize.ShloMosaic Idealize.ShloMosaic.TcCoe Idealize.SL.Sem
open Cert.KernelIdeal Cert.KernelIdeal.Gen

/-- which block of each array a grid point has: sequence `t / 6`, head `t % 6` -/
theorem idx : ∀ t : Fin cfg0.N,
    (cfg0.win 0).index t = ![t.val % 6, t.val / 6] ∧ (cfg0.win 1).index t = ![t.val / 6, t.val % 6]
      ∧ (cfg0.win 2).index t = ![t.val % 6, t.val / 6] ∧ (cfg0.win 3).index t = ![t.val % 6, t.val / 6] := by
  decide +kernel

/-- the running maximum's first value is a real number -/
theorem start_real (col : Fin 2048) : ∃ M : ℝ, (k0_pay2 : FVec Ideal SM .f32) (ix2 0 col) = (M : EReal) := ofBits_start

/-- A head's attention from its blocks is the reference's result at the head's rows and the sequence's columns. -/
theorem head_value (q : FVec Ideal S768x32768 .bf16) (k : FVec Ideal S32768x768 .bf16) (v : FVec Ideal S480x32768 .bf16)
    (hq : (Cert.Pre_served.fn (F := Ideal) q k v).1 = fun _ => 1#1) (hk : (Cert.Pre_served.fn (F := Ideal) q k v).2.1 = fun _ => 1#1)
    (hv : (Cert.Pre_served.fn (F := Ideal) q k v).2.2 = fun _ => 1#1) (b : Fin 2) (h : Fin 6)
    (Q : FVec Ideal SQs .bf16) (K : FVec Ideal SKs .bf16) (V : FVec Ideal SVs .bf16)
    (hQ : ∀ (c : Fin 128) (x : Fin 16384), Q (ix2 c x) = q (ix2 ⟨h.val * 128 + c.val, by omega⟩ ⟨b.val * 16384 + x.val, by omega⟩))
    (hK : ∀ (x : Fin 16384) (c : Fin 128), K (ix2 x c) = k (ix2 ⟨b.val * 16384 + x.val, by omega⟩ ⟨h.val * 128 + c.val, by omega⟩))
    (hV : ∀ (d : Fin 80) (x : Fin 16384), V (ix2 d x) = v (ix2 ⟨h.val * 80 + d.val, by omega⟩ ⟨b.val * 16384 + x.val, by omega⟩))
    (r : Fin 64) (x : Fin 16384) :
    headOut (F := Ideal) Q K V (ix2 r x) = Ref.result q k v (ix2 ⟨h.val * 64 + r.val, by omega⟩ ⟨b.val * 16384 + x.val, by omega⟩) := by
  obtain ⟨σ, hσ⟩ := Served.real_scores q k v hq hk
  obtain ⟨m, hm⟩ := Ref.result_at q k v σ hσ ⟨h.val * 64 + r.val, by omega⟩ ⟨b.val * 16384 + x.val, by omega⟩ b h x
    (by show b.val = (b.val * 16384 + x.val) / 16384; omega) (by show h.val = (h.val * 64 + r.val) / 64; omega)
    (by show x.val = (b.val * 16384 + x.val) % 16384; omega)
  have ones : ∀ κ : Fin 16384, V (ix2 64 κ) = (1 : EReal) := fun κ => (hV 64 κ).trans (Served.ones_v q k v hv h _)
  have prods : ∀ (κ : Fin 16384) (col : Fin 2048), ∑ c : Fin 128, K (ix2 κ c) * qTile (F := Ideal) Q ⟨x.val / 2048, by omega⟩ (ix2 c col)
      = (σ b h ⟨2048 * (x.val / 2048) + col.val, by omega⟩ κ : EReal) := fun κ col => by
    rw [← hσ]
    refine Finset.sum_congr rfl fun c _ => ?_
    rw [mul_comm, hK]
    exact congrArg (· * _) (hQ c ⟨2048 * (x.val / 2048) + col.val, by omega⟩)
  have e := tileOut_at k0_pay2 (qTile (F := Ideal) Q ⟨x.val / 2048, by omega⟩) K V
    (fun κ col => σ b h ⟨2048 * (x.val / 2048) + col.val, by omega⟩ κ) start_real prods ones r ⟨x.val % 2048, by omega⟩ m
  have hx : (⟨2048 * (x.val / 2048) + x.val % 2048, by omega⟩ : Fin 16384) = x := Fin.ext (by show 2048 * (x.val / 2048) + x.val % 2048 = x.val; omega)
  have eo : headOut (F := Ideal) Q K V (ix2 r x)
      = tileOut (F := Ideal) k0_pay2 (qTile (F := Ideal) Q ⟨x.val / 2048, by omega⟩) K V (ix2 r ⟨x.val % 2048, by omega⟩) := by
    unfold headOut mlaOut
    simp only [ix2_0, ix2_1]
  rw [eo, e, hm]
  simp only [hx]
  have vals : ∀ κ : Fin 16384, V (ix2 ⟨r.val, by omega⟩ κ) = v (ix2 ⟨(h.val * 64 + r.val) / 64 * 80 + (h.val * 64 + r.val) % 64, by omega⟩
      ⟨(b.val * 16384 + x.val) / 16384 * 16384 + κ.val, by omega⟩) := fun κ => by
    have er : (⟨h.val * 80 + r.val, by omega⟩ : Fin 480) = ⟨(h.val * 64 + r.val) / 64 * 80 + (h.val * 64 + r.val) % 64, by omega⟩ :=
      Fin.ext (by show h.val * 80 + r.val = (h.val * 64 + r.val) / 64 * 80 + (h.val * 64 + r.val) % 64; omega)
    have ek : (⟨b.val * 16384 + κ.val, by omega⟩ : Fin 32768) = ⟨(b.val * 16384 + x.val) / 16384 * 16384 + κ.val, by omega⟩ :=
      Fin.ext (by show b.val * 16384 + κ.val = (b.val * 16384 + x.val) / 16384 * 16384 + κ.val; omega)
    rw [hV, ← er, ← ek]
  simp only [vals]

variable (m : (ℓ : Loc nD τ sig) → Buf (Elt Ideal) ℓ)

/-- The result array after the run is the reference's result. -/
theorem final (c : Dev nD) (hpre : Cert.Pre_KernelIdeal_served m) : (dats m 0 c).arrAt 3 (cfgs 0).N
    = Ref.result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after_3]
  have ht : t.val < 12 := t.isLt
  obtain ⟨e0, e1, e2, e3⟩ := idx t
  idx_vars y
  refine (head_value _ _ _ (hpre c).1 (hpre c).2.1 (hpre c).2.2 ⟨t.val / 6, by omega⟩ ⟨t.val % 6, by omega⟩ (iblk m c 0 t) (iblk m c 1 t)
    (iblk m c 2 t) (fun a x => ?_) (fun x a => ?_) (fun a x => ?_) y0 y1).trans ?_
  · blk_ext [iblk, V, idx t]
  · blk_ext [iblk, V, idx t]
  · blk_ext [iblk, V, idx t]
  · refine congrArg (Ref.result _ _ _) ?_
    blk_ext [idx t]

end Cert.Proof.Mla.KI

end
-- ==== Proof.Norm.lean ====
/-
  Layer normalisation of the rows of a matrix, as a stripe of 256 rows computes it and as the whole matrix does.

  Both read, at an index, as one expression in that row's numbers; nothing else of the two calls that end in a layer
  normalisation needs to look inside it.
-/
module

public import Idealize.ShloMosaic.Lib.Pointwise

@[expose] public section

set_option maxRecDepth 16384

noncomputable section

namespace Cert.Proof.Norm

open Idealize.ShloMosaic Idealize.ShloMosaic.TcCoe

abbrev Stripe : Shape := ⟨2, ![256, 1024]⟩
abbrev StripeRow : Shape := ⟨1, ![256]⟩
abbrev StripeCol : Shape := ⟨2, ![256, 1]⟩
abbrev Line : Shape := ⟨2, ![1, 1024]⟩
abbrev Whole : Shape := ⟨2, ![32768, 1024]⟩
abbrev WholeRow : Shape := ⟨1, ![32768]⟩
abbrev WholeCol : Shape := ⟨2, ![32768, 1]⟩
abbrev One : Shape := ⟨0, ![]⟩

variable {F : FTy → Type} [FloatOps F]

/-- a stripe less its rows' means -/
def centred (z : FVec F Stripe .f32) : FVec F Stripe .f32 :=
  subf z (broadcastTo Stripe (divf (shapeCast StripeCol (multiReduction .add [1] StripeRow z 0x00000000#32 (by decide) (.inl rfl) rfl) (by decide))
    (broadcast StripeCol (Scalar.ofBits .f32 0x44800000#32))) (by decide))

/-- the inverse deviation of the rows of a centred stripe -/
def invDev (d : FVec F Stripe .f32) : FVec F StripeCol .f32 :=
  rsqrt (addf (divf (shapeCast StripeCol (multiReduction .add [1] StripeRow (mulf d d) 0x00000000#32 (by decide) (.inl rfl) rfl) (by decide))
    (broadcast StripeCol (Scalar.ofBits .f32 0x44800000#32))) (broadcast StripeCol (Scalar.ofBits .f32 0x3727C5AC#32)))

/-- the layer normalisation of a stripe -/
def norm (z : FVec F Stripe .f32) (g b : FVec F Line .f32) : FVec F Stripe .f32 :=
  addf (mulf (mulf (centred z) (broadcastTo Stripe (invDev (centred z)) (by decide))) (broadcastTo Stripe g (by decide))) (broadcastTo Stripe b (by decide))

/-- the whole matrix less its rows' means -/
def centredW (z : FVec F Whole .f32) : FVec F Whole .f32 :=
  subf z (broadcastInDim Whole ![0, 1] (by decide) (Host.divf (broadcastInDim WholeCol ![0] (by decide)
    (Host.reduceAdd z (constant One .f32 0x00000000#32) (by decide : Whole.ReducesTo [1] WholeRow) (by decide)))
    (broadcastInDim WholeCol ![] (by decide) (constant One .f32 0x44800000#32))))

/-- the inverse deviation of the rows of the whole matrix, centred -/
def invDevW (d : FVec F Whole .f32) : FVec F WholeCol .f32 :=
  Host.rsqrt (addf (Host.divf (broadcastInDim WholeCol ![0] (by decide)
    (Host.reduceAdd (mulf d d) (constant One .f32 0x00000000#32) (by decide : Whole.ReducesTo [1] WholeRow) (by decide)))
    (broadcastInDim WholeCol ![] (by decide) (constant One .f32 0x44800000#32)))
    (broadcastInDim WholeCol ![] (by decide) (constant One .f32 0x3727C5AC#32)))

/-- the layer normalisation of the whole matrix -/
def normW (z : FVec F Whole .f32) (g b : FVec F Line .f32) : FVec F Whole .f32 :=
  addf (mulf (mulf (centredW z) (broadcastInDim Whole ![0, 1] (by decide) (invDevW (centredW z)))) (broadcastInDim Whole ![0, 1] (by decide) g))
    (broadcastInDim Whole ![0, 1] (by decide) b)

/-- one row, centred -/
def rowC (z : Fin 1024 → EReal) (l : Fin 1024) : EReal := z l - Ideal.div (∑ j : Fin 1024, z j) (Ideal.ofBits .f32 0x44800000#32)

/-- the inverse deviation of one centred row -/
def rowD (d : Fin 1024 → EReal) : EReal :=
  Ideal.rsqrt (Ideal.div (∑ j : Fin 1024, d j * d j) (Ideal.ofBits .f32 0x44800000#32) + Ideal.ofBits .f32 0x3727C5AC#32)

/-- one row, normalised -/
def rowN (z : Fin 1024 → EReal) (g b : EReal) (l : Fin 1024) : EReal := rowC z l * rowD (rowC z) * g + b

theorem centred_at (z : FVec Ideal Stripe .f32) (r : Fin 256) (l : Fin 1024) : centred z (ix2 r l) = rowC (fun j => z (ix2 r j)) l := by
  pointwise [centred, rowC]

theorem invDev_at (d : FVec Ideal Stripe .f32) (r : Fin 256) : invDev d (ix2 r 0) = rowD (fun j => d (ix2 r j)) := by
  pointwise [invDev, rowD]

theorem norm_at (z : FVec Ideal Stripe .f32) (g b : FVec Ideal Line .f32) (r : Fin 256) (l : Fin 1024) :
    norm z g b (ix2 r l) = rowN (fun j => z (ix2 r j)) (g (ix2 0 l)) (b (ix2 0 l)) l := by
  pointwise [norm, centred_at, invDev_at, rowN]

theorem centredW_at (z : FVec Ideal Whole .f32) (r : Fin 32768) (l : Fin 1024) : centredW z (ix2 r l) = rowC (fun j => z (ix2 r j)) l := by
  pointwise [centredW, rowC]

theorem invDevW_at (d : FVec Ideal Whole .f32) (r : Fin 32768) : invDevW d (ix2 r 0) = rowD (fun j => d (ix2 r j)) := by
  pointwise [invDevW, rowD]

theorem normW_at (z : FVec Ideal Whole .f32) (g b : FVec Ideal Line .f32) (r : Fin 32768) (l : Fin 1024) :
    normW z g b (ix2 r l) = rowN (fun j => z (ix2 r j)) (g (ix2 0 l)) (b (ix2 0 l)) l := by
  pointwise [normW, centredW_at, invDevW_at, rowN]

end Cert.Proof.Norm

end
-- ==== Proof.FfnTile.lean ====
/-
  One stripe of 256 rows of the feed-forward layer, written once.

  The kernel's body works through four stripes, and the print cuts each stripe's text at other places.  `stripe` is the
  text they share; each of the body's four stores is it, of the stripe's own rows.
-/
module

public import proofs.«01_k».proof.Proof.Gen.FfnIdeal.Frame
public import proofs.«01_k».proof.Proof.Norm
public import Idealize.ShloMosaic.Lib.Pointwise

@[expose] public section

set_option maxRecDepth 16384

noncomputable section

namespace Cert.Proof.Ffn

open Idealize.ShloMosaic Idealize.ShloMosaic.TcCoe
open Cert.FfnIdeal Cert.FfnIdeal.Gen Cert.FfnIdeal.Facts Cert.FfnIdeal.Facts₀
open Cert.Proof.Norm

variable {F : FTy → Type} [FloatOps F]

/-- 1024 of the hidden units, of a stripe -/
def hid (x : Vec F S256x1024 .f32) (w : Vec F S1024x1024 .bf16) (b : Vec F S1x1024 .f32) : FVec F S256x1024 .bf16 :=
  have a : FVec F S256x1024 .f32 :=
    maximumf (addf (matmul dot_S256x1024_S1024x1024_S256x1024_1_0_0_1_n_n none (truncf .bf16 x (by decide)) w (constant S256x1024 .f32 0x00000000#32))
      (broadcastTo S256x1024 b (by decide))) (broadcast S256x1024 (Scalar.ofBits .f32 0x00000000#32))
  truncf .bf16 (mulf a a) (by decide)

/-- what 1024 hidden units add to a stripe's output -/
def part (h : FVec F S256x1024 .bf16) (w : Vec F S1024x1024 .bf16) : FVec F S256x1024 .f32 :=
  matmul dot_S256x1024_S1024x1024_S256x1024_1_0_0_1_n_n none h w (constant S256x1024 .f32 0x00000000#32)

/-- a stripe's rows before the layer normalisation -/
def resid (x : Vec F S256x1024 .f32) (w0 w1 w2 w3 : Vec F S1024x1024 .bf16) (b0 b1 b2 b3 : Vec F S1x1024 .f32)
    (u0 u1 u2 u3 : Vec F S1024x1024 .bf16) (c : Vec F S1x1024 .f32) : FVec F S256x1024 .f32 :=
  addf (mulf (broadcast S256x1024 (Scalar.ofBits .f32 0x3FB504F3#32)) x)
    (addf (addf (addf (addf (broadcastTo S256x1024 c (by decide)) (part (hid x w0 b0) u0)) (part (hid x w1 b1) u1)) (part (hid x w2 b2) u2))
      (part (hid x w3 b3) u3))

/-- the stripe whose rows are `r` of the block, from the windows' blocks -/
def stripe (x0 : Vec F S1024x1024 .f32) (x1 : Vec F S1024x4096 .bf16) (x2 : Vec F S1x4096 .f32) (x3 : Vec F S4096x1024 .bf16)
    (x4 x5 x6 : Vec F S1x1024 .f32) (x : Vec F S256x1024 .f32) : FVec F S256x1024 .f32 :=
  norm (resid x (View.ld x1 r0_2) (View.ld x1 r0_5) (View.ld x1 r0_8) (View.ld x1 r0_11) (View.ld x2 r0_3) (View.ld x2 r0_6) (View.ld x2 r0_9)
    (View.ld x2 r0_12) (View.ld x3 r0_4) (View.ld x3 r0_7) (View.ld x3 r0_10) (View.ld x3 r0_13) (View.ld x4 r0_1)) (View.ld x5 r0_1) (View.ld x6 r0_1)

/-- The body's four stores are the four stripes. -/
theorem out_eq (x0 : Vec F S1024x1024 .f32) (x1 : Vec F S1024x4096 .bf16) (x2 : Vec F S1x4096 .f32) (x3 : Vec F S4096x1024 .bf16)
    (x4 x5 x6 : Vec F S1x1024 .f32) : out0_7 x0 x1 x2 x3 x4 x5 x6
    = View.canon [⟨r0_16, stripe x0 x1 x2 x3 x4 x5 x6 (View.ld x0 r0_16)⟩, ⟨r0_15, stripe x0 x1 x2 x3 x4 x5 x6 (View.ld x0 r0_15)⟩,
        ⟨r0_14, stripe x0 x1 x2 x3 x4 x5 x6 (View.ld x0 r0_14)⟩, ⟨r0_0, stripe x0 x1 x2 x3 x4 x5 x6 (View.ld x0 r0_0)⟩] := by
  rfl

end Cert.Proof.Ffn

end
-- ==== Proof.FfnRow.lean ====
/- A stripe of the feed-forward layer, and the reference's whole result, read at an index: one row's numbers. -/
module

public import proofs.«01_k».proof.Proof.FfnTile
public import proofs.«01_k».proof.Proof.Gen.RefFfnIdeal.Run
public import Idealize.ShloMosaic.Lib.Pointwise

@[expose] public section

set_option maxRecDepth 16384

noncomputable section

namespace Cert.Proof.Ffn

open Idealize.ShloMosaic Idealize.ShloMosaic.TcCoe
open Cert.Proof.Norm

/-- the hidden unit's activation: the square of its positive part -/
def act (u : EReal) : EReal := max u (Ideal.ofBits .f32 0x00000000#32) * max u (Ideal.ofBits .f32 0x00000000#32)

/-- one row before the layer normalisation -/
def rowZ (x : Fin 1024 → EReal) (w1 : Fin 1024 → Fin 4096 → EReal) (b1 : Fin 4096 → EReal) (w2 : Fin 4096 → Fin 1024 → EReal) (b2 : Fin 1024 → EReal)
    (l : Fin 1024) : EReal :=
  Ideal.ofBits .f32 0x3FB504F3#32 * x l + (∑ k : Fin 4096, act (∑ d : Fin 1024, x d * w1 d k + b1 k) * w2 k l + b2 l)

section Tile
open Cert.FfnIdeal Cert.FfnIdeal.Gen Cert.FfnIdeal.Facts Cert.FfnIdeal.Facts₀

theorem hid_at (x : FVec Ideal S256x1024 .f32) (w : FVec Ideal S1024x1024 .bf16) (b : FVec Ideal S1x1024 .f32) (r : Fin 256) (k : Fin 1024) :
    hid (F := Ideal) x w b (ix2 r k) = act (∑ d : Fin 1024, x (ix2 r d) * w (ix2 d k) + b (ix2 0 k)) := by
  pointwise [hid, act]

theorem part_at (h : FVec Ideal S256x1024 .bf16) (w : FVec Ideal S1024x1024 .bf16) (r : Fin 256) (l : Fin 1024) :
    part (F := Ideal) h w (ix2 r l) = ∑ k : Fin 1024, h (ix2 r k) * w (ix2 k l) := by
  pointwise [part]

/-- what the hidden units from `o` on add -/
def chunk (x : Fin 1024 → EReal) (w1 : Fin 1024 → Fin 4096 → EReal) (b1 : Fin 4096 → EReal) (w2 : Fin 4096 → Fin 1024 → EReal) (l : Fin 1024)
    (j : Fin 4) : EReal :=
  ∑ k : Fin 1024, act (∑ d : Fin 1024, x d * w1 d ⟨j.val * 1024 + k.val, by omega⟩ + b1 ⟨j.val * 1024 + k.val, by omega⟩)
    * w2 ⟨j.val * 1024 + k.val, by omega⟩ l

/-- The four chunks with the bias are the sum over all hidden units with the bias. -/
theorem chunks (x : Fin 1024 → EReal) (w1 : Fin 1024 → Fin 4096 → EReal) (b1 : Fin 4096 → EReal) (w2 : Fin 4096 → Fin 1024 → EReal) (l : Fin 1024)
    (c : EReal) : c + chunk x w1 b1 w2 l 0 + chunk x w1 b1 w2 l 1 + chunk x w1 b1 w2 l 2 + chunk x w1 b1 w2 l 3
      = ∑ k : Fin 4096, act (∑ d : Fin 1024, x d * w1 d k + b1 k) * w2 k l + c := by
  rw [Fin.sum_univ_tiles 4 1024 rfl (fun k : Fin 4096 => act (∑ d : Fin 1024, x d * w1 d k + b1 k) * w2 k l), Fin.sum_univ_four, add_comm _ c]
  simp only [chunk, add_assoc]

theorem stripe_at (x0 : FVec Ideal S1024x1024 .f32) (x1 : FVec Ideal S1024x4096 .bf16) (x2 : FVec Ideal S1x4096 .f32) (x3 : FVec Ideal S4096x1024 .bf16)
    (x4 x5 x6 : FVec Ideal S1x1024 .f32) (x : FVec Ideal S256x1024 .f32) (r : Fin 256) (l : Fin 1024) :
    stripe (F := Ideal) x0 x1 x2 x3 x4 x5 x6 x (ix2 r l)
      = rowN (rowZ (fun d => x (ix2 r d)) (fun d k => x1 (ix2 d k)) (fun k => x2 (ix2 0 k)) (fun k j => x3 (ix2 k j)) (fun j => x4 (ix2 0 j)))
          (x5 (ix2 0 l)) (x6 (ix2 0 l)) l := by
  have z : ∀ j : Fin 1024, resid (F := Ideal) x (View.ld x1 r0_2) (View.ld x1 r0_5) (View.ld x1 r0_8) (View.ld x1 r0_11) (View.ld x2 r0_3) (View.ld x2 r0_6)
      (View.ld x2 r0_9) (View.ld x2 r0_12) (View.ld x3 r0_4) (View.ld x3 r0_7) (View.ld x3 r0_10) (View.ld x3 r0_13) (View.ld x4 r0_1) (ix2 r j)
      = rowZ (fun d => x (ix2 r d)) (fun d k => x1 (ix2 d k)) (fun k => x2 (ix2 0 k)) (fun k j => x3 (ix2 k j)) (fun j => x4 (ix2 0 j)) j := fun j => by
    unfold rowZ
    rw [← chunks (fun d => x (ix2 r d)) (fun d k => x1 (ix2 d k)) (fun k => x2 (ix2 0 k)) (fun k j => x3 (ix2 k j)) j (x4 (ix2 0 j))]
    pointwise [resid, part_at, hid_at, chunk]
  unfold stripe
  rw [norm_at]
  simp only [z]
  pointwise

end Tile

namespace Ref
open Cert.RefFfnIdeal Cert.RefFfnIdeal.Gen Cert.RefFfnIdeal.Facts Cert.RefFfnIdeal.Facts₀

variable (x : FVec Ideal S32768x1024 .f32) (w1 : FVec Ideal S1024x4096 .bf16) (b1 : FVec Ideal S1x4096 .f32) (w2 : FVec Ideal S4096x1024 .bf16)
  (b2 g b : FVec Ideal S1x1024 .f32)

/-- the hidden units before the activation -/
def pre : FVec Ideal S32768x4096 .f32 :=
  addf (Host.dotGeneral dot_S32768x1024_S1024x4096_S32768x4096_1_0_0_1_n_n none x (extf .f32 w1 (by decide))) (broadcastInDim S32768x4096 ![0, 1] (by decide) b1)

/-- the hidden units -/
def units (u : FVec Ideal S32768x4096 .f32) : FVec Ideal S32768x4096 .f32 :=
  mulf (maximumf u (broadcastInDim S32768x4096 ![] (by decide) (constant S_ .f32 0x00000000#32)))
    (maximumf u (broadcastInDim S32768x4096 ![] (by decide) (constant S_ .f32 0x00000000#32)))

/-- the rows before the layer normalisation -/
def summed (h : FVec Ideal S32768x4096 .f32) : FVec Ideal S32768x1024 .f32 :=
  addf (mulf (broadcastInDim S32768x1024 ![] (by decide) (constant S_ .f32 0x3FB504F3#32)) x)
    (addf (Host.dotGeneral dot_S32768x4096_S4096x1024_S32768x1024_1_0_0_1_n_n none h (extf .f32 w2 (by decide))) (broadcastInDim S32768x1024 ![0, 1] (by decide) b2))

/-- the reference's result -/
def result : FVec Ideal S32768x1024 .f32 := normW (summed x w2 b2 (units (pre x w1 b1))) g b

theorem pre_at (r : Fin 32768) (k : Fin 4096) : pre x w1 b1 (ix2 r k) = ∑ d : Fin 1024, x (ix2 r d) * w1 (ix2 d k) + b1 (ix2 0 k) := by
  pointwise [pre]

theorem units_at (u : FVec Ideal S32768x4096 .f32) (r : Fin 32768) (k : Fin 4096) : units u (ix2 r k) = act (u (ix2 r k)) := by
  pointwise [units, act]

theorem summed_at (h : FVec Ideal S32768x4096 .f32) (r : Fin 32768) (l : Fin 1024) : summed x w2 b2 h (ix2 r l)
    = Ideal.ofBits .f32 0x3FB504F3#32 * x (ix2 r l) + (∑ k : Fin 4096, h (ix2 r k) * w2 (ix2 k l) + b2 (ix2 0 l)) := by
  pointwise [summed]

theorem result_at (r : Fin 32768) (l : Fin 1024) : result x w1 b1 w2 b2 g b (ix2 r l)
    = rowN (rowZ (fun d => x (ix2 r d)) (fun d k => w1 (ix2 d k)) (fun k => b1 (ix2 0 k)) (fun k j => w2 (ix2 k j)) (fun j => b2 (ix2 0 j)))
        (g (ix2 0 l)) (b (ix2 0 l)) l := by
  unfold result
  rw [normW_at]
  simp only [summed_at, units_at, pre_at]
  rfl

/-- It is what the run leaves. -/
theorem run_result (m : (ℓ : Loc nD τ sig) → Buf (Elt Ideal) ℓ) (c : Dev nD) : Cert.RefFfnIdeal.Value.res_out0 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold Cert.RefFfnIdeal.Value.res_out0 Cert.RefFfnIdeal.Value.res_main_v34
  rfl

end Ref

end Cert.Proof.Ffn

end
-- ==== Proof.FfnFinal.lean ====
/- The feed-forward kernel's result array is the reference's. -/
module

public import proofs.«01_k».proof.Proof.FfnRow
public import Idealize.ShloMosaic.Lib.Pipeline.ValueKit

@[expose] public section

set_option maxRecDepth 16384

noncomputable section

namespace Cert.Proof.Ffn

open Idealize.ShloMosaic Idealize.ShloMosaic.TcCoe Idealize.SL.Sem
open Cert.Proof.Norm
open Cert.FfnIdeal Cert.FfnIdeal.Gen

/-- which block of each array a grid point has: 1024 rows of the input and of the result, and all of the others -/
theorem idx : ∀ t : Fin cfg0.N,
    (cfg0.win 0).index t = ![t.val, 0] ∧ (cfg0.win 1).index t = ![0, 0] ∧ (cfg0.win 2).index t = ![0, 0] ∧ (cfg0.win 3).index t = ![0, 0]
      ∧ (cfg0.win 4).index t = ![0, 0] ∧ (cfg0.win 5).index t = ![0, 0] ∧ (cfg0.win 6).index t = ![0, 0] ∧ (cfg0.win 7).index t = ![t.val, 0] := by
  decide +kernel

/-- The body's output block at an index is one row's numbers. -/
theorem out_at (x0 : FVec Ideal S1024x1024 .f32) (x1 : FVec Ideal S1024x4096 .bf16) (x2 : FVec Ideal S1x4096 .f32) (x3 : FVec Ideal S4096x1024 .bf16)
    (x4 x5 x6 : FVec Ideal S1x1024 .f32) (r l : Fin 1024) : out0_7 (F := Ideal) x0 x1 x2 x3 x4 x5 x6 (ix2 r l)
      = rowN (rowZ (fun d => x0 (ix2 r d)) (fun d k => x1 (ix2 d k)) (fun k => x2 (ix2 0 k)) (fun k j => x3 (ix2 k j)) (fun j => x4 (ix2 0 j)))
          (x5 (ix2 0 l)) (x6 (ix2 0 l)) l := by
  rw [out_eq]
  canon_tiles y h
  all_goals
    idx_vars y
    obtain rfl : l = y1 := Fin.ext h1
    rw [stripe_at]
    congr 1
    congr 1
    funext d
    pointwise
    blk_ext

variable (m : (ℓ : Loc nD τ sig) → Buf (Elt Ideal) ℓ)

/-- The result array after the run is the reference's result. -/
theorem final (c : Dev nD) : (dats m 0 c).arrAt 7 (cfgs 0).N
    = Ref.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  have ht : t.val < 32 := t.isLt
  idx_vars y
  refine (out_at _ _ _ _ _ _ _ y0 y1).trans ?_
  refine Eq.trans ?_ (Eq.trans (Ref.result_at _ _ _ _ _ _ _ ⟨t.val * 1024 + y0.val, by omega⟩ y1).symm (congrArg (Ref.result _ _ _ _ _ _ _) ?_))
  · have e0 : ∀ d : Fin 1024, iblk m c 0 t (ix2 y0 d) = m ((c : Thread nD τ).loc main_arg0) (ix2 ⟨t.val * 1024 + y0.val, by omega⟩ d) := fun d => by
      blk_ext [iblk, V, idx t]
    have e1 : ∀ (d : Fin 1024) (k : Fin 4096), iblk m c 1 t (ix2 d k) = m ((c : Thread nD τ).loc main_arg1) (ix2 d k) := fun d k => by
      blk_ext [iblk, V, idx t]
    have e2 : ∀ k : Fin 4096, iblk m c 2 t (ix2 0 k) = m ((c : Thread nD τ).loc main_arg2) (ix2 0 k) := fun k => by blk_ext [iblk, V, idx t]
    have e3 : ∀ (k : Fin 4096) (j : Fin 1024), iblk m c 3 t (ix2 k j) = m ((c : Thread nD τ).loc main_arg3) (ix2 k j) := fun k j => by
      blk_ext [iblk, V, idx t]
    have e4 : ∀ j : Fin 1024, iblk m c 4 t (ix2 0 j) = m ((c : Thread nD τ).loc main_arg4) (ix2 0 j) := fun j => by blk_ext [iblk, V, idx t]
    have e5 : ∀ j : Fin 1024, iblk m c 5 t (ix2 0 j) = m ((c : Thread nD τ).loc main_arg5) (ix2 0 j) := fun j => by blk_ext [iblk, V, idx t]
    have e6 : ∀ j : Fin 1024, iblk m c 6 t (ix2 0 j) = m ((c : Thread nD τ).loc main_arg6) (ix2 0 j) := fun j => by blk_ext [iblk, V, idx t]
    simp only [e0, e1, e2, e3, e4, e5, e6]
  · blk_ext [idx t]

end Cert.Proof.Ffn

end
-- ==== Proof.MergeTile.lean ====
/-
  One stripe of 256 rows of the merge, written once.

  The kernel's body works through four stripes, and the print cuts each stripe's text at other places.  `stripe` is the
  text they share; each of the body's four stores is it, of the stripe's own columns and rows.
-/
module

public import proofs.«01_k».proof.Proof.Gen.MergeIdeal.Frame
public import proofs.«01_k».proof.Proof.Norm
public import Idealize.ShloMosaic.Lib.Pointwise

@[expose] public section

set_option maxRecDepth 16384

noncomputable section

namespace Cert.Proof.Merge

open Idealize.ShloMosaic Idealize.ShloMosaic.TcCoe
open Cert.MergeIdeal Cert.MergeIdeal.Gen Cert.MergeIdeal.Facts Cert.MergeIdeal.Facts₀
open Cert.Proof.Norm

variable {F : FTy → Type} [FloatOps F]

/-- a path's output, turned to one row per token -/
def turned (o : Vec F S384x256 .f32) : FVec F S256x384 .f32 := transpose S256x384 [1, 0] o (by decide)

/-- each row over its root mean square, times a gain -/
def rms (z : FVec F S256x384 .f32) (g : Vec F S1x384 .f32) : FVec F S256x384 .f32 :=
  mulf (mulf z (broadcastTo S256x384 (rsqrt (addf (divf (shapeCast S256x1 (multiReduction .add [1] S256 (mulf z z) 0x00000000#32 (by decide) (.inl rfl) rfl) (by decide))
    (broadcast S256x1 (Scalar.ofBits .f32 0x43C00000#32))) (broadcast S256x1 (Scalar.ofBits .f32 0x3727C5AC#32)))) (by decide))) (broadcastTo S256x384 g (by decide))

/-- the three paths side by side -/
def beside (a b : FVec F S256x384 .f32) (y : Vec F S256x256 .bf16) : FVec F S256x1024 .bf16 :=
  concatenate S256x1024 1 [⟨S256x384, truncf .bf16 a (by decide)⟩, ⟨S256x384, truncf .bf16 b (by decide)⟩, ⟨S256x256, y⟩] Gen.concatenates_S256x384_S256x384_S256x256_S256x1024_d1

/-- a stripe's rows before the layer normalisation -/
def resid (h : FVec F S256x1024 .bf16) (x : Vec F S256x1024 .f32) (w : Vec F S1024x1024 .bf16) : FVec F S256x1024 .f32 :=
  addf (mulf (broadcast S256x1024 (Scalar.ofBits .f32 0x3FB504F3#32)) x)
    (matmul dot_S256x1024_S1024x1024_S256x1024_1_0_0_1_n_n none h w (constant S256x1024 .f32 0x00000000#32))

/-- a stripe, from its own parts of the paths' outputs and of the input, and the weights' blocks -/
def stripe (x4 : Vec F S1024x1024 .bf16) (x5 x6 : Vec F S1x384 .f32) (x7 x8 : Vec F S1x1024 .f32) (oa ob : Vec F S384x256 .f32)
    (y : Vec F S256x256 .bf16) (x : Vec F S256x1024 .f32) : FVec F S256x1024 .f32 :=
  norm (resid (beside (rms (turned oa) (View.ld x5 r0_1)) (rms (turned ob) (View.ld x6 r0_1)) y) x (View.ld x4 r0_3)) (View.ld x7 r0_5) (View.ld x8 r0_5)

/-- The body's four stores are the four stripes. -/
theorem out_eq (x0 x1 : Vec F S384x1024 .f32) (x2 : Vec F S1024x256 .bf16) (x3 : Vec F S1024x1024 .f32) (x4 : Vec F S1024x1024 .bf16)
    (x5 x6 : Vec F S1x384 .f32) (x7 x8 : Vec F S1x1024 .f32) : out0_9 x0 x1 x2 x3 x4 x5 x6 x7 x8
    = View.canon [⟨r0_14, stripe x4 x5 x6 x7 x8 (View.ld x0 r0_12) (View.ld x1 r0_12) (View.ld x2 r0_13) (View.ld x3 r0_14)⟩,
        ⟨r0_11, stripe x4 x5 x6 x7 x8 (View.ld x0 r0_9) (View.ld x1 r0_9) (View.ld x2 r0_10) (View.ld x3 r0_11)⟩,
        ⟨r0_8, stripe x4 x5 x6 x7 x8 (View.ld x0 r0_6) (View.ld x1 r0_6) (View.ld x2 r0_7) (View.ld x3 r0_8)⟩,
        ⟨r0_4, stripe x4 x5 x6 x7 x8 (View.ld x0 r0_0) (View.ld x1 r0_0) (View.ld x2 r0_2) (View.ld x3 r0_4)⟩] := by
  rfl

end Cert.Proof.Merge

end
-- ==== Proof.MergeRow.lean ====
/- A stripe of the merge, and the reference's whole result, read at an index: one token's numbers. -/
module

public import proofs.«01_k».proof.Proof.MergeTile
public import proofs.«01_k».proof.Proof.Gen.RefMergeIdeal.Run
public import Idealize.ShloMosaic.Lib.Pointwise
public import Idealize.ShloMosaic.Lib.Pipeline.ValueKit

@[expose] public section

set_option maxRecDepth 16384

noncomputable section

namespace Cert.Proof.Merge

open Idealize.ShloMosaic Idealize.ShloMosaic.TcCoe
open Cert.Proof.Norm

/-- a row over its root mean square, times a gain -/
def rowR (z g : Fin 384 → EReal) (l : Fin 384) : EReal :=
  z l * Ideal.rsqrt (Ideal.div (∑ j : Fin 384, z j * z j) (Ideal.ofBits .f32 0x43C00000#32) + Ideal.ofBits .f32 0x3727C5AC#32) * g l

/-- three rows side by side -/
def cat (a b : Fin 384 → EReal) (y : Fin 256 → EReal) (k : Fin 1024) : EReal :=
  if h : k.val < 384 then a ⟨k.val, h⟩ else if h2 : k.val - 384 < 384 then b ⟨k.val - 384, h2⟩ else y ⟨k.val - 384 - 384, by omega⟩

/-- one row before the layer normalisation -/
def rowZ (h x : Fin 1024 → EReal) (w : Fin 1024 → Fin 1024 → EReal) (l : Fin 1024) : EReal :=
  Ideal.ofBits .f32 0x3FB504F3#32 * x l + ∑ k : Fin 1024, h k * w k l

section Tile
open Cert.MergeIdeal Cert.MergeIdeal.Gen Cert.MergeIdeal.Facts Cert.MergeIdeal.Facts₀

theorem turned_at (o : FVec Ideal S384x256 .f32) (r : Fin 256) (k : Fin 384) : turned (F := Ideal) o (ix2 r k) = o (ix2 k r) := by
  pointwise [turned]

theorem rms_at (z : FVec Ideal S256x384 .f32) (g : FVec Ideal S1x384 .f32) (r : Fin 256) (k : Fin 384) :
    rms (F := Ideal) z g (ix2 r k) = rowR (fun j => z (ix2 r j)) (fun j => g (ix2 0 j)) k := by
  pointwise [rms, rowR]

theorem beside_at (a b : FVec Ideal S256x384 .f32) (y : FVec Ideal S256x256 .bf16) (r : Fin 256) (k : Fin 1024) :
    beside (F := Ideal) a b y (ix2 r k) = cat (fun j => a (ix2 r j)) (fun j => b (ix2 r j)) (fun j => y (ix2 r j)) k := by
  pointwise [beside, cat]

theorem resid_at (h : FVec Ideal S256x1024 .bf16) (x : FVec Ideal S256x1024 .f32) (w : FVec Ideal S1024x1024 .bf16) (r : Fin 256) (l : Fin 1024) :
    resid (F := Ideal) h x w (ix2 r l) = rowZ (fun k => h (ix2 r k)) (fun k => x (ix2 r k)) (fun k j => w (ix2 k j)) l := by
  pointwise [resid, rowZ]

theorem stripe_at (x4 : FVec Ideal S1024x1024 .bf16) (x5 x6 : FVec Ideal S1x384 .f32) (x7 x8 : FVec Ideal S1x1024 .f32) (oa ob : FVec Ideal S384x256 .f32)
    (y : FVec Ideal S256x256 .bf16) (x : FVec Ideal S256x1024 .f32) (r : Fin 256) (l : Fin 1024) :
    stripe (F := Ideal) x4 x5 x6 x7 x8 oa ob y x (ix2 r l)
      = rowN (rowZ (cat (rowR (fun j => oa (ix2 j r)) (fun j => x5 (ix2 0 j))) (rowR (fun j => ob (ix2 j r)) (fun j => x6 (ix2 0 j))) (fun j => y (ix2 r j)))
          (fun k => x (ix2 r k)) (fun k j => x4 (ix2 k j))) (x7 (ix2 0 l)) (x8 (ix2 0 l)) l := by
  unfold stripe
  rw [norm_at]
  simp only [resid_at, beside_at, rms_at, turned_at]
  pointwise

end Tile

namespace Ref
open Cert.RefMergeIdeal Cert.RefMergeIdeal.Gen Cert.RefMergeIdeal.Facts Cert.RefMergeIdeal.Facts₀

/-- a path's output, turned to one row per token -/
def turned (o : FVec Ideal S384x32768 .f32) : FVec Ideal S32768x384 .f32 := transpose S32768x384 [1, 0] o (by decide)

/-- each row over its root mean square, times a gain -/
def rms (z : FVec Ideal S32768x384 .f32) (g : FVec Ideal S1x384 .f32) : FVec Ideal S32768x384 .f32 :=
  mulf (mulf z (broadcastInDim S32768x384 ![0, 1] (by decide) (Host.rsqrt (addf (Host.divf (broadcastInDim S32768x1 ![0] (by decide)
      (Host.reduceAdd (mulf z z) (constant S_ .f32 0x00000000#32) (by decide : S32768x384.ReducesTo [1] S32768) (by decide)))
    (broadcastInDim S32768x1 ![] (by decide) (constant S_ .f32 0x43C00000#32))) (broadcastInDim S32768x1 ![] (by decide) (constant S_ .f32 0x3727C5AC#32))))))
    (broadcastInDim S32768x384 ![0, 1] (by decide) g)

/-- the three paths side by side -/
def beside (a b : FVec Ideal S32768x384 .f32) (y : FVec Ideal S32768x256 .bf16) : FVec Ideal S32768x1024 .f32 :=
  concatenate S32768x1024 1 [⟨S32768x384, a⟩, ⟨S32768x384, b⟩, ⟨S32768x256, extf .f32 y (by decide)⟩]
    Gen.concatenates_S32768x384_S32768x384_S32768x256_S32768x1024_d1

/-- the rows before the layer normalisation -/
def summed (h x : FVec Ideal S32768x1024 .f32) (w : FVec Ideal S1024x1024 .bf16) : FVec Ideal S32768x1024 .f32 :=
  addf (mulf (broadcastInDim S32768x1024 ![] (by decide) (constant S_ .f32 0x3FB504F3#32)) x)
    (Host.dotGeneral dot_S32768x1024_S1024x1024_S32768x1024_1_0_0_1_n_n none h (extf .f32 w (by decide)))

variable (oa ob : FVec Ideal S384x32768 .f32) (y : FVec Ideal S32768x256 .bf16) (x : FVec Ideal S32768x1024 .f32) (w : FVec Ideal S1024x1024 .bf16)
  (ga gb : FVec Ideal S1x384 .f32) (g b : FVec Ideal S1x1024 .f32)

/-- the reference's result -/
def result : FVec Ideal S32768x1024 .f32 := normW (summed (beside (rms (turned oa) ga) (rms (turned ob) gb) y) x w) g b

theorem turned_at (o : FVec Ideal S384x32768 .f32) (r : Fin 32768) (k : Fin 384) : turned o (ix2 r k) = o (ix2 k r) := by
  pointwise [turned]

theorem rms_at (z : FVec Ideal S32768x384 .f32) (g : FVec Ideal S1x384 .f32) (r : Fin 32768) (k : Fin 384) :
    rms z g (ix2 r k) = rowR (fun j => z (ix2 r j)) (fun j => g (ix2 0 j)) k := by
  pointwise [rms, rowR]

theorem beside_at (a b : FVec Ideal S32768x384 .f32) (y : FVec Ideal S32768x256 .bf16) (r : Fin 32768) (k : Fin 1024) :
    beside a b y (ix2 r k) = cat (fun j => a (ix2 r j)) (fun j => b (ix2 r j)) (fun j => y (ix2 r j)) k := by
  pointwise [beside, cat]

theorem summed_at (h x : FVec Ideal S32768x1024 .f32) (w : FVec Ideal S1024x1024 .bf16) (r : Fin 32768) (l : Fin 1024) :
    summed h x w (ix2 r l) = rowZ (fun k => h (ix2 r k)) (fun k => x (ix2 r k)) (fun k j => w (ix2 k j)) l := by
  pointwise [summed, rowZ]

theorem result_at (r : Fin 32768) (l : Fin 1024) : result oa ob y x w ga gb g b (ix2 r l)
    = rowN (rowZ (cat (rowR (fun j => oa (ix2 j r)) (fun j => ga (ix2 0 j))) (rowR (fun j => ob (ix2 j r)) (fun j => gb (ix2 0 j))) (fun j => y (ix2 r j)))
        (fun k => x (ix2 r k)) (fun k j => w (ix2 k j))) (g (ix2 0 l)) (b (ix2 0 l)) l := by
  unfold result
  rw [normW_at]
  simp only [summed_at, beside_at, rms_at, turned_at]

/-- It is what the run leaves. -/
theorem run_result (m : (ℓ : Loc nD τ sig) → Buf (Elt Ideal) ℓ) (c : Dev nD) : Cert.RefMergeIdeal.Value.res_out0 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold Cert.RefMergeIdeal.Value.res_out0 Cert.RefMergeIdeal.Value.res_main_v54
  rfl

end Ref

end Cert.Proof.Merge

end
-- ==== Proof.MergeFinal.lean ====
/- The merge kernel's result array is the reference's. -/
module

public import proofs.«01_k».proof.Proof.MergeRow
public import Idealize.ShloMosaic.Lib.Pipeline.ValueKit

@[expose] public section

set_option maxRecDepth 16384

noncomputable section

namespace Cert.Proof.Merge

open Idealize.ShloMosaic Idealize.ShloMosaic.TcCoe Idealize.SL.Sem
open Cert.Proof.Norm
open Cert.MergeIdeal Cert.MergeIdeal.Gen

/-- which block of each array a grid point has: the columns or rows of 1024 tokens, and all of the others -/
theorem idx : ∀ t : Fin cfg0.N,
    (cfg0.win 0).index t = ![0, t.val] ∧ (cfg0.win 1).index t = ![0, t.val] ∧ (cfg0.win 2).index t = ![t.val, 0] ∧ (cfg0.win 3).index t = ![t.val, 0]
      ∧ (cfg0.win 4).index t = ![0, 0] ∧ (cfg0.win 5).index t = ![0, 0] ∧ (cfg0.win 6).index t = ![0, 0] ∧ (cfg0.win 7).index t = ![0, 0]
      ∧ (cfg0.win 8).index t = ![0, 0] ∧ (cfg0.win 9).index t = ![t.val, 0] := by
  decide +kernel

/-- The body's output block at an index is one token's numbers. -/
theorem out_at (x0 x1 : FVec Ideal S384x1024 .f32) (x2 : FVec Ideal S1024x256 .bf16) (x3 : FVec Ideal S1024x1024 .f32) (x4 : FVec Ideal S1024x1024 .bf16)
    (x5 x6 : FVec Ideal S1x384 .f32) (x7 x8 : FVec Ideal S1x1024 .f32) (r l : Fin 1024) : out0_9 (F := Ideal) x0 x1 x2 x3 x4 x5 x6 x7 x8 (ix2 r l)
      = rowN (rowZ (cat (rowR (fun j => x0 (ix2 j r)) (fun j => x5 (ix2 0 j))) (rowR (fun j => x1 (ix2 j r)) (fun j => x6 (ix2 0 j))) (fun j => x2 (ix2 r j)))
          (fun k => x3 (ix2 r k)) (fun k j => x4 (ix2 k j))) (x7 (ix2 0 l)) (x8 (ix2 0 l)) l := by
  rw [out_eq]
  canon_tiles y h
  all_goals
    idx_vars y
    obtain rfl : l = y1 := Fin.ext h1
    rw [stripe_at]
    congr 1
    congr 1
    · congr 1
      · congr 1
        funext d
        pointwise
        blk_ext
      · congr 1
        funext d
        pointwise
        blk_ext
      · funext d
        pointwise
        blk_ext
    · funext d
      pointwise
      blk_ext

variable (m : (ℓ : Loc nD τ sig) → Buf (Elt Ideal) ℓ)

/-- The result array after the run is the reference's result. -/
theorem final (c : Dev nD) : (dats m 0 c).arrAt 9 (cfgs 0).N
    = Ref.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  have ht : t.val < 32 := t.isLt
  idx_vars y
  refine (out_at _ _ _ _ _ _ _ _ _ y0 y1).trans ?_
  refine Eq.trans ?_ (Eq.trans (Ref.result_at _ _ _ _ _ _ _ _ _ ⟨t.val * 1024 + y0.val, by omega⟩ y1).symm (congrArg (Ref.result _ _ _ _ _ _ _ _ _) ?_))
  · have e0 : ∀ d : Fin 384, iblk m c 0 t (ix2 d y0) = m ((c : Thread nD τ).loc main_arg0) (ix2 d ⟨t.val * 1024 + y0.val, by omega⟩) := fun d => by
      blk_ext [iblk, V, idx t]
    have e1 : ∀ d : Fin 384, iblk m c 1 t (ix2 d y0) = m ((c : Thread nD τ).loc main_arg1) (ix2 d ⟨t.val * 1024 + y0.val, by omega⟩) := fun d => by
      blk_ext [iblk, V, idx t]
    have e2 : ∀ d : Fin 256, iblk m c 2 t (ix2 y0 d) = m ((c : Thread nD τ).loc main_arg2) (ix2 ⟨t.val * 1024 + y0.val, by omega⟩ d) := fun d => by
      blk_ext [iblk, V, idx t]
    have e3 : ∀ d : Fin 1024, iblk m c 3 t (ix2 y0 d) = m ((c : Thread nD τ).loc main_arg3) (ix2 ⟨t.val * 1024 + y0.val, by omega⟩ d) := fun d => by
      blk_ext [iblk, V, idx t]
    have e4 : ∀ k j : Fin 1024, iblk m c 4 t (ix2 k j) = m ((c : Thread nD τ).loc main_arg4) (ix2 k j) := fun k j => by blk_ext [iblk, V, idx t]
    have e5 : ∀ j : Fin 384, iblk m c 5 t (ix2 0 j) = m ((c : Thread nD τ).loc main_arg5) (ix2 0 j) := fun j => by blk_ext [iblk, V, idx t]
    have e6 : ∀ j : Fin 384, iblk m c 6 t (ix2 0 j) = m ((c : Thread nD τ).loc main_arg6) (ix2 0 j) := fun j => by blk_ext [iblk, V, idx t]
    have e7 : ∀ j : Fin 1024, iblk m c 7 t (ix2 0 j) = m ((c : Thread nD τ).loc main_arg7) (ix2 0 j) := fun j => by blk_ext [iblk, V, idx t]
    have e8 : ∀ j : Fin 1024, iblk m c 8 t (ix2 0 j) = m ((c : Thread nD τ).loc main_arg8) (ix2 0 j) := fun j => by blk_ext [iblk, V, idx t]
    simp only [e0, e1, e2, e3, e4, e5, e6, e7, e8]
  · blk_ext [idx t]

end Cert.Proof.Merge

end
-- ==== Proof.InFrameI.lean ====
/-
  The idealized projection kernel: the run of its body found for a grid point, what the seven result blocks then hold, and
  the pipeline around it.
-/
module

public import proofs.«01_k».proof.Proof.Gen.InprojIdeal.Frame.RunA
public import Idealize.ShloMosaic.Lib.Claim

@[expose] public section

set_option maxRecDepth 16384

noncomputable section

namespace Cert.Proof.In.I

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InprojIdeal Cert.InprojIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- the body's run at a grid point: the stores it leaves in each result block -/
def found (c : Dev nD) (t : Fin cfg0.N) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- the stores into window 16 cover it -/
theorem covers16 (c : Dev nD) (t : Fin cfg0.N) (y : S768x1024.Idx) : ∃ pc ∈ (found m c t).1, y ∈ pc.1.set :=
  View.cover_of_tiledL (found m c t).1 S64x256.size (by sl_kernel_rfl) y

/-- window 16's block after the body -/
def held16 (c : Dev nD) (t : Fin cfg0.N) : Vec F S768x1024 .bf16 :=
  VO0_16.read (Elt F) (VO0_16.writes (Elt F) VO0_16.junk (found m c t).1)

/-- the stores into window 17 cover it -/
theorem covers17 (c : Dev nD) (t : Fin cfg0.N) (y : S1024x384.Idx) : ∃ pc ∈ (found m c t).2.1, y ∈ pc.1.set :=
  View.cover_of_tiledL (found m c t).2.1 S256x384.size (by sl_kernel_rfl) y

/-- window 17's block after the body -/
def held17 (c : Dev nD) (t : Fin cfg0.N) : Vec F S1024x384 .bf16 :=
  VO0_17.read (Elt F) (VO0_17.writes (Elt F) VO0_17.junk (found m c t).2.1)

/-- the stores into window 18 cover it -/
theorem covers18 (c : Dev nD) (t : Fin cfg0.N) (y : S480x1024.Idx) : ∃ pc ∈ (found m c t).2.2.1, y ∈ pc.1.set :=
  View.cover_of_tiledBy (found m c t).2.2.1 ![16, 256] (by sl_kernel_rfl) y

/-- window 18's block after the body -/
def held18 (c : Dev nD) (t : Fin cfg0.N) : Vec F S480x1024 .bf16 :=
  VO0_18.read (Elt F) (VO0_18.writes (Elt F) VO0_18.junk (found m c t).2.2.1)

/-- the stores into window 19 cover it -/
theorem covers19 (c : Dev nD) (t : Fin cfg0.N) (y : S768x1024.Idx) : ∃ pc ∈ (found m c t).2.2.2.1, y ∈ pc.1.set :=
  View.cover_of_tiledL (found m c t).2.2.2.1 S128x256.size (by sl_kernel_rfl) y

/-- window 19's block after the body -/
def held19 (c : Dev nD) (t : Fin cfg0.N) : Vec F S768x1024 .bf16 :=
  VO0_19.read (Elt F) (VO0_19.writes (Elt F) VO0_19.junk (found m c t).2.2.2.1)

/-- the stores into window 20 cover it -/
theorem covers20 (c : Dev nD) (t : Fin cfg0.N) (y : S1024x768.Idx) : ∃ pc ∈ (found m c t).2.2.2.2.1, y ∈ pc.1.set :=
  View.cover_of_tiledL (found m c t).2.2.2.2.1 S256x128.size (by sl_kernel_rfl) y

/-- window 20's block after the body -/
def held20 (c : Dev nD) (t : Fin cfg0.N) : Vec F S1024x768 .bf16 :=
  VO0_20.read (Elt F) (VO0_20.writes (Elt F) VO0_20.junk (found m c t).2.2.2.2.1)

/-- the stores into window 21 cover it -/
theorem covers21 (c : Dev nD) (t : Fin cfg0.N) (y : S480x1024.Idx) : ∃ pc ∈ (found m c t).2.2.2.2.2.1, y ∈ pc.1.set :=
  View.cover_of_tiledBy (found m c t).2.2.2.2.2.1 ![16, 256] (by sl_kernel_rfl) y

/-- window 21's block after the body -/
def held21 (c : Dev nD) (t : Fin cfg0.N) : Vec F S480x1024 .bf16 :=
  VO0_21.read (Elt F) (VO0_21.writes (Elt F) VO0_21.junk (found m c t).2.2.2.2.2.1)

/-- the stores into window 22 cover it -/
theorem covers22 (c : Dev nD) (t : Fin cfg0.N) (y : S1024x256.Idx) : ∃ pc ∈ (found m c t).2.2.2.2.2.2.1, y ∈ pc.1.set :=
  View.cover_of_tiledL (found m c t).2.2.2.2.2.2.1 S128x256.size (by sl_kernel_rfl) y

/-- window 22's block after the body -/
def held22 (c : Dev nD) (t : Fin cfg0.N) : Vec F S1024x256 .bf16 :=
  VO0_22.read (Elt F) (VO0_22.writes (Elt F) VO0_22.junk (found m c t).2.2.2.2.2.2.1)

/-- the pipeline's data: inputs stay, results are as the body leaves them -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => held16 m c t
    | ⟨17, _⟩ => held17 m c t
    | ⟨18, _⟩ => held18 m c t
    | ⟨19, _⟩ => held19 m c t
    | ⟨20, _⟩ => held20 m c t
    | ⟨21, _⟩ => held21 m c t
    | ⟨22, _⟩ => held22 m c t
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = held16 m c t := by dsimp only [dats]
theorem after_17 (c : Dev nD) (t : Fin cfg0.N) : (dats m 0 c).after 17 t = held17 m c t := by dsimp only [dats]
theorem after_18 (c : Dev nD) (t : Fin cfg0.N) : (dats m 0 c).after 18 t = held18 m c t := by dsimp only [dats]
theorem after_19 (c : Dev nD) (t : Fin cfg0.N) : (dats m 0 c).after 19 t = held19 m c t := by dsimp only [dats]
theorem after_20 (c : Dev nD) (t : Fin cfg0.N) : (dats m 0 c).after 20 t = held20 m c t := by dsimp only [dats]
theorem after_21 (c : Dev nD) (t : Fin cfg0.N) : (dats m 0 c).after 21 t = held21 m c t := by dsimp only [dats]
theorem after_22 (c : Dev nD) (t : Fin cfg0.N) : (dats m 0 c).after 22 t = held22 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- what the body is called with -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- what it returns -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22]
  unfold held16 held17 held18 held19 held20 held21 held22
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((found m c t).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (covers16 m c t)
  isplitl [H17]
  · unfold owns; iexists _; isplitr
    swap; · iexact H17
    ipureintro; exact View.read_writes_of_cover _ _ _ _ _ (covers17 m c t)
  isplitl [H18]
  · unfold owns; iexists _; isplitr
    swap; · iexact H18
    ipureintro; exact View.read_writes_of_cover _ _ _ _ _ (covers18 m c t)
  isplitl [H19]
  · unfold owns; iexists _; isplitr
    swap; · iexact H19
    ipureintro; exact View.read_writes_of_cover _ _ _ _ _ (covers19 m c t)
  isplitl [H20]
  · unfold owns; iexists _; isplitr
    swap; · iexact H20
    ipureintro; exact View.read_writes_of_cover _ _ _ _ _ (covers20 m c t)
  isplitl [H21]
  · unfold owns; iexists _; isplitr
    swap; · iexact H21
    ipureintro; exact View.read_writes_of_cover _ _ _ _ _ (covers21 m c t)
  unfold owns; iexists _; isplitr
  swap; · iexact H22
  ipureintro; exact View.read_writes_of_cover _ _ _ _ _ (covers22 m c t)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Proof.In.I

end
-- ==== Proof.InA.lean ====
/-
  The projection kernel's stripes: the loads each makes, its projected rows, and what the first three result blocks
  (the queries, keys and values of the first mixer) hold at an index.
-/
module

public import proofs.«01_k».proof.Proof.InFrameI
public import Idealize.ShloMosaic.Lib.Pipeline.ValueKit
public import Idealize.ShloMosaic.Lib.Pointwise

@[expose] public section

set_option maxRecDepth 16384

noncomputable section

namespace Cert.Proof.In

open Idealize.ShloMosaic Idealize.ShloMosaic.TcCoe Idealize.SL.Sem
open Cert.InprojIdeal Cert.InprojIdeal.Gen Cert.Proof.In.I

/-- one row times a matrix -/
def hrow {n p : ℕ} (x : Fin n → EReal) (w : Fin n → Fin p → EReal) (l : Fin p) : EReal := ∑ k : Fin n, x k * w k l

/-- A unit rectangle of a two-dimensional block takes an index to the index with its offsets added. -/
theorem emb2 {A B p q a b : ℕ} (inb : ∀ k : Fin 2, (![a, b] : Fin 2 → ℕ) k + (![p, q] : Fin 2 → ℕ) k ≤ (⟨2, ![A, B]⟩ : Shape).size k)
    (x0 : Fin p) (x1 : Fin q) (h0 : a + x0.val < A) (h1 : b + x1.val < B) :
    (Rect.unit (s := ⟨2, ![A, B]⟩) ![a, b] ![p, q] inb).emb (ix2 x0 x1) = ix2 ⟨a + x0.val, h0⟩ ⟨b + x1.val, h1⟩ := by
  funext k
  refine Fin.ext ?_
  rw [ValueKit.rect_emb_unit_val]
  fin_cases k <;> rfl

section Loads
variable {F : FTy → Type} [FloatOps F]
variable (m : (ℓ : Loc nD τ sig) → Buf (Elt F) ℓ) (c : Dev nD) (t : Fin cfg0.N)

/-- the tokens of the stripe that begins at row `r` of the block -/
def xs (r : ℕ) (h : ∀ a, (![r, 0] : Fin 2 → ℕ) a + S256x1024.size a ≤ S1024x1024.size a) : Vec F S256x1024 .f32 :=
  View.readAt (Elt F) (ms0_0 t).view (Rect.unit (s := S1024x1024) ![r, 0] S256x1024.size h).toLoadRect ((hs0_0 t).unread (iblk m c 0 t))

/-- the packed weights of the projection -/
def ws : Vec F S1024x2176 .bf16 :=
  View.readAt (Elt F) (ms0_1 t).view (Rect.unit (s := S1024x2176) ![0, 0] S1024x2176.size (by decide)).toLoadRect ((hs0_1 t).unread (iblk m c 1 t))

/-- the stripe's projected rows -/
def hs (r : ℕ) (h : ∀ a, (![r, 0] : Fin 2 → ℕ) a + S256x1024.size a ≤ S1024x1024.size a) : FVec F S256x2176 .f32 :=
  k0_pay5 (xs m c t r h) (ws m c t)

end Loads

variable (m : (ℓ : Loc nD τ sig) → Buf (Elt Ideal) ℓ) (c : Dev nD) (t : Fin cfg0.N)

/-- one token's projected row -/
def tok (r : Fin 1024) : Fin 2176 → EReal := hrow (fun k => iblk m c 0 t (ix2 r k)) (fun k j => iblk m c 1 t (ix2 k j))

theorem xs_at (r : ℕ) (h) (i : Fin 256) (k : Fin 1024) (hr : r + i.val < 1024) :
    xs m c t r h (ix2 i k) = iblk m c 0 t (ix2 ⟨r + i.val, hr⟩ k) := by
  unfold xs
  rw [View.readAt_eq_ld, Memref.IsWhole.read_unread]
  exact (congrArg _ (emb2 _ i k hr (by omega))).trans (congrArg _ (congrArg (ix2 _) (Fin.ext (Nat.zero_add _))))

theorem ws_at (k : Fin 1024) (l : Fin 2176) : ws m c t (ix2 k l) = iblk m c 1 t (ix2 k l) := by
  unfold ws
  rw [View.readAt_eq_ld, Memref.IsWhole.read_unread]
  exact (congrArg _ (emb2 _ k l (by omega) (by omega))).trans
    (congrArg _ (congrArg₂ ix2 (Fin.ext (Nat.zero_add _)) (Fin.ext (Nat.zero_add _))))

theorem hs_at (r : ℕ) (h) (i : Fin 256) (l : Fin 2176) (hr : r + i.val < 1024) :
    hs m c t r h (ix2 i l) = tok m c t ⟨r + i.val, hr⟩ l := by
  have e : k0_pay5 (xs m c t r h) (ws m c t) (ix2 i l) = ∑ k : Fin 1024, xs m c t r h (ix2 i k) * ws m c t (ix2 k l) := by
    pointwise [k0_pay5]
  unfold hs tok hrow
  rw [e]
  simp only [xs_at m c t r h i _ hr, ws_at]

/-! ## The keys -/

/-- the keys' block -/
def G17 (y : S1024x384.Idx) : EReal := tok m c t (y 0) ⟨384 + (y 1).val, by have := (y 1).isLt; change (y 1).val < 384 at this; omega⟩

theorem piece17 (r : ℕ) (h) (hb : r + 256 ≤ 1024) (inb) (x : S256x384.Idx) :
    k0_pay13 (hs m c t r h) x = G17 m c t ((Rect.unit (s := S1024x384) ![r, 0] S256x384.size inb).emb x) := by
  idx_vars x
  have hr : r + x0.val < 1024 := by omega
  rw [show (Rect.unit (s := S1024x384) ![r, 0] S256x384.size inb).emb (ix2 x0 x1) = _ from emb2 inb x0 x1 hr (by omega)]
  have e : k0_pay13 (hs m c t r h) (ix2 x0 x1) = hs m c t r h (ix2 x0 ⟨384 + x1.val, by omega⟩) := by pointwise [k0_pay13]
  rw [e, hs_at m c t r h x0 _ hr]
  unfold G17
  exact congrArg _ (Fin.ext (congrArg (384 + ·) (Nat.zero_add _).symm))

theorem list17 : (found m c t).2.1 = [⟨Rect.unit ![768, 0] S256x384.size (by decide), k0_pay13 (hs m c t 768 (by decide))⟩,
    ⟨Rect.unit ![512, 0] S256x384.size (by decide), k0_pay13 (hs m c t 512 (by decide))⟩,
    ⟨Rect.unit ![256, 0] S256x384.size (by decide), k0_pay13 (hs m c t 256 (by decide))⟩,
    ⟨Rect.unit ![0, 0] S256x384.size (by decide), k0_pay13 (hs m c t 0 (by decide))⟩] := by
  rfl

theorem held17_at (y : S1024x384.Idx) : held17 m c t y = G17 m c t y := by
  unfold held17
  rw [View.read_writes_junk_eq_canon]
  refine View.canon_apply_of_pieces (G17 m c t) _ ?_ y (covers17 m c t y)
  rw [list17]
  simp only [List.forall_mem_cons]
  exact ⟨piece17 m c t 768 _ (by decide) _, piece17 m c t 512 _ (by decide) _, piece17 m c t 256 _ (by decide) _, piece17 m c t 0 _ (by decide) _,
    fun _ h => absurd h List.not_mem_nil⟩

/-! ## The queries -/

/-- one token's queries: each head's scaled queries in its half of the pair's rows, zeros in the other half -/
def rowQa (g : Fin 2176 → EReal) (R : Fin 768) : EReal :=
  if h : R.val % 256 < 64 then g ⟨R.val / 256 * 128 + R.val % 256, by omega⟩ * Ideal.ofBits .f32 0x3E38AA3B#32
  else if h : 192 ≤ R.val % 256 then g ⟨R.val / 256 * 128 + (R.val % 256 - 128), by omega⟩ * Ideal.ofBits .f32 0x3E38AA3B#32
  else 0

/-- the queries' block -/
def G16 (y : S768x1024.Idx) : EReal := rowQa (tok m c t (y 1)) (y 0)

/-- the stripe's scaled queries, turned -/
def qa (r : ℕ) (h : ∀ a, (![r, 0] : Fin 2 → ℕ) a + S256x1024.size a ≤ S1024x1024.size a) : FVec Ideal S384x256 .bf16 :=
  k0_pay6 (xs m c t r h) (ws m c t)

theorem qa_at (r : ℕ) (h) (j : Fin 384) (i : Fin 256) (hr : r + i.val < 1024) :
    qa m c t r h (ix2 j i) = tok m c t ⟨r + i.val, hr⟩ ⟨j.val, by omega⟩ * Ideal.ofBits .f32 0x3E38AA3B#32 := by
  rw [← hs_at m c t r h i _ hr]
  unfold qa hs
  pointwise [k0_pay6]

/-- 64 rows of a turned array -/
theorem slice64_at (v : FVec Ideal S384x256 .bf16) (s : ℕ) (hs : S384x256.Slices ![s, 0] S64x256) (x0 : Fin 64) (x1 : Fin 256) (h : s + x0.val < 384) :
    extractStridedSlice S64x256 ![s, 0] v hs (ix2 x0 x1) = v (ix2 ⟨s + x0.val, h⟩ x1) := by
  pointwise

theorem pieceLo16 (a s r : ℕ) (h hs) (hr' : r + 256 ≤ 1024) (ha : a + 64 ≤ 768) (e0 : a % 256 = 0) (es : s = a / 256 * 128) (inb) (x : S64x256.Idx) :
    extractStridedSlice S64x256 ![s, 0] (qa m c t r h) hs x = G16 m c t ((Rect.unit (s := S768x1024) ![a, r] S64x256.size inb).emb x) := by
  idx_vars x
  have hr : r + x1.val < 1024 := by omega
  rw [show (Rect.unit (s := S768x1024) ![a, r] S64x256.size inb).emb (ix2 x0 x1) = _ from emb2 inb x0 x1 (by omega) hr,
    slice64_at _ s hs x0 x1 (by omega), qa_at m c t r h _ x1 hr]
  change _ = rowQa (tok m c t ⟨r + x1.val, hr⟩) ⟨a + x0.val, by omega⟩
  unfold rowQa
  rw [dif_pos (show (a + x0.val) % 256 < 64 by omega)]
  exact congrArg (· * _) (congrArg (tok m c t _) (Fin.ext (show s + x0.val = (a + x0.val) / 256 * 128 + (a + x0.val) % 256 by omega)))

theorem pieceHi16 (a s r : ℕ) (h hs) (hr' : r + 256 ≤ 1024) (ha : a + 64 ≤ 768) (e0 : a % 256 = 192) (es : s = a / 256 * 128 + 64) (inb) (x : S64x256.Idx) :
    extractStridedSlice S64x256 ![s, 0] (qa m c t r h) hs x = G16 m c t ((Rect.unit (s := S768x1024) ![a, r] S64x256.size inb).emb x) := by
  idx_vars x
  have hr : r + x1.val < 1024 := by omega
  rw [show (Rect.unit (s := S768x1024) ![a, r] S64x256.size inb).emb (ix2 x0 x1) = _ from emb2 inb x0 x1 (by omega) hr,
    slice64_at _ s hs x0 x1 (by omega), qa_at m c t r h _ x1 hr]
  change _ = rowQa (tok m c t ⟨r + x1.val, hr⟩) ⟨a + x0.val, by omega⟩
  unfold rowQa
  rw [dif_neg (show ¬ (a + x0.val) % 256 < 64 by omega), dif_pos (show 192 ≤ (a + x0.val) % 256 by omega)]
  exact congrArg (· * _) (congrArg (tok m c t _) (Fin.ext (show s + x0.val = (a + x0.val) / 256 * 128 + ((a + x0.val) % 256 - 128) by omega)))

theorem pieceZ16 (a r : ℕ) (hr' : r + 256 ≤ 1024) (ha : a + 64 ≤ 768) (e0 : 64 ≤ a % 256) (e1 : a % 256 ≤ 128) (inb) (x : S64x256.Idx) :
    k0_pay3 (F := Ideal) x = G16 m c t ((Rect.unit (s := S768x1024) ![a, r] S64x256.size inb).emb x) := by
  idx_vars x
  have hr : r + x1.val < 1024 := by omega
  rw [show (Rect.unit (s := S768x1024) ![a, r] S64x256.size inb).emb (ix2 x0 x1) = _ from emb2 inb x0 x1 (by omega) hr]
  change _ = rowQa (tok m c t ⟨r + x1.val, hr⟩) ⟨a + x0.val, by omega⟩
  unfold rowQa
  rw [dif_neg (show ¬ (a + x0.val) % 256 < 64 by omega), dif_neg (show ¬ 192 ≤ (a + x0.val) % 256 by omega)]
  pointwise [k0_pay3]

/-- the stores of the stripe that begins at row `r` into the queries' block -/
def stripe16 (r : ℕ) (h : r + 256 ≤ 1024) : List (View.Piece (Elt Ideal) S768x1024 .bf16) :=
  have hx : ∀ a, (![r, 0] : Fin 2 → ℕ) a + S256x1024.size a ≤ S1024x1024.size a := fun a => by fin_cases a; exacts [h, le_refl 1024]
  have ho : ∀ o, o + 64 ≤ 768 → ∀ a, (![o, r] : Fin 2 → ℕ) a + S64x256.size a ≤ S768x1024.size a := fun o ho a => by fin_cases a; exacts [ho, h]
  [⟨Rect.unit (s := S768x1024) ![704, r] S64x256.size (ho 704 (by decide)), extractStridedSlice S64x256 ![320, 0] (qa m c t r hx) (by decide)⟩,
   ⟨Rect.unit (s := S768x1024) ![640, r] S64x256.size (ho 640 (by decide)), k0_pay3 (F := Ideal)⟩,
   ⟨Rect.unit (s := S768x1024) ![576, r] S64x256.size (ho 576 (by decide)), k0_pay3 (F := Ideal)⟩,
   ⟨Rect.unit (s := S768x1024) ![512, r] S64x256.size (ho 512 (by decide)), extractStridedSlice S64x256 ![256, 0] (qa m c t r hx) (by decide)⟩,
   ⟨Rect.unit (s := S768x1024) ![448, r] S64x256.size (ho 448 (by decide)), extractStridedSlice S64x256 ![192, 0] (qa m c t r hx) (by decide)⟩,
   ⟨Rect.unit (s := S768x1024) ![384, r] S64x256.size (ho 384 (by decide)), k0_pay3 (F := Ideal)⟩,
   ⟨Rect.unit (s := S768x1024) ![320, r] S64x256.size (ho 320 (by decide)), k0_pay3 (F := Ideal)⟩,
   ⟨Rect.unit (s := S768x1024) ![256, r] S64x256.size (ho 256 (by decide)), extractStridedSlice S64x256 ![128, 0] (qa m c t r hx) (by decide)⟩,
   ⟨Rect.unit (s := S768x1024) ![192, r] S64x256.size (ho 192 (by decide)), extractStridedSlice S64x256 ![64, 0] (qa m c t r hx) (by decide)⟩,
   ⟨Rect.unit (s := S768x1024) ![128, r] S64x256.size (ho 128 (by decide)), k0_pay3 (F := Ideal)⟩,
   ⟨Rect.unit (s := S768x1024) ![64, r] S64x256.size (ho 64 (by decide)), k0_pay3 (F := Ideal)⟩,
   ⟨Rect.unit (s := S768x1024) ![0, r] S64x256.size (ho 0 (by decide)), extractStridedSlice S64x256 ![0, 0] (qa m c t r hx) (by decide)⟩]

theorem stripe16_at (r : ℕ) (h : r + 256 ≤ 1024) : ∀ p ∈ stripe16 m c t r h, ∀ x : p.1.shape.Idx, p.2 x = G16 m c t (p.1.emb x) := by
  unfold stripe16
  simp only [List.forall_mem_cons]
  exact ⟨pieceHi16 m c t 704 320 r _ _ h (by decide) rfl rfl _, pieceZ16 m c t 640 r h (by decide) (by decide) (by decide) _,
    pieceZ16 m c t 576 r h (by decide) (by decide) (by decide) _, pieceLo16 m c t 512 256 r _ _ h (by decide) rfl rfl _,
    pieceHi16 m c t 448 192 r _ _ h (by decide) rfl rfl _, pieceZ16 m c t 384 r h (by decide) (by decide) (by decide) _,
    pieceZ16 m c t 320 r h (by decide) (by decide) (by decide) _, pieceLo16 m c t 256 128 r _ _ h (by decide) rfl rfl _,
    pieceHi16 m c t 192 64 r _ _ h (by decide) rfl rfl _, pieceZ16 m c t 128 r h (by decide) (by decide) (by decide) _,
    pieceZ16 m c t 64 r h (by decide) (by decide) (by decide) _, pieceLo16 m c t 0 0 r _ _ h (by decide) rfl rfl _,
    fun _ h => absurd h List.not_mem_nil⟩

theorem list16 : (found m c t).1 = stripe16 m c t 768 (by decide) ++ (stripe16 m c t 512 (by decide)
    ++ (stripe16 m c t 256 (by decide) ++ stripe16 m c t 0 (by decide))) := by
  rfl

theorem held16_at (y : S768x1024.Idx) : held16 m c t y = G16 m c t y := by
  unfold held16
  rw [View.read_writes_junk_eq_canon]
  refine View.canon_apply_of_pieces (G16 m c t) _ ?_ y (covers16 m c t y)
  rw [list16]
  simp only [List.forall_mem_append]
  exact ⟨stripe16_at m c t _ _, stripe16_at m c t _ _, stripe16_at m c t _ _, stripe16_at m c t _ _⟩

/-! ## The values -/

/-- one token's values: each head's 64 values, a one and 15 zeros -/
def rowV (v : Fin 384 → EReal) (R : Fin 480) : EReal :=
  if h : R.val % 80 < 64 then v ⟨R.val / 80 * 64 + R.val % 80, by omega⟩ else if R.val % 80 = 64 then 1 else 0

/-- one head's rows of a turned array of values -/
def head64 (v : FVec Ideal S384x256 .f32) (s : ℕ) (hs : S384x256.Slices ![s, 0] S64x256) : FVec Ideal S64x256 .bf16 :=
  truncf .bf16 (extractStridedSlice S64x256 ![s, 0] v hs) (by decide)

theorem head64_at (v : FVec Ideal S384x256 .f32) (s : ℕ) (hs) (x0 : Fin 64) (x1 : Fin 256) (h : s + x0.val < 384) :
    head64 v s hs (ix2 x0 x1) = v (ix2 ⟨s + x0.val, h⟩ x1) := by
  pointwise [head64]

theorem ones_at (x0 : Fin 16) (x1 : Fin 256) : k0_pay2 (F := Ideal) (ix2 x0 x1) = if x0.val = 0 then 1 else 0 := by
  have e : k0_pay2 (F := Ideal) (ix2 x0 x1) = (FloatOps.sitofp (F := Ideal) .f32 ((IntOp.cmpi .eq (BitVec.ofNat 32 x0.val) 0#32).setWidth 32) : EReal) := by
    pointwise [k0_pay2]
  rw [e]
  fin_cases x0 <;> simp [FloatOps.sitofp, IntOp.cmpi]

section Values
variable (W : Fin 1024 → Fin 384 → EReal) (r : ℕ)

/-- a block of values from each token's -/
def GV (y : S480x1024.Idx) : EReal := rowV (W (y 1)) (y 0)

theorem pieceVal (T : r + 256 ≤ 1024) (v : FVec Ideal S384x256 .f32)
    (hv : ∀ (j : Fin 384) (i : Fin 256) (h : r + i.val < 1024), v (ix2 j i) = W ⟨r + i.val, h⟩ j) (a s : ℕ) (ha : a + 64 ≤ 480)
    (e0 : a % 80 = 0) (es : s = a / 80 * 64) (hs) (inb) (x : S64x256.Idx) :
    head64 v s hs x = GV W ((Rect.unit (s := S480x1024) ![a, r] S64x256.size inb).emb x) := by
  idx_vars x
  have hr : r + x1.val < 1024 := by omega
  rw [show (Rect.unit (s := S480x1024) ![a, r] S64x256.size inb).emb (ix2 x0 x1) = _ from emb2 inb x0 x1 (by omega) hr,
    head64_at v s hs x0 x1 (by omega), hv _ x1 hr]
  change _ = rowV (W ⟨r + x1.val, hr⟩) ⟨a + x0.val, by omega⟩
  unfold rowV
  rw [dif_pos (show (a + x0.val) % 80 < 64 by omega)]
  exact congrArg (W _) (Fin.ext (show s + x0.val = (a + x0.val) / 80 * 64 + (a + x0.val) % 80 by omega))

theorem pieceOne (T : r + 256 ≤ 1024) (a : ℕ) (ha : a + 16 ≤ 480) (e0 : a % 80 = 64) (inb) (x : S16x256.Idx) :
    k0_pay2 (F := Ideal) x = GV W ((Rect.unit (s := S480x1024) ![a, r] S16x256.size inb).emb x) := by
  idx_vars x
  have hr : r + x1.val < 1024 := by omega
  rw [show (Rect.unit (s := S480x1024) ![a, r] S16x256.size inb).emb (ix2 x0 x1) = _ from emb2 inb x0 x1 (by omega) hr, ones_at]
  change _ = rowV (W ⟨r + x1.val, hr⟩) ⟨a + x0.val, by omega⟩
  unfold rowV
  rw [dif_neg (show ¬ (a + x0.val) % 80 < 64 by omega)]
  exact if_congr (show x0.val = 0 ↔ (a + x0.val) % 80 = 64 by omega) rfl rfl

/-- the stores of a stripe into a block of values -/
def stripeV (v : FVec Ideal S384x256 .f32) (h : r + 256 ≤ 1024) : List (View.Piece (Elt Ideal) S480x1024 .bf16) :=
  have h64 : ∀ o, o + 64 ≤ 480 → ∀ a, (![o, r] : Fin 2 → ℕ) a + S64x256.size a ≤ S480x1024.size a := fun o ho a => by fin_cases a; exacts [ho, h]
  have h16 : ∀ o, o + 16 ≤ 480 → ∀ a, (![o, r] : Fin 2 → ℕ) a + S16x256.size a ≤ S480x1024.size a := fun o ho a => by fin_cases a; exacts [ho, h]
  [⟨Rect.unit (s := S480x1024) ![464, r] S16x256.size (h16 464 (by decide)), k0_pay2 (F := Ideal)⟩,
   ⟨Rect.unit (s := S480x1024) ![400, r] S64x256.size (h64 400 (by decide)), head64 v 320 (by decide)⟩,
   ⟨Rect.unit (s := S480x1024) ![384, r] S16x256.size (h16 384 (by decide)), k0_pay2 (F := Ideal)⟩,
   ⟨Rect.unit (s := S480x1024) ![320, r] S64x256.size (h64 320 (by decide)), head64 v 256 (by decide)⟩,
   ⟨Rect.unit (s := S480x1024) ![304, r] S16x256.size (h16 304 (by decide)), k0_pay2 (F := Ideal)⟩,
   ⟨Rect.unit (s := S480x1024) ![240, r] S64x256.size (h64 240 (by decide)), head64 v 192 (by decide)⟩,
   ⟨Rect.unit (s := S480x1024) ![224, r] S16x256.size (h16 224 (by decide)), k0_pay2 (F := Ideal)⟩,
   ⟨Rect.unit (s := S480x1024) ![160, r] S64x256.size (h64 160 (by decide)), head64 v 128 (by decide)⟩,
   ⟨Rect.unit (s := S480x1024) ![144, r] S16x256.size (h16 144 (by decide)), k0_pay2 (F := Ideal)⟩,
   ⟨Rect.unit (s := S480x1024) ![80, r] S64x256.size (h64 80 (by decide)), head64 v 64 (by decide)⟩,
   ⟨Rect.unit (s := S480x1024) ![64, r] S16x256.size (h16 64 (by decide)), k0_pay2 (F := Ideal)⟩,
   ⟨Rect.unit (s := S480x1024) ![0, r] S64x256.size (h64 0 (by decide)), head64 v 0 (by decide)⟩]

theorem stripeV_at (v : FVec Ideal S384x256 .f32) (h : r + 256 ≤ 1024)
    (hv : ∀ (j : Fin 384) (i : Fin 256) (h : r + i.val < 1024), v (ix2 j i) = W ⟨r + i.val, h⟩ j) :
    ∀ p ∈ stripeV r v h, ∀ x : p.1.shape.Idx, p.2 x = GV W (p.1.emb x) := by
  unfold stripeV
  simp only [List.forall_mem_cons]
  exact ⟨pieceOne W r h 464 (by decide) rfl _, pieceVal W r h v hv 400 320 (by decide) rfl rfl _ _,
    pieceOne W r h 384 (by decide) rfl _, pieceVal W r h v hv 320 256 (by decide) rfl rfl _ _,
    pieceOne W r h 304 (by decide) rfl _, pieceVal W r h v hv 240 192 (by decide) rfl rfl _ _,
    pieceOne W r h 224 (by decide) rfl _, pieceVal W r h v hv 160 128 (by decide) rfl rfl _ _,
    pieceOne W r h 144 (by decide) rfl _, pieceVal W r h v hv 80 64 (by decide) rfl rfl _ _,
    pieceOne W r h 64 (by decide) rfl _, pieceVal W r h v hv 0 0 (by decide) rfl rfl _ _,
    fun _ h => absurd h List.not_mem_nil⟩

end Values

/-- the first mixer's values of a token, out of its projected row -/
def rowVa (g : Fin 2176 → EReal) (j : Fin 384) : EReal := g ⟨768 + j.val, by omega⟩

/-- the stripe's values, turned -/
def va (r : ℕ) (h : ∀ a, (![r, 0] : Fin 2 → ℕ) a + S256x1024.size a ≤ S1024x1024.size a) : FVec Ideal S384x256 .f32 := k0_pay14 (hs m c t r h)

theorem va_at (r : ℕ) (h) (j : Fin 384) (i : Fin 256) (hr : r + i.val < 1024) : va m c t r h (ix2 j i) = rowVa (tok m c t ⟨r + i.val, hr⟩) j := by
  have e : va m c t r h (ix2 j i) = hs m c t r h (ix2 i ⟨768 + j.val, by omega⟩) := by pointwise [va, k0_pay14]
  rw [e, hs_at m c t r h i _ hr]
  rfl

theorem list18 : (found m c t).2.2.1 = stripeV 768 (va m c t 768 (by decide)) (by decide) ++ (stripeV 512 (va m c t 512 (by decide)) (by decide)
    ++ (stripeV 256 (va m c t 256 (by decide)) (by decide) ++ stripeV 0 (va m c t 0 (by decide)) (by decide))) := by
  rfl

theorem held18_at (y : S480x1024.Idx) : held18 m c t y = GV (fun r => rowVa (tok m c t r)) y := by
  unfold held18
  rw [View.read_writes_junk_eq_canon]
  refine View.canon_apply_of_pieces (GV fun r => rowVa (tok m c t r)) _ ?_ y (covers18 m c t y)
  rw [list18]
  simp only [List.forall_mem_append]
  exact ⟨stripeV_at _ _ _ _ (va_at m c t _ _), stripeV_at _ _ _ _ (va_at m c t _ _), stripeV_at _ _ _ _ (va_at m c t _ _),
    stripeV_at _ _ _ _ (va_at m c t _ _)⟩

end Cert.Proof.In

end
-- ==== Proof.InB.lean ====
/- What the projection leaves for the second mixer: keys, values and queries, each a function of one token's projected row. -/
module

public import proofs.«01_k».proof.Proof.InA

@[expose] public section

set_option maxRecDepth 16384

noncomputable section

namespace Cert.Proof.In

open Idealize.ShloMosaic Idealize.ShloMosaic.TcCoe Idealize.SL.Sem
open Cert.InprojIdeal Cert.InprojIdeal.Gen Cert.Proof.In.I

section Loads
variable {F : FTy → Type} [FloatOps F]

/-- a load of a whole two-dimensional buffer -/
def ldf {p q : ℕ} {e : EltTy} (v : Memref sig .tc .vmem ⟨2, ![p, q]⟩ e) (hv : v.IsWhole) (x : Vec F ⟨2, ![p, q]⟩ e)
    (h : ∀ a : Fin 2, (![0, 0] : Fin 2 → ℕ) a + (![p, q] : Fin 2 → ℕ) a ≤ (⟨2, ![p, q]⟩ : Shape).size a) : Vec F ⟨2, ![p, q]⟩ e :=
  View.readAt (Elt F) v.view (Rect.unit (s := ⟨2, ![p, q]⟩) ![0, 0] ![p, q] h).toLoadRect (hv.unread x)

theorem ldf_at {p q : ℕ} {e : EltTy} (v : Memref sig .tc .vmem ⟨2, ![p, q]⟩ e) (hv : v.IsWhole) (x : Vec F ⟨2, ![p, q]⟩ e) (h) (i : Fin p) (j : Fin q) :
    ldf v hv x h (ix2 i j) = x (ix2 i j) := by
  unfold ldf
  rw [View.readAt_eq_ld, Memref.IsWhole.read_unread]
  exact (congrArg _ (emb2 _ i j (by omega) (by omega))).trans (congrArg _ (congrArg₂ ix2 (Fin.ext (Nat.zero_add _)) (Fin.ext (Nat.zero_add _))))

/-- a load of 256 rows of a table's block -/
def ldr (v : Memref sig .tc .vmem S1024x128 .f32) (hv : v.IsWhole) (x : Vec F S1024x128 .f32) (r : ℕ)
    (h : ∀ a, (![r, 0] : Fin 2 → ℕ) a + S256x128.size a ≤ S1024x128.size a) : Vec F S256x128 .f32 :=
  View.readAt (Elt F) v.view (Rect.unit (s := S1024x128) ![r, 0] S256x128.size h).toLoadRect (hv.unread x)

theorem ldr_at (v : Memref sig .tc .vmem S1024x128 .f32) (hv : v.IsWhole) (x : Vec F S1024x128 .f32) (r : ℕ) (h) (i : Fin 256) (j : Fin 128)
    (hr : r + i.val < 1024) : ldr v hv x r h (ix2 i j) = x (ix2 ⟨r + i.val, hr⟩ j) := by
  unfold ldr
  rw [View.readAt_eq_ld, Memref.IsWhole.read_unread]
  exact (congrArg _ (emb2 _ i j hr (by omega))).trans (congrArg _ (congrArg (ix2 _) (Fin.ext (Nat.zero_add _))))

end Loads

/-- a row over its root mean square, times a gain -/
def rmsN {n : ℕ} (cn : EReal) (z w : Fin n → EReal) (l : Fin n) : EReal :=
  z l * Ideal.rsqrt (Ideal.div (∑ j : Fin n, z j * z j) cn + Ideal.ofBits .f32 0x3727C5AC#32) * w l

theorem rmsN_congr {n : ℕ} {cn : EReal} {z z' w w' : Fin n → EReal} {l l' : Fin n} (hz : ∀ i, z i = z' i) (hw : ∀ i, w i = w' i) (e : l.val = l'.val) :
    rmsN cn z w l = rmsN cn z' w' l' := by
  rw [show z = z' from funext hz, show w = w' from funext hw, show l = l' from Fin.ext e]

/-- a token's latent for keys and values, normalised -/
def ckvR (g : Fin 2176 → EReal) (kn : Fin 128 → EReal) : Fin 128 → EReal :=
  rmsN (Ideal.ofBits .f32 0x43000000#32) (fun j => g ⟨1152 + j.val, by omega⟩) kn

/-- a token's latent for queries, normalised -/
def cqR (g : Fin 2176 → EReal) (qn : Fin 192 → EReal) : Fin 192 → EReal :=
  rmsN (Ideal.ofBits .f32 0x43400000#32) (fun j => g ⟨1280 + j.val, by omega⟩) qn

/-- 128 numbers turned by a rotary embedding whose second operand is 32 further round -/
def turn (g ck sk : Fin 128 → EReal) (j : Fin 128) : EReal := g j * ck j + g ⟨(j.val + 128 - 96) % 128, by omega⟩ * sk j

theorem turn_congr {g g' ck sk : Fin 128 → EReal} {j j' : Fin 128} (h : ∀ i, g i = g' i) (e : j.val = j'.val) : turn g ck sk j = turn g' ck sk j' := by
  rw [show g = g' from funext h, show j = j' from Fin.ext e]

variable (m : (ℓ : Loc nD τ sig) → Buf (Elt Ideal) ℓ) (c : Dev nD) (t : Fin cfg0.N)

abbrev kn : Fin 128 → EReal := fun j => iblk m c 4 t (ix2 0 j)
abbrev qn : Fin 192 → EReal := fun j => iblk m c 2 t (ix2 0 j)
abbrev wk : Fin 128 → Fin 768 → EReal := fun k j => iblk m c 5 t (ix2 k j)
abbrev wv : Fin 128 → Fin 384 → EReal := fun k j => iblk m c 6 t (ix2 k j)
abbrev wq : Fin 192 → Fin 768 → EReal := fun k j => iblk m c 3 t (ix2 k j)

theorem ckv_at (h : FVec Ideal S256x2176 .f32) (x4 : FVec Ideal S1x128 .f32) (i : Fin 256) (j : Fin 128) :
    k0_pay21 h x4 (ix2 i j) = ckvR (fun l => h (ix2 i l)) (fun j => x4 (ix2 0 j)) j := by
  pointwise [k0_pay21, ckvR, rmsN]

theorem kmat_at (h : FVec Ideal S256x2176 .f32) (x4 : FVec Ideal S1x128 .f32) (x5 : FVec Ideal S128x768 .bf16) (i : Fin 256) (j : Fin 768) :
    k0_pay22 h x4 x5 (ix2 i j) = hrow (ckvR (fun l => h (ix2 i l)) (fun j => x4 (ix2 0 j))) (fun k j => x5 (ix2 k j)) j := by
  have e : k0_pay22 h x4 x5 (ix2 i j) = ∑ k : Fin 128, k0_pay21 h x4 (ix2 i k) * x5 (ix2 k j) := by
    pointwise [k0_pay22]
  rw [e]
  simp only [ckv_at, hrow]

theorem vmat_at (h : FVec Ideal S256x2176 .f32) (x4 : FVec Ideal S1x128 .f32) (x6 : FVec Ideal S128x384 .bf16) (i : Fin 256) (j : Fin 384) :
    k0_pay23 h x4 x6 (ix2 i j) = hrow (ckvR (fun l => h (ix2 i l)) (fun j => x4 (ix2 0 j))) (fun k j => x6 (ix2 k j)) j := by
  have e : k0_pay23 h x4 x6 (ix2 i j) = ∑ k : Fin 128, k0_pay21 h x4 (ix2 i k) * x6 (ix2 k j) := by
    pointwise [k0_pay23]
  rw [e]
  simp only [ckv_at, hrow]

theorem kpe_at (h : FVec Ideal S256x2176 .f32) (a b : FVec Ideal S256x128 .f32) (i : Fin 256) (j : Fin 128) :
    k0_pay24 h a b (ix2 i j) = turn (fun j => h (ix2 i ⟨1536 + j.val, by omega⟩)) (fun j => a (ix2 i j)) (fun j => b (ix2 i j)) j := by
  pointwise [k0_pay24, turn]

theorem qmat_at (h : FVec Ideal S256x2176 .f32) (x2 : FVec Ideal S1x192 .f32) (x3 : FVec Ideal S192x768 .bf16) (i : Fin 256) (j : Fin 768) :
    k0_pay27 (k0_pay25 h) (k0_pay26 h) x2 x3 (ix2 i j) = hrow (cqR (fun l => h (ix2 i l)) (fun j => x2 (ix2 0 j))) (fun k j => x3 (ix2 k j)) j := by
  pointwise [k0_pay25, k0_pay26, k0_pay27, hrow, cqR, rmsN]

/-! ## The values -/

/-- the second mixer's values of a token -/
def rowVb (r : Fin 1024) : Fin 384 → EReal := hrow (ckvR (tok m c t r) (kn m c t)) (wv m c t)

/-- the stripe's values, turned -/
def vb (r : ℕ) (h : ∀ a, (![r, 0] : Fin 2 → ℕ) a + S256x1024.size a ≤ S1024x1024.size a) : FVec Ideal S384x256 .f32 :=
  k0_pay42 (k0_pay23 (hs m c t r h) (ldf (ms0_4 t) (hs0_4 t) (iblk m c 4 t) (by decide)) (ldf (ms0_6 t) (hs0_6 t) (iblk m c 6 t) (by decide)))

theorem vb_at (r : ℕ) (h) (j : Fin 384) (i : Fin 256) (hr : r + i.val < 1024) : vb m c t r h (ix2 j i) = rowVb m c t ⟨r + i.val, hr⟩ j := by
  unfold vb rowVb
  have e (v : FVec Ideal S256x384 .f32) : k0_pay42 v (ix2 j i) = v (ix2 i j) := by pointwise [k0_pay42]
  rw [e, vmat_at]
  simp only [hs_at m c t r h i _ hr, ldf_at]

theorem list21 : (found m c t).2.2.2.2.2.1 = stripeV 768 (vb m c t 768 (by decide)) (by decide) ++ (stripeV 512 (vb m c t 512 (by decide)) (by decide)
    ++ (stripeV 256 (vb m c t 256 (by decide)) (by decide) ++ stripeV 0 (vb m c t 0 (by decide)) (by decide))) := by
  rfl

theorem held21_at (y : S480x1024.Idx) : held21 m c t y = GV (rowVb m c t) y := by
  unfold held21
  rw [View.read_writes_junk_eq_canon]
  refine View.canon_apply_of_pieces (GV (rowVb m c t)) _ ?_ y (covers21 m c t y)
  rw [list21]
  simp only [List.forall_mem_append]
  exact ⟨stripeV_at _ _ _ _ (vb_at m c t _ _), stripeV_at _ _ _ _ (vb_at m c t _ _), stripeV_at _ _ _ _ (vb_at m c t _ _),
    stripeV_at _ _ _ _ (vb_at m c t _ _)⟩

/-! ## The keys -/

/-- the second mixer's keys of a token -/
def rowKb (r : Fin 1024) (l : Fin 768) : EReal :=
  hrow (ckvR (tok m c t r) (kn m c t)) (wk m c t) l
    + turn (fun j => tok m c t r ⟨1536 + j.val, by omega⟩) (fun j => iblk m c 9 t (ix2 r j)) (fun j => iblk m c 10 t (ix2 r j)) ⟨l.val % 128, by omega⟩

/-- a block of keys from each token's -/
def G20 (y : S1024x768.Idx) : EReal := rowKb m c t (y 0) (y 1)

/-- one head's keys in a stripe -/
def headK (v : FVec Ideal S256x768 .f32) (p : FVec Ideal S256x128 .f32) (s : ℕ) (hs : S256x768.Slices ![0, s] S256x128) : FVec Ideal S256x128 .bf16 :=
  truncf .bf16 (addf (extractStridedSlice S256x128 ![0, s] v hs) p) (by decide)

theorem headK_at (v : FVec Ideal S256x768 .f32) (p : FVec Ideal S256x128 .f32) (s : ℕ) (hs) (x0 : Fin 256) (x1 : Fin 128) (h : s + x1.val < 768) :
    headK v p s hs (ix2 x0 x1) = v (ix2 x0 ⟨s + x1.val, h⟩) + p (ix2 x0 x1) := by
  pointwise [headK]

/-- the stripe's products of the latents and the keys' up-projection -/
def km (r : ℕ) (h : ∀ a, (![r, 0] : Fin 2 → ℕ) a + S256x1024.size a ≤ S1024x1024.size a) : FVec Ideal S256x768 .f32 :=
  k0_pay22 (hs m c t r h) (ldf (ms0_4 t) (hs0_4 t) (iblk m c 4 t) (by decide)) (ldf (ms0_5 t) (hs0_5 t) (iblk m c 5 t) (by decide))

/-- the stripe's rotated part of the keys -/
def kp (r : ℕ) (h : ∀ a, (![r, 0] : Fin 2 → ℕ) a + S256x1024.size a ≤ S1024x1024.size a)
    (h' : ∀ a, (![r, 0] : Fin 2 → ℕ) a + S256x128.size a ≤ S1024x128.size a) : FVec Ideal S256x128 .f32 :=
  k0_pay24 (hs m c t r h) (ldr (ms0_9 t) (hs0_9 t) (iblk m c 9 t) r h') (ldr (ms0_10 t) (hs0_10 t) (iblk m c 10 t) r h')

theorem pieceK (r s : ℕ) (h) (h') (T : r + 256 ≤ 1024) (ha : s + 128 ≤ 768) (e0 : s % 128 = 0) (hs) (inb) (x : S256x128.Idx) :
    headK (km m c t r h) (kp m c t r h h') s hs x = G20 m c t ((Rect.unit (s := S1024x768) ![r, s] S256x128.size inb).emb x) := by
  idx_vars x
  have hr : r + x0.val < 1024 := by omega
  rw [show (Rect.unit (s := S1024x768) ![r, s] S256x128.size inb).emb (ix2 x0 x1) = _ from emb2 inb x0 x1 hr (by omega),
    headK_at _ _ s hs x0 x1 (by omega)]
  change _ = rowKb m c t ⟨r + x0.val, hr⟩ ⟨s + x1.val, by omega⟩
  unfold km kp rowKb
  rw [kmat_at, kpe_at]
  simp only [hs_at m c t r h x0 _ hr, ldf_at, ldr_at _ _ _ r h' x0 _ hr]
  exact congrArg (_ + ·) (congrArg (turn _ _ _) (Fin.ext (show x1.val = (s + x1.val) % 128 by omega)))

/-- the stores of a stripe into the keys' block -/
def stripe20 (r : ℕ) (T : r + 256 ≤ 1024) : List (View.Piece (Elt Ideal) S1024x768 .bf16) :=
  have h : ∀ a, (![r, 0] : Fin 2 → ℕ) a + S256x1024.size a ≤ S1024x1024.size a := fun a => by fin_cases a; exacts [T, le_rfl]
  have h' : ∀ a, (![r, 0] : Fin 2 → ℕ) a + S256x128.size a ≤ S1024x128.size a := fun a => by fin_cases a; exacts [T, le_rfl]
  have hb : ∀ o, o + 128 ≤ 768 → ∀ a, (![r, o] : Fin 2 → ℕ) a + S256x128.size a ≤ S1024x768.size a := fun o ho a => by fin_cases a; exacts [T, ho]
  [⟨Rect.unit (s := S1024x768) ![r, 640] S256x128.size (hb 640 (by decide)), headK (km m c t r h) (kp m c t r h h') 640 (by decide)⟩,
   ⟨Rect.unit (s := S1024x768) ![r, 512] S256x128.size (hb 512 (by decide)), headK (km m c t r h) (kp m c t r h h') 512 (by decide)⟩,
   ⟨Rect.unit (s := S1024x768) ![r, 384] S256x128.size (hb 384 (by decide)), headK (km m c t r h) (kp m c t r h h') 384 (by decide)⟩,
   ⟨Rect.unit (s := S1024x768) ![r, 256] S256x128.size (hb 256 (by decide)), headK (km m c t r h) (kp m c t r h h') 256 (by decide)⟩,
   ⟨Rect.unit (s := S1024x768) ![r, 128] S256x128.size (hb 128 (by decide)), headK (km m c t r h) (kp m c t r h h') 128 (by decide)⟩,
   ⟨Rect.unit (s := S1024x768) ![r, 0] S256x128.size (hb 0 (by decide)), headK (km m c t r h) (kp m c t r h h') 0 (by decide)⟩]

theorem stripe20_at (r : ℕ) (T : r + 256 ≤ 1024) : ∀ p ∈ stripe20 m c t r T, ∀ x : p.1.shape.Idx, p.2 x = G20 m c t (p.1.emb x) := by
  unfold stripe20
  simp only [List.forall_mem_cons]
  exact ⟨pieceK m c t r 640 _ _ T (by decide) rfl _ _,
   pieceK m c t r 512 _ _ T (by decide) rfl _ _,
   pieceK m c t r 384 _ _ T (by decide) rfl _ _,
   pieceK m c t r 256 _ _ T (by decide) rfl _ _,
   pieceK m c t r 128 _ _ T (by decide) rfl _ _,
   pieceK m c t r 0 _ _ T (by decide) rfl _ _,
    fun _ h => absurd h List.not_mem_nil⟩

theorem list20 : (found m c t).2.2.2.2.1 = stripe20 m c t 768 (by decide) ++ (stripe20 m c t 512 (by decide)
    ++ (stripe20 m c t 256 (by decide) ++ stripe20 m c t 0 (by decide))) := by
  rfl

theorem held20_at (y : S1024x768.Idx) : held20 m c t y = G20 m c t y := by
  unfold held20
  rw [View.read_writes_junk_eq_canon]
  refine View.canon_apply_of_pieces (G20 m c t) _ ?_ y (covers20 m c t y)
  rw [list20]
  simp only [List.forall_mem_append]
  exact ⟨stripe20_at m c t _ _, stripe20_at m c t _ _, stripe20_at m c t _ _, stripe20_at m c t _ _⟩

/-! ## The queries -/

/-- the second mixer's queries of a token -/
def rowQb (r : Fin 1024) (l : Fin 768) : EReal :=
  turn (fun j => hrow (cqR (tok m c t r) (qn m c t)) (wq m c t) ⟨l.val / 128 * 128 + j.val, by omega⟩)
    (fun j => iblk m c 7 t (ix2 r j)) (fun j => iblk m c 8 t (ix2 r j)) ⟨l.val % 128, by omega⟩

/-- a block of queries from each token's -/
def G19 (y : S768x1024.Idx) : EReal := rowQb m c t (y 1) (y 0)

/-- one head's queries in a stripe, turned -/
def headQ (v : FVec Ideal S256x768 .f32) (a b : FVec Ideal S256x128 .f32) (s : ℕ) (hs : S256x768.Slices ![0, s] S256x128) : FVec Ideal S128x256 .bf16 :=
  truncf .bf16 (transpose S128x256 [1, 0] (addf (mulf (extractStridedSlice S256x128 ![0, s] v hs) (k0_pay28 a))
    (mulf (dynamicRotate 1 96#32 none (extractStridedSlice S256x128 ![0, s] v hs) rotates_S256x128_d1) (k0_pay29 b))) transposes_S256x128_p1_0_S128x256) (by decide)

theorem headQ_at (v : FVec Ideal S256x768 .f32) (a b : FVec Ideal S256x128 .f32) (s : ℕ) (hs) (x0 : Fin 128) (x1 : Fin 256) (h : s + 128 ≤ 768) :
    headQ v a b s hs (ix2 x0 x1) = turn (fun j => v (ix2 x1 ⟨s + j.val, by omega⟩)) (fun j => a (ix2 x1 j)) (fun j => b (ix2 x1 j)) x0 := by
  pointwise [headQ, k0_pay28, k0_pay29, turn]

/-- the stripe's products of the latents and the queries' up-projection -/
def qm (r : ℕ) (h : ∀ a, (![r, 0] : Fin 2 → ℕ) a + S256x1024.size a ≤ S1024x1024.size a) : FVec Ideal S256x768 .f32 :=
  k0_pay27 (k0_pay25 (hs m c t r h)) (k0_pay26 (hs m c t r h)) (ldf (ms0_2 t) (hs0_2 t) (iblk m c 2 t) (by decide)) (ldf (ms0_3 t) (hs0_3 t) (iblk m c 3 t) (by decide))

/-- the stores of a stripe into the queries' block -/
def stripe19 (r : ℕ) (T : r + 256 ≤ 1024) : List (View.Piece (Elt Ideal) S768x1024 .bf16) :=
  have h : ∀ a, (![r, 0] : Fin 2 → ℕ) a + S256x1024.size a ≤ S1024x1024.size a := fun a => by fin_cases a; exacts [T, le_rfl]
  have h' : ∀ a, (![r, 0] : Fin 2 → ℕ) a + S256x128.size a ≤ S1024x128.size a := fun a => by fin_cases a; exacts [T, le_rfl]
  have hb : ∀ o, o + 128 ≤ 768 → ∀ a, (![o, r] : Fin 2 → ℕ) a + S128x256.size a ≤ S768x1024.size a := fun o ho a => by fin_cases a; exacts [ho, T]
  [⟨Rect.unit (s := S768x1024) ![640, r] S128x256.size (hb 640 (by decide)),
     headQ (qm m c t r h) (ldr (ms0_7 t) (hs0_7 t) (iblk m c 7 t) r h') (ldr (ms0_8 t) (hs0_8 t) (iblk m c 8 t) r h') 640 (by decide)⟩,
   ⟨Rect.unit (s := S768x1024) ![512, r] S128x256.size (hb 512 (by decide)),
     headQ (qm m c t r h) (ldr (ms0_7 t) (hs0_7 t) (iblk m c 7 t) r h') (ldr (ms0_8 t) (hs0_8 t) (iblk m c 8 t) r h') 512 (by decide)⟩,
   ⟨Rect.unit (s := S768x1024) ![384, r] S128x256.size (hb 384 (by decide)),
     headQ (qm m c t r h) (ldr (ms0_7 t) (hs0_7 t) (iblk m c 7 t) r h') (ldr (ms0_8 t) (hs0_8 t) (iblk m c 8 t) r h') 384 (by decide)⟩,
   ⟨Rect.unit (s := S768x1024) ![256, r] S128x256.size (hb 256 (by decide)),
     headQ (qm m c t r h) (ldr (ms0_7 t) (hs0_7 t) (iblk m c 7 t) r h') (ldr (ms0_8 t) (hs0_8 t) (iblk m c 8 t) r h') 256 (by decide)⟩,
   ⟨Rect.unit (s := S768x1024) ![128, r] S128x256.size (hb 128 (by decide)),
     headQ (qm m c t r h) (ldr (ms0_7 t) (hs0_7 t) (iblk m c 7 t) r h') (ldr (ms0_8 t) (hs0_8 t) (iblk m c 8 t) r h') 128 (by decide)⟩,
   ⟨Rect.unit (s := S768x1024) ![0, r] S128x256.size (hb 0 (by decide)),
     headQ (qm m c t r h) (ldr (ms0_7 t) (hs0_7 t) (iblk m c 7 t) r h') (ldr (ms0_8 t) (hs0_8 t) (iblk m c 8 t) r h') 0 (by decide)⟩]

theorem pieceQ (r s : ℕ) (h) (h') (T : r + 256 ≤ 1024) (ha : s + 128 ≤ 768) (e0 : s % 128 = 0) (hs) (inb) (x : S128x256.Idx) :
    headQ (qm m c t r h) (ldr (ms0_7 t) (hs0_7 t) (iblk m c 7 t) r h') (ldr (ms0_8 t) (hs0_8 t) (iblk m c 8 t) r h') s hs x
      = G19 m c t ((Rect.unit (s := S768x1024) ![s, r] S128x256.size inb).emb x) := by
  idx_vars x
  have hr : r + x1.val < 1024 := by omega
  rw [show (Rect.unit (s := S768x1024) ![s, r] S128x256.size inb).emb (ix2 x0 x1) = _ from emb2 inb x0 x1 (by omega) hr,
    headQ_at _ _ _ s hs x0 x1 ha]
  change _ = rowQb m c t ⟨r + x1.val, hr⟩ ⟨s + x0.val, by omega⟩
  unfold qm rowQb
  simp only [qmat_at, hs_at m c t r h x1 _ hr, ldf_at, ldr_at _ _ _ r h' x1 _ hr]
  have e : ∀ j : Fin 128, s + j.val = (s + x0.val) / 128 * 128 + j.val := fun j => by omega
  exact turn_congr (fun j => congrArg (hrow _ _) (Fin.ext (e j))) (show x0.val = (s + x0.val) % 128 by omega)

theorem stripe19_at (r : ℕ) (T : r + 256 ≤ 1024) : ∀ p ∈ stripe19 m c t r T, ∀ x : p.1.shape.Idx, p.2 x = G19 m c t (p.1.emb x) := by
  unfold stripe19
  simp only [List.forall_mem_cons]
  exact ⟨pieceQ m c t r 640 _ _ T (by decide) rfl _ _,
   pieceQ m c t r 512 _ _ T (by decide) rfl _ _,
   pieceQ m c t r 384 _ _ T (by decide) rfl _ _,
   pieceQ m c t r 256 _ _ T (by decide) rfl _ _,
   pieceQ m c t r 128 _ _ T (by decide) rfl _ _,
   pieceQ m c t r 0 _ _ T (by decide) rfl _ _,
    fun _ h => absurd h List.not_mem_nil⟩

theorem list19 : (found m c t).2.2.2.1 = stripe19 m c t 768 (by decide) ++ (stripe19 m c t 512 (by decide)
    ++ (stripe19 m c t 256 (by decide) ++ stripe19 m c t 0 (by decide))) := by
  rfl

theorem held19_at (y : S768x1024.Idx) : held19 m c t y = G19 m c t y := by
  unfold held19
  rw [View.read_writes_junk_eq_canon]
  refine View.canon_apply_of_pieces (G19 m c t) _ ?_ y (covers19 m c t y)
  rw [list19]
  simp only [List.forall_mem_append]
  exact ⟨stripe19_at m c t _ _, stripe19_at m c t _ _, stripe19_at m c t _ _, stripe19_at m c t _ _⟩

end Cert.Proof.In

end
-- ==== Proof.InC.lean ====
/- What the projection leaves for the third mixer: in each chunk of 128 tokens, the gated and normalised mix of the chunk's rows. -/
module

public import proofs.«01_k».proof.Proof.InB

@[expose] public section

set_option maxRecDepth 16384

noncomputable section

namespace Cert.Proof.In

open Idealize.ShloMosaic Idealize.ShloMosaic.TcCoe Idealize.SL.Sem
open Cert.InprojIdeal Cert.InprojIdeal.Gen Cert.Proof.In.I

/-- the smooth rectifier -/
def gel (z : EReal) : EReal :=
  z * (Ideal.ofBits .f32 0x3F000000#32 * (1 + Ideal.tanh (Ideal.ofBits .f32 0x3F4C422A#32 * (z + Ideal.ofBits .f32 0x3D372713#32 * (z * (z * z))))))

/-- a row less its mean -/
def cenR (z : Fin 256 → EReal) (l : Fin 256) : EReal := z l - Ideal.div (∑ j : Fin 256, z j) (Ideal.ofBits .f32 0x43800000#32)

/-- the layer normalisation of a row -/
def lnR (z a b : Fin 256 → EReal) (l : Fin 256) : EReal :=
  cenR z l * Ideal.rsqrt (Ideal.div (∑ j : Fin 256, cenR z j * cenR z j) (Ideal.ofBits .f32 0x43800000#32) + Ideal.ofBits .f32 0x3727C5AC#32) * a l + b l

/-- a token's gate -/
def gateR (g : Fin 2176 → EReal) (l : Fin 256) : EReal := gel (g ⟨1664 + l.val, by omega⟩)

/-- a token's row before the mix -/
def preR (g : Fin 2176 → EReal) (a b : Fin 256 → EReal) : Fin 256 → EReal := lnR (fun l => gel (g ⟨1664 + (256 + l.val), by omega⟩)) a b

theorem z_at (h : FVec Ideal S256x2176 .f32) (i : Fin 256) (l : Fin 512) : k0_pay49 h (ix2 i l) = gel (h (ix2 i ⟨1664 + l.val, by omega⟩)) := by
  pointwise [k0_pay49, gel]

theorem u_at (h : FVec Ideal S256x2176 .f32) (i : Fin 256) (l : Fin 256) : k0_pay50 h (ix2 i l) = gateR (fun l => h (ix2 i l)) l := by
  have e : k0_pay50 h (ix2 i l) = k0_pay49 h (ix2 i ⟨l.val, by omega⟩) := by pointwise [k0_pay50]
  rw [e, z_at]
  rfl

theorem cen_at (h : FVec Ideal S256x2176 .f32) (i : Fin 256) (l : Fin 256) :
    k0_pay53 h (ix2 i l) = cenR (fun l => gel (h (ix2 i ⟨1664 + (256 + l.val), by omega⟩))) l := by
  have e : k0_pay53 h (ix2 i l) = cenR (fun l => k0_pay49 h (ix2 i ⟨256 + l.val, by omega⟩)) l := by pointwise [k0_pay53, cenR]
  rw [e]
  simp only [z_at]

theorem ln_at (h : FVec Ideal S256x2176 .f32) (a b : FVec Ideal S1x256 .f32) (i : Fin 256) (l : Fin 256) :
    k0_pay55 (k0_pay51 a) (k0_pay52 b) (k0_pay53 h) (k0_pay54 h) (ix2 i l)
      = preR (fun l => h (ix2 i l)) (fun l => a (ix2 0 l)) (fun l => b (ix2 0 l)) l := by
  have e : k0_pay55 (k0_pay51 a) (k0_pay52 b) (k0_pay53 h) (k0_pay54 h) (ix2 i l) = k0_pay53 h (ix2 i l)
      * Ideal.rsqrt (Ideal.div (∑ j : Fin 256, k0_pay53 h (ix2 i j) * k0_pay53 h (ix2 i j)) (Ideal.ofBits .f32 0x43800000#32) + Ideal.ofBits .f32 0x3727C5AC#32)
      * a (ix2 0 l) + b (ix2 0 l) := by
    pointwise [k0_pay55, k0_pay51, k0_pay52, k0_pay54]
  rw [e]
  simp only [cen_at, preR, lnR]

/-- which group of 64 channels a channel is of -/
theorem grp_at (i : Fin 128) (l : Fin 256) : k0_pay4 (ix2 i l) = BitVec.ofNat 32 (l.val / 64) := by
  pointwise [k0_pay4]
  revert l
  decide +kernel

/-- the chunk's rows, once for each group with the other groups' channels zero -/
def stackC (v : FVec Ideal S256x256 .f32) (o : ℕ) (ho : S256x256.Slices ![o, 0] S128x256) : FVec Ideal S512x256 .f32 :=
  concatenate S512x256 0
    [⟨S128x256, select (cmpi .eq k0_pay4 (broadcast S128x256 0#32)) (extractStridedSlice S128x256 ![o, 0] v ho) (broadcast S128x256 (Scalar.ofBits (F := Ideal) .f32 0x00000000#32))⟩,
     ⟨S128x256, select (cmpi .eq k0_pay4 (broadcast S128x256 1#32)) (extractStridedSlice S128x256 ![o, 0] v ho) (broadcast S128x256 (Scalar.ofBits (F := Ideal) .f32 0x00000000#32))⟩,
     ⟨S128x256, select (cmpi .eq k0_pay4 (broadcast S128x256 2#32)) (extractStridedSlice S128x256 ![o, 0] v ho) (broadcast S128x256 (Scalar.ofBits (F := Ideal) .f32 0x00000000#32))⟩,
     ⟨S128x256, select (cmpi .eq k0_pay4 (broadcast S128x256 3#32)) (extractStridedSlice S128x256 ![o, 0] v ho) (broadcast S128x256 (Scalar.ofBits (F := Ideal) .f32 0x00000000#32))⟩]
    concatenates_S128x256_S128x256_S128x256_S128x256_S512x256_d0

theorem sel (q k : ℕ) (hq : q < 4) (hk : k < 4) (x : EReal) :
    Scalar.select (IntOp.cmpi .eq (BitVec.ofNat 32 q) (BitVec.ofNat 32 k)) x 0 = if q = k then x else 0 := by
  interval_cases q <;> interval_cases k <;> rfl

theorem stackC_at (v : FVec Ideal S256x256 .f32) (o : ℕ) (ho) (k : Fin 512) (l : Fin 256) (h : o + 128 ≤ 256) :
    stackC v o ho (ix2 k l) = if l.val / 64 = k.val / 128 then v (ix2 ⟨o + k.val % 128, by omega⟩ l) else 0 := by
  have hl : l.val / 64 < 4 := by omega
  pointwise [stackC, grp_at]
  by_cases h0 : k.val < 128
  · rw [dif_pos h0]
    exact (sel _ 0 hl (by decide) _).trans (if_congr (by omega) (congrArg (fun q => v (ix2 q l)) (Fin.ext (show o + k.val = o + k.val % 128 by omega))) rfl)
  rw [dif_neg h0]
  by_cases h1 : k.val - 128 < 128
  · rw [dif_pos h1]
    exact (sel _ 1 hl (by decide) _).trans (if_congr (by omega) (congrArg (fun q => v (ix2 q l)) (Fin.ext (show o + (k.val - 128) = o + k.val % 128 by omega))) rfl)
  rw [dif_neg h1]
  by_cases h2 : k.val - 128 - 128 < 128
  · rw [dif_pos h2]
    exact (sel _ 2 hl (by decide) _).trans (if_congr (by omega) (congrArg (fun q => v (ix2 q l)) (Fin.ext (show o + (k.val - 128 - 128) = o + k.val % 128 by omega))) rfl)
  rw [dif_neg h2]
  exact (sel _ 3 hl (by decide) _).trans (if_congr (by omega) (congrArg (fun q => v (ix2 q l)) (Fin.ext (show o + (k.val - 128 - 128 - 128) = o + k.val % 128 by omega))) rfl)

/-- the chunk's rows mixed and gated -/
def mixC (u v : FVec Ideal S256x256 .f32) (w : FVec Ideal S128x512 .bf16) (b : FVec Ideal S128x256 .f32) (o : ℕ) (ho : S256x256.Slices ![o, 0] S128x256) :
    FVec Ideal S128x256 .f32 :=
  mulf (extractStridedSlice S128x256 ![o, 0] u ho)
    (addf (matmul dot_S128x512_S512x256_S128x256_1_0_0_1_n_n none (shapeCast S128x512 w shapeCasts_S128x512_S128x512) (truncf .bf16 (stackC v o ho) (by decide))
      (constant S128x256 .f32 0x00000000#32)) (shapeCast S128x256 b shapeCasts_S128x256_S128x256))

/-- the same, normalised -/
def outC (u v : FVec Ideal S256x256 .f32) (w : FVec Ideal S128x512 .bf16) (b : FVec Ideal S128x256 .f32) (g : FVec Ideal S1x256 .f32) (o : ℕ)
    (ho : S256x256.Slices ![o, 0] S128x256) : FVec Ideal S128x256 .bf16 :=
  have y := mixC u v w b o ho
  truncf .bf16 (mulf (mulf y (broadcastTo S128x256 (rsqrt (addf (divf (shapeCast S128x1 (multiReduction .add [1] S128 (mulf y y) 0x00000000#32 reduces_S128x256_S128
    (.inl rfl) rfl) shapeCasts_S128_S128x1) (broadcast S128x1 (Scalar.ofBits .f32 0x43800000#32))) (broadcast S128x1 (Scalar.ofBits .f32 0x3727C5AC#32))))
    broadcasts_S128x1_S128x256)) (broadcastTo S128x256 (shapeCast S1x256 g shapeCasts_S1x256_S1x256) broadcasts_S1x256_S128x256)) (by decide)

/-- a token's mix: over the chunk's rows with the weights of the channel's group, and a bias -/
def mixR (u : Fin 256 → EReal) (v : Fin 128 → Fin 256 → EReal) (w : Fin 4 → Fin 128 → EReal) (b : Fin 256 → EReal) (l : Fin 256) : EReal :=
  u l * (∑ s : Fin 128, v s l * w ⟨l.val / 64, by omega⟩ s + b l)

theorem mixR_congr {u u' : Fin 256 → EReal} {v v' : Fin 128 → Fin 256 → EReal} {w w' : Fin 4 → Fin 128 → EReal} {b b' : Fin 256 → EReal}
    (hu : u = u') (hv : ∀ s, v s = v' s) (hw : ∀ g s, w g s = w' g s) (hb : ∀ l, b l = b' l) (l : Fin 256) : mixR u v w b l = mixR u' v' w' b' l := by
  rw [hu, show v = v' from funext hv, show w = w' from funext fun g => funext (hw g), show b = b' from funext hb]

theorem mix_sum (w : Fin 512 → EReal) (v : Fin 128 → EReal) (g : Fin 4) :
    ∑ k : Fin 512, w k * (if g.val = k.val / 128 then v ⟨k.val % 128, by omega⟩ else 0) = ∑ s : Fin 128, v s * w ⟨g.val * 128 + s.val, by omega⟩ := by
  rw [← Equiv.sum_comp (finProdFinEquiv (m := 4) (n := 128)), Fintype.sum_prod_type]
  refine (Finset.sum_eq_single g ?_ ?_).trans ?_
  · intro b _ hb
    refine Finset.sum_eq_zero fun s _ => ?_
    rw [if_neg, mul_zero]
    intro h
    refine hb (Fin.ext ?_)
    have e : (finProdFinEquiv (b, s)).val = s.val + 128 * b.val := rfl
    omega
  · exact fun h => absurd (Finset.mem_univ _) h
  · refine Finset.sum_congr rfl fun s _ => ?_
    have e : (finProdFinEquiv (g, s)).val = s.val + 128 * g.val := rfl
    rw [if_pos (by omega), mul_comm]
    exact congrArg₂ (· * ·) (congrArg v (Fin.ext (show (finProdFinEquiv (g, s)).val % 128 = s.val by omega)))
      (congrArg w (Fin.ext (show (finProdFinEquiv (g, s)).val = g.val * 128 + s.val by omega)))

theorem mixC_at (u v : FVec Ideal S256x256 .f32) (w : FVec Ideal S128x512 .bf16) (b : FVec Ideal S128x256 .f32) (o : ℕ) (ho) (h : o + 128 ≤ 256)
    (i : Fin 128) (l : Fin 256) : mixC u v w b o ho (ix2 i l)
      = mixR (fun l => u (ix2 ⟨o + i.val, by omega⟩ l)) (fun s l => v (ix2 ⟨o + s.val, by omega⟩ l)) (fun g s => w (ix2 i ⟨g.val * 128 + s.val, by omega⟩))
          (fun l => b (ix2 i l)) l := by
  have e : mixC u v w b o ho (ix2 i l) = u (ix2 ⟨o + i.val, by omega⟩ l) * (∑ k : Fin 512, w (ix2 i k) * stackC v o ho (ix2 k l) + b (ix2 i l)) := by
    pointwise [mixC]
  rw [e]
  simp only [stackC_at v o ho _ l h]
  rw [mix_sum (fun k => w (ix2 i k)) (fun s => v (ix2 ⟨o + s.val, by omega⟩ l)) ⟨l.val / 64, by omega⟩]
  rfl

theorem outC_at (u v : FVec Ideal S256x256 .f32) (w : FVec Ideal S128x512 .bf16) (b : FVec Ideal S128x256 .f32) (g : FVec Ideal S1x256 .f32) (o : ℕ) (ho)
    (i : Fin 128) (l : Fin 256) : outC u v w b g o ho (ix2 i l)
      = rmsN (Ideal.ofBits .f32 0x43800000#32) (fun l => mixC u v w b o ho (ix2 i l)) (fun l => g (ix2 0 l)) l := by
  pointwise [outC, rmsN]

variable (m : (ℓ : Loc nD τ sig) → Buf (Elt Ideal) ℓ) (c : Dev nD) (t : Fin cfg0.N)

/-- the third mixer's result for a token -/
def rowYc (r : Fin 1024) : Fin 256 → EReal :=
  rmsN (Ideal.ofBits .f32 0x43800000#32) (mixR (gateR (tok m c t r))
    (fun s => preR (tok m c t ⟨r.val / 128 * 128 + s.val, by omega⟩) (fun l => iblk m c 11 t (ix2 0 l)) (fun l => iblk m c 12 t (ix2 0 l)))
    (fun g s => iblk m c 13 t (ix2 ⟨r.val % 128, by omega⟩ ⟨g.val * 128 + s.val, by omega⟩))
    (fun l => iblk m c 14 t (ix2 ⟨r.val % 128, by omega⟩ l))) (fun l => iblk m c 15 t (ix2 0 l))

/-- a block of the third mixer's results from each token's -/
def G22 (y : S1024x256.Idx) : EReal := rowYc m c t (y 0) (y 1)

/-- what a chunk of a stripe stores -/
def chunk (r o : ℕ) (h : ∀ a, (![r, 0] : Fin 2 → ℕ) a + S256x1024.size a ≤ S1024x1024.size a) (ho : S256x256.Slices ![o, 0] S128x256) : FVec Ideal S128x256 .bf16 :=
  outC (k0_pay50 (hs m c t r h))
    (k0_pay55 (k0_pay51 (ldf (ms0_11 t) (hs0_11 t) (iblk m c 11 t) (by decide))) (k0_pay52 (ldf (ms0_12 t) (hs0_12 t) (iblk m c 12 t) (by decide)))
      (k0_pay53 (hs m c t r h)) (k0_pay54 (hs m c t r h)))
    (ldf (ms0_13 t) (hs0_13 t) (iblk m c 13 t) (by decide)) (ldf (ms0_14 t) (hs0_14 t) (iblk m c 14 t) (by decide))
    (ldf (ms0_15 t) (hs0_15 t) (iblk m c 15 t) (by decide)) o ho

theorem pieceY (r o a : ℕ) (h) (ho) (T : r + 256 ≤ 1024) (hoo : o + 128 ≤ 256) (ea : a = r + o) (e0 : a % 128 = 0) (inb) (x : S128x256.Idx) :
    chunk m c t r o h ho x = G22 m c t ((Rect.unit (s := S1024x256) ![a, 0] S128x256.size inb).emb x) := by
  subst ea
  idx_vars x
  have hr : r + o + x0.val < 1024 := by omega
  rw [show (Rect.unit (s := S1024x256) ![r + o, 0] S128x256.size inb).emb (ix2 x0 x1) = _ from emb2 inb x0 x1 hr (by omega)]
  unfold chunk
  rw [outC_at]
  have eh : ∀ i : Fin 128, (fun l => hs m c t r h (ix2 ⟨o + i.val, by omega⟩ l)) = tok m c t ⟨r + (o + i.val), by omega⟩ := fun i =>
    funext fun l => hs_at m c t r h _ l _
  simp only [mixC_at _ _ _ _ _ _ hoo, u_at, ln_at, ldf_at, eh]
  change _ = rowYc m c t ⟨r + o + x0.val, hr⟩ ⟨0 + x1.val, by omega⟩
  unfold rowYc
  refine rmsN_congr (fun l => mixR_congr ?_ (fun s => ?_) (fun g s => ?_) (fun l => ?_) l) (fun _ => rfl) (show x1.val = 0 + x1.val by omega)
  · exact congrArg (fun q => gateR (tok m c t q)) (Fin.ext (show r + (o + x0.val) = r + o + x0.val by omega))
  · exact congrArg (fun q => preR (tok m c t q) _ _) (Fin.ext (show r + (o + s.val) = (r + o + x0.val) / 128 * 128 + s.val by omega))
  · exact congrArg (fun q => iblk m c 13 t (ix2 q _)) (Fin.ext (show x0.val = (r + o + x0.val) % 128 by omega))
  · exact congrArg (fun q => iblk m c 14 t (ix2 q l)) (Fin.ext (show x0.val = (r + o + x0.val) % 128 by omega))

/-- the stores of a stripe into the block of results -/
def stripe22 (r : ℕ) (T : r + 256 ≤ 1024) : List (View.Piece (Elt Ideal) S1024x256 .bf16) :=
  have h : ∀ a, (![r, 0] : Fin 2 → ℕ) a + S256x1024.size a ≤ S1024x1024.size a := fun a => by fin_cases a; exacts [T, le_rfl]
  have hb : ∀ o, o + 128 ≤ 1024 → ∀ a, (![o, 0] : Fin 2 → ℕ) a + S128x256.size a ≤ S1024x256.size a := fun o ho a => by fin_cases a; exacts [ho, le_rfl]
  [⟨Rect.unit (s := S1024x256) ![r + 128, 0] S128x256.size (hb (r + 128) (by omega)), chunk m c t r 128 h (by decide)⟩,
   ⟨Rect.unit (s := S1024x256) ![r, 0] S128x256.size (hb r (by omega)), chunk m c t r 0 h (by decide)⟩]

theorem stripe22_at (r : ℕ) (T : r + 256 ≤ 1024) (e : r % 128 = 0) : ∀ p ∈ stripe22 m c t r T, ∀ x : p.1.shape.Idx, p.2 x = G22 m c t (p.1.emb x) := by
  unfold stripe22
  simp only [List.forall_mem_cons]
  exact ⟨pieceY m c t r 128 (r + 128) _ _ T (by decide) rfl (by omega) _, pieceY m c t r 0 r _ _ T (by decide) rfl e _, fun _ h => absurd h List.not_mem_nil⟩

theorem list22 : (found m c t).2.2.2.2.2.2.1 = stripe22 m c t 768 (by decide) ++ (stripe22 m c t 512 (by decide)
    ++ (stripe22 m c t 256 (by decide) ++ stripe22 m c t 0 (by decide))) := by
  rfl

theorem held22_at (y : S1024x256.Idx) : held22 m c t y = G22 m c t y := by
  unfold held22
  rw [View.read_writes_junk_eq_canon]
  refine View.canon_apply_of_pieces (G22 m c t) _ ?_ y (covers22 m c t y)
  rw [list22]
  simp only [List.forall_mem_append]
  exact ⟨stripe22_at m c t _ _ rfl, stripe22_at m c t _ _ rfl, stripe22_at m c t _ _ rfl, stripe22_at m c t _ _ rfl⟩

end Cert.Proof.In

end
-- ==== Proof.InPack.lean ====
/- Where the host's packed arrays keep the projection's weights and tables. -/
module

public import proofs.«01_k».proof.Proof.InFrameI
public import Idealize.ShloMosaic.Lib.Pipeline.ValueKit
public import Idealize.ShloMosaic.Lib.StableHlo.RunClose

@[expose] public section

set_option maxRecDepth 16384

noncomputable section

namespace Cert.Proof.In

open Idealize.ShloMosaic Idealize.ShloMosaic.TcCoe Idealize.SL.Sem
open Cert.InprojIdeal Cert.InprojIdeal.Gen Cert.Proof.In.I

theorem idx : ∀ t : Fin cfg0.N,
    (cfg0.win 0).index t = ![t.val, 0] ∧ (cfg0.win 1).index t = ![0, 0] ∧ (cfg0.win 2).index t = ![0, 0] ∧ (cfg0.win 3).index t = ![0, 0]
      ∧ (cfg0.win 4).index t = ![0, 0] ∧ (cfg0.win 5).index t = ![0, 0] ∧ (cfg0.win 6).index t = ![0, 0]
      ∧ (cfg0.win 7).index t = ![t.val % 16, 0] ∧ (cfg0.win 8).index t = ![t.val % 16, 0] ∧ (cfg0.win 9).index t = ![t.val % 16, 0] ∧ (cfg0.win 10).index t = ![t.val % 16, 0]
      ∧ (cfg0.win 11).index t = ![0, 0] ∧ (cfg0.win 12).index t = ![0, 0] ∧ (cfg0.win 13).index t = ![0, 0] ∧ (cfg0.win 14).index t = ![0, 0] ∧ (cfg0.win 15).index t = ![0, 0]
      ∧ (cfg0.win 16).index t = ![0, t.val] ∧ (cfg0.win 17).index t = ![t.val, 0] ∧ (cfg0.win 18).index t = ![0, t.val] ∧ (cfg0.win 19).index t = ![0, t.val]
      ∧ (cfg0.win 20).index t = ![t.val, 0] ∧ (cfg0.win 21).index t = ![0, t.val] ∧ (cfg0.win 22).index t = ![t.val, 0] := by
  decide +kernel

variable (m : (ℓ : Loc nD τ sig) → Buf (Elt Ideal) ℓ) (c : Dev nD)

theorem x_at (t : Fin cfg0.N) (r d : Fin 1024) (ht : t.val < 32) : iblk m c 0 t (ix2 r d) = m ((c : Thread nD τ).loc main_arg0) (ix2 ⟨t.val * 1024 + r.val, by omega⟩ d) := by
  blk_ext [iblk, V, idx t]

theorem w_blk (t : Fin cfg0.N) (k : Fin 1024) (l : Fin 2176) : iblk m c 1 t (ix2 k l) = V m c main_v22 (ix2 k l) := by
  blk_ext [iblk, idx t]

/-- where the packed weights keep each of the projection's columns -/
def pk (g : Fin 2016 → EReal) (l : Fin 2176) : EReal :=
  if h : l.val < 1152 then g ⟨l.val, by omega⟩
  else if h : l.val - 1152 < 128 then g ⟨1344 + (l.val - 1152), by omega⟩
  else if h : l.val - 1152 - 128 < 192 then g ⟨1152 + (l.val - 1152 - 128), by omega⟩
  else if l.val - 1152 - 128 - 192 < 64 then 0
  else if l.val - 1152 - 128 - 192 - 64 < 64 then 0
  else if h : l.val - 1152 - 128 - 192 - 64 - 64 < 32 then g ⟨1472 + (l.val - 1152 - 128 - 192 - 64 - 64), by omega⟩
  else if h : l.val - 1152 - 128 - 192 - 64 - 64 - 32 < 32 then
    (if h : l.val - 1152 - 128 - 192 - 64 - 64 - 32 < 16 then g ⟨1472 + (16 + (l.val - 1152 - 128 - 192 - 64 - 64 - 32)), by omega⟩
      else g ⟨1472 + (l.val - 1152 - 128 - 192 - 64 - 64 - 32 - 16), by omega⟩)
  else g ⟨1504 + (l.val - 1152 - 128 - 192 - 64 - 64 - 32 - 32), by omega⟩

theorem w_pk (k : Fin 1024) (l : Fin 2176) : V m c main_v22 (ix2 k l) = pk (fun j => m ((c : Thread nD τ).loc main_arg1) (ix2 k j)) l := by
  unfold V hostOps0
  simp only [List.flatten_cons, List.flatten_nil, List.append_nil, List.cons_append, List.nil_append]
  after_results
  pointwise
  after_results_simp_entrywise
  pointwise
  rfl

end Cert.Proof.In

end
-- ==== Proof.InPackB.lean ====
/- What the host's other packed arrays hold: the gains, the two up-projections, the rotary tables and the mixing weights. -/
module

public import proofs.«01_k».proof.Proof.InFrameI
public import Idealize.ShloMosaic.Lib.Pipeline.ValueKit
public import Idealize.ShloMosaic.Lib.StableHlo.RunClose

@[expose] public section

set_option maxRecDepth 16384

noncomputable section

namespace Cert.Proof.In

open Idealize.ShloMosaic Idealize.ShloMosaic.TcCoe Idealize.SL.Sem
open Cert.InprojIdeal Cert.InprojIdeal.Gen Cert.Proof.In.I

variable (m : (ℓ : Loc nD τ sig) → Buf (Elt Ideal) ℓ) (c : Dev nD)

theorem qn_at (k : Fin 192) : V m c main_v23 (ix2 0 k) = m ((c : Thread nD τ).loc main_arg2) (ix1 k) := by
  unfold V hostOps0
  simp only [List.flatten_cons, List.flatten_nil, List.append_nil, List.cons_append, List.nil_append]
  after_results
  pointwise

theorem kvn_at (k : Fin 128) : V m c main_v25 (ix2 0 k) = m ((c : Thread nD τ).loc main_arg4) (ix1 k) := by
  unfold V hostOps0
  simp only [List.flatten_cons, List.flatten_nil, List.append_nil, List.cons_append, List.nil_append]
  after_results
  pointwise

theorem lng_at (k : Fin 256) : V m c main_v31 (ix2 0 k) = m ((c : Thread nD τ).loc main_arg6) (ix1 k) := by
  unfold V hostOps0
  simp only [List.flatten_cons, List.flatten_nil, List.append_nil, List.cons_append, List.nil_append]
  after_results
  pointwise

theorem lnb_at (k : Fin 256) : V m c main_v32 (ix2 0 k) = m ((c : Thread nD τ).loc main_arg7) (ix1 k) := by
  unfold V hostOps0
  simp only [List.flatten_cons, List.flatten_nil, List.append_nil, List.cons_append, List.nil_append]
  after_results
  pointwise

theorem mnc_at (k : Fin 256) : V m c main_v46 (ix2 0 k) = m ((c : Thread nD τ).loc main_arg10) (ix1 k) := by
  unfold V hostOps0
  simp only [List.flatten_cons, List.flatten_nil, List.append_nil, List.cons_append, List.nil_append]
  after_results
  pointwise

theorem bs_at (k : Fin 128) (l : Fin 256) : V m c main_v45 (ix2 k l) = m ((c : Thread nD τ).loc main_arg9) (ix2 ⟨l.val / 64, by omega⟩ k) := by
  unfold V hostOps0
  simp only [List.flatten_cons, List.flatten_nil, List.append_nil, List.cons_append, List.nil_append]
  after_results
  pointwise

/-- the columns of the second mixer's values in its up-projection -/
def pkv (g : Fin 768 → EReal) (l : Fin 384) : EReal := g ⟨l.val / 64 * 128 + (64 + l.val % 64), by omega⟩

/-- the columns of the second mixer's keys in its up-projection, and zeros -/
def pkk (g : Fin 768 → EReal) (l : Fin 768) : EReal := if h : l.val % 128 < 64 then g ⟨l.val / 128 * 128 + l.val % 128, by omega⟩ else 0

/-- the columns of the second mixer's queries in their up-projection, then the rotated half's again with its halves swapped -/
def pkq (g : Fin 576 → EReal) (l : Fin 768) : EReal :=
  if h : l.val % 128 < 96 then g ⟨l.val / 128 * 96 + l.val % 128, by omega⟩
  else if h : l.val % 128 - 96 < 16 then g ⟨l.val / 128 * 96 + (64 + (16 + (l.val % 128 - 96))), by omega⟩
  else g ⟨l.val / 128 * 96 + (64 + (l.val % 128 - 96 - 16)), by omega⟩

/-- a row of the cosines' table: zeros, the cosines twice, zeros -/
def tabc (o : EReal) (co : Fin 16 → EReal) (j : Fin 128) : EReal :=
  if h : j.val < 64 then o else if h : j.val - 64 < 16 then co ⟨j.val - 64, h⟩ else if h : j.val - 64 - 16 < 16 then co ⟨j.val - 64 - 16, h⟩ else 0

/-- a row of the sines' table: zeros, the sines' negatives, the sines, zeros -/
def tabs (si : Fin 16 → EReal) (j : Fin 128) : EReal :=
  if h : j.val < 64 then 0 else if h : j.val - 64 < 16 then -si ⟨j.val - 64, h⟩ else if h : j.val - 64 - 16 < 16 then si ⟨j.val - 64 - 16, h⟩ else 0

/-- the queries' scale -/
def scb : EReal := Ideal.ofBits .f32 0x3E16C740#32

theorem wv_at (k : Fin 128) (l : Fin 384) : V m c main_v30 (ix2 k l) = pkv (fun j => m ((c : Thread nD τ).loc main_arg5) (ix2 k j)) l := by
  unfold V hostOps0
  simp only [List.flatten_cons, List.flatten_nil, List.append_nil, List.cons_append, List.nil_append]
  after_results
  pointwise
  rfl

theorem wk_at (k : Fin 128) (l : Fin 768) : V m c main_v27 (ix2 k l) = pkk (fun j => m ((c : Thread nD τ).loc main_arg5) (ix2 k j)) l := by
  unfold V hostOps0
  simp only [List.flatten_cons, List.flatten_nil, List.append_nil, List.cons_append, List.nil_append]
  after_results
  pointwise
  rfl

theorem wq_at (k : Fin 192) (l : Fin 768) : V m c main_v24 (ix2 k l) = pkq (fun j => m ((c : Thread nD τ).loc main_arg3) (ix2 k j)) l := by
  unfold V hostOps0
  simp only [List.flatten_cons, List.flatten_nil, List.append_nil, List.cons_append, List.nil_append]
  after_results
  pointwise
  rfl

theorem ck_at (s : Fin 16384) (j : Fin 128) : V m c main_v61 (ix2 s j) = tabc 0 (fun i => m ((c : Thread nD τ).loc main_arg11) (ix2 s i)) j := by
  unfold V hostOps0
  simp only [List.flatten_cons, List.flatten_nil, List.append_nil, List.cons_append, List.nil_append]
  after_results
  pointwise
  after_results_simp_entrywise
  pointwise
  rfl

theorem sk_at (s : Fin 16384) (j : Fin 128) : V m c main_v63 (ix2 s j) = tabs (fun i => m ((c : Thread nD τ).loc main_arg12) (ix2 s i)) j := by
  unfold V hostOps0
  simp only [List.flatten_cons, List.flatten_nil, List.append_nil, List.cons_append, List.nil_append]
  after_results
  pointwise
  after_results_simp_entrywise
  pointwise
  rfl

theorem cq_at (s : Fin 16384) (j : Fin 128) : V m c main_v55 (ix2 s j) = scb * tabc 1 (fun i => m ((c : Thread nD τ).loc main_arg11) (ix2 s i)) j := by
  unfold V hostOps0
  simp only [List.flatten_cons, List.flatten_nil, List.append_nil, List.cons_append, List.nil_append]
  after_results
  pointwise
  after_results_simp_entrywise
  pointwise
  rfl

theorem sq_at (s : Fin 16384) (j : Fin 128) : V m c main_v59 (ix2 s j) = scb * tabs (fun i => m ((c : Thread nD τ).loc main_arg12) (ix2 s i)) j := by
  unfold V hostOps0
  simp only [List.flatten_cons, List.flatten_nil, List.append_nil, List.cons_append, List.nil_append]
  after_results
  pointwise
  after_results_simp_entrywise
  pointwise
  rfl

theorem wm_at (k : Fin 128) (l : Fin 512) : V m c main_v42 (ix2 k l) = m ((c : Thread nD τ).loc main_arg8) (ix3 ⟨l.val / 128, by omega⟩ k ⟨l.val % 128, by omega⟩) := by
  unfold V hostOps0
  simp only [List.flatten_cons, List.flatten_nil, List.append_nil, List.cons_append, List.nil_append]
  after_results
  pointwise
  after_results_simp_entrywise
  pointwise
  split_ifs
  all_goals
    refine congrArg (m ((c : Thread nD τ).loc main_arg8)) (congrArg₂ (fun a b => ix3 a k b) (Fin.ext ?_) (Fin.ext ?_))
    · show (_ : ℕ) = l.val / 128
      first
        | exact (show 0 = l.val / 128 by omega)
        | exact (show 1 = l.val / 128 by omega)
        | exact (show 2 = l.val / 128 by omega)
        | exact (show 3 = l.val / 128 by omega)
    · dsimp only
      omega

end Cert.Proof.In

end
-- ==== Proof.InTok.lean ====
/- One token's rows of the projection, from its packed form and in the order of the weights' own columns. -/
module

public import proofs.«01_k».proof.Proof.InC
public import proofs.«01_k».proof.Proof.InPack
public import proofs.«01_k».proof.Proof.InPackB

@[expose] public section

set_option maxRecDepth 16384

noncomputable section

namespace Cert.Proof.In

open Idealize.ShloMosaic Idealize.ShloMosaic.TcCoe Idealize.SL.Sem

section Packed
variable (g : Fin 2016 → EReal)

theorem pk_lo (l : Fin 2176) (h : l.val < 1152) : pk g l = g ⟨l.val, by omega⟩ := by
  unfold pk
  rw [dif_pos h]

theorem pk_kv (l : Fin 2176) (h : 1152 ≤ l.val) (h' : l.val < 1280) : pk g l = g ⟨l.val + 192, by omega⟩ := by
  unfold pk
  rw [dif_neg (by omega), dif_pos (by omega)]
  exact congrArg g (Fin.ext (show 1344 + (l.val - 1152) = l.val + 192 by omega))

theorem pk_q (l : Fin 2176) (h : 1280 ≤ l.val) (h' : l.val < 1472) : pk g l = g ⟨l.val - 128, by omega⟩ := by
  unfold pk
  rw [dif_neg (by omega), dif_neg (by omega), dif_pos (by omega)]
  exact congrArg g (Fin.ext (show 1152 + (l.val - 1152 - 128) = l.val - 128 by omega))

theorem pk_z (l : Fin 2176) (h : 1472 ≤ l.val) (h' : l.val < 1600) : pk g l = 0 := by
  unfold pk
  rw [dif_neg (by omega), dif_neg (by omega), dif_neg (by omega)]
  by_cases h1 : l.val - 1152 - 128 - 192 < 64
  · rw [if_pos h1]
  · rw [if_neg h1, if_pos (by omega)]

theorem pk_pe (l : Fin 2176) (h : 1600 ≤ l.val) (h' : l.val < 1632) : pk g l = g ⟨l.val - 128, by omega⟩ := by
  unfold pk
  rw [dif_neg (by omega), dif_neg (by omega), dif_neg (by omega), if_neg (by omega), if_neg (by omega), dif_pos (by omega)]
  exact congrArg g (Fin.ext (show 1472 + (l.val - 1152 - 128 - 192 - 64 - 64) = l.val - 128 by omega))

theorem pk_pe1 (l : Fin 2176) (h : 1632 ≤ l.val) (h' : l.val < 1648) : pk g l = g ⟨l.val - 144, by omega⟩ := by
  unfold pk
  rw [dif_neg (by omega), dif_neg (by omega), dif_neg (by omega), if_neg (by omega), if_neg (by omega), dif_neg (by omega), dif_pos (by omega), dif_pos (by omega)]
  exact congrArg g (Fin.ext (show 1472 + (16 + (l.val - 1152 - 128 - 192 - 64 - 64 - 32)) = l.val - 144 by omega))

theorem pk_pe2 (l : Fin 2176) (h : 1648 ≤ l.val) (h' : l.val < 1664) : pk g l = g ⟨l.val - 176, by omega⟩ := by
  unfold pk
  rw [dif_neg (by omega), dif_neg (by omega), dif_neg (by omega), if_neg (by omega), if_neg (by omega), dif_neg (by omega), dif_pos (by omega), dif_neg (by omega)]
  exact congrArg g (Fin.ext (show 1472 + (l.val - 1152 - 128 - 192 - 64 - 64 - 32 - 16) = l.val - 176 by omega))

theorem pk_c (l : Fin 2176) (h : 1664 ≤ l.val) : pk g l = g ⟨l.val - 160, by omega⟩ := by
  unfold pk
  rw [dif_neg (by omega), dif_neg (by omega), dif_neg (by omega), if_neg (by omega), if_neg (by omega), dif_neg (by omega), dif_neg (by omega)]
  exact congrArg g (Fin.ext (show 1504 + (l.val - 1152 - 128 - 192 - 64 - 64 - 32 - 32) = l.val - 160 by omega))

end Packed

/-- A product with packed columns is the packed product. -/
theorem hrow_pk {n : ℕ} (x : Fin n → EReal) (w : Fin n → Fin 2016 → EReal) (l : Fin 2176) : hrow x (fun k => pk (w k)) l = pk (hrow x w) l := by
  rcases lt_or_ge l.val 1152 with h | h
  · simp only [hrow, pk_lo _ l h]
  rcases lt_or_ge l.val 1280 with h1 | h1
  · simp only [hrow, pk_kv _ l h h1]
  rcases lt_or_ge l.val 1472 with h2 | h2
  · simp only [hrow, pk_q _ l h1 h2]
  rcases lt_or_ge l.val 1600 with h3 | h3
  · simp only [hrow, pk_z _ l h2 h3, mul_zero, Finset.sum_const_zero]
  rcases lt_or_ge l.val 1632 with h4 | h4
  · simp only [hrow, pk_pe _ l h3 h4]
  rcases lt_or_ge l.val 1648 with h5 | h5
  · simp only [hrow, pk_pe1 _ l h4 h5]
  rcases lt_or_ge l.val 1664 with h6 | h6
  · simp only [hrow, pk_pe2 _ l h5 h6]
  · simp only [hrow, pk_c _ l h6]

theorem sub2 {n : ℕ} (g : Fin n → EReal) {a a' b b' : Fin n} (x y : EReal) (ha : a.val = a'.val) (hb : b.val = b'.val) :
    g a * x - g b * y = g a' * x - g b' * y := by
  rw [Fin.ext ha, Fin.ext hb]

theorem add2 {n : ℕ} (g : Fin n → EReal) {a a' b b' : Fin n} (x y : EReal) (ha : a.val = a'.val) (hb : b.val = b'.val) :
    g a * x + g b * y = g b' * y + g a' * x := by
  rw [Fin.ext ha, Fin.ext hb, add_comm]

theorem hrow_pkk {n : ℕ} (x : Fin n → EReal) (w : Fin n → Fin 768 → EReal) (l : Fin 768) : hrow x (fun k => pkk (w k)) l = pkk (hrow x w) l := by
  unfold hrow pkk
  dsimp only
  split_ifs <;> simp only [*, ↓reduceDIte, ↓reduceIte, mul_zero, Finset.sum_const_zero]

theorem hrow_pkq {n : ℕ} (x : Fin n → EReal) (w : Fin n → Fin 576 → EReal) (l : Fin 768) : hrow x (fun k => pkq (w k)) l = pkq (hrow x w) l := by
  unfold hrow pkq
  dsimp only
  split_ifs <;> simp only [*, ↓reduceDIte]

section Tables
variable (o : EReal) (f : Fin 16 → EReal) (j : Fin 128)

theorem tabc_o (h : j.val < 64) : tabc o f j = o := by
  unfold tabc
  rw [dif_pos h]

theorem tabc_lo (h : 64 ≤ j.val) (h' : j.val < 80) : tabc o f j = f ⟨j.val - 64, by omega⟩ := by
  unfold tabc
  rw [dif_neg (by omega), dif_pos (by omega)]

theorem tabc_hi (h : 80 ≤ j.val) (h' : j.val < 96) : tabc o f j = f ⟨j.val - 64 - 16, by omega⟩ := by
  unfold tabc
  rw [dif_neg (by omega), dif_neg (by omega), dif_pos (by omega)]

theorem tabc_z (h : 96 ≤ j.val) : tabc o f j = 0 := by
  unfold tabc
  rw [dif_neg (by omega), dif_neg (by omega), dif_neg (by omega)]

theorem tabs_o (h : j.val < 64) : tabs f j = 0 := by
  unfold tabs
  rw [dif_pos h]

theorem tabs_lo (h : 64 ≤ j.val) (h' : j.val < 80) : tabs f j = -f ⟨j.val - 64, by omega⟩ := by
  unfold tabs
  rw [dif_neg (by omega), dif_pos (by omega)]

theorem tabs_hi (h : 80 ≤ j.val) (h' : j.val < 96) : tabs f j = f ⟨j.val - 64 - 16, by omega⟩ := by
  unfold tabs
  rw [dif_neg (by omega), dif_neg (by omega), dif_pos (by omega)]

theorem tabs_z (h : 96 ≤ j.val) : tabs f j = 0 := by
  unfold tabs
  rw [dif_neg (by omega), dif_neg (by omega), dif_neg (by omega)]

end Tables

/-- a token's keys: each head's own 64, the rotated 32 all heads share, zeros -/
def keyR (g : Fin 2016 → EReal) (kv : Fin 768 → EReal) (co si : Fin 16 → EReal) (R : Fin 768) : EReal :=
  if h : R.val % 128 < 96 then
    if h1 : R.val % 128 < 64 then kv ⟨R.val / 128 * 128 + R.val % 128, by omega⟩
    else if h2 : R.val % 128 - 64 < 16 then
      g ⟨1472 + (R.val % 128 - 64), by omega⟩ * co ⟨R.val % 128 - 64, h2⟩ - g ⟨1472 + (16 + (R.val % 128 - 64)), by omega⟩ * si ⟨R.val % 128 - 64, h2⟩
    else
      g ⟨1472 + (R.val % 128 - 64 - 16), by omega⟩ * si ⟨R.val % 128 - 64 - 16, by omega⟩
        + g ⟨1472 + (16 + (R.val % 128 - 64 - 16)), by omega⟩ * co ⟨R.val % 128 - 64 - 16, by omega⟩
  else 0

/-- a token's queries: each head's own 64, its rotated 32, both scaled, zeros -/
def queR (q : Fin 576 → EReal) (co si : Fin 16 → EReal) (R : Fin 768) : EReal :=
  if h : R.val % 128 < 96 then
    (if h1 : R.val % 128 < 64 then q ⟨R.val / 128 * 96 + R.val % 128, by omega⟩
    else if h2 : R.val % 128 - 64 < 16 then
      q ⟨R.val / 128 * 96 + (64 + (R.val % 128 - 64)), by omega⟩ * co ⟨R.val % 128 - 64, h2⟩
        - q ⟨R.val / 128 * 96 + (64 + (16 + (R.val % 128 - 64))), by omega⟩ * si ⟨R.val % 128 - 64, h2⟩
    else
      q ⟨R.val / 128 * 96 + (64 + (R.val % 128 - 64 - 16)), by omega⟩ * si ⟨R.val % 128 - 64 - 16, by omega⟩
        + q ⟨R.val / 128 * 96 + (64 + (16 + (R.val % 128 - 64 - 16))), by omega⟩ * co ⟨R.val % 128 - 64 - 16, by omega⟩) * scb
  else 0

theorem key_eq (g : Fin 2016 → EReal) (kv : Fin 768 → EReal) (co si : Fin 16 → EReal) (R : Fin 768) :
    pkk kv R + turn (fun j => pk g ⟨1536 + j.val, by omega⟩) (tabc 0 co) (tabs si) ⟨R.val % 128, by omega⟩ = keyR g kv co si R := by
  unfold keyR turn pkk
  dsimp only
  by_cases h1 : R.val % 128 < 64
  · rw [dif_pos h1, dif_pos (by omega), dif_pos h1, tabc_o _ _ _ h1, tabs_o _ _ h1, mul_zero, mul_zero, add_zero, add_zero]
  rw [dif_neg h1, zero_add]
  by_cases h2 : R.val % 128 < 80
  · rw [dif_pos (by omega), dif_neg h1, dif_pos (by omega), tabc_lo _ _ _ (not_lt.mp h1) h2, tabs_lo _ _ (not_lt.mp h1) h2, mul_neg, ← sub_eq_add_neg,
      pk_pe g _ (show 1600 ≤ 1536 + R.val % 128 by omega) (show 1536 + R.val % 128 < 1632 by omega),
      pk_pe1 g _ (show 1632 ≤ 1536 + (R.val % 128 + 128 - 96) % 128 by omega) (show 1536 + (R.val % 128 + 128 - 96) % 128 < 1648 by omega)]
    exact sub2 g _ _ (show 1536 + R.val % 128 - 128 = 1472 + (R.val % 128 - 64) by omega)
      ((show 1536 + (R.val % 128 + 128 - 96) % 128 - 144 = 1472 + (16 + (R.val % 128 - 64)) by omega))
  by_cases h3 : R.val % 128 < 96
  · rw [dif_pos h3, dif_neg h1, dif_neg (by omega), tabc_hi _ _ _ (not_lt.mp h2) h3, tabs_hi _ _ (not_lt.mp h2) h3,
      pk_pe g _ (show 1600 ≤ 1536 + R.val % 128 by omega) (show 1536 + R.val % 128 < 1632 by omega),
      pk_pe2 g _ (show 1648 ≤ 1536 + (R.val % 128 + 128 - 96) % 128 by omega) (show 1536 + (R.val % 128 + 128 - 96) % 128 < 1664 by omega)]
    exact add2 g _ _ (show 1536 + R.val % 128 - 128 = 1472 + (16 + (R.val % 128 - 64 - 16)) by omega)
      (show 1536 + (R.val % 128 + 128 - 96) % 128 - 176 = 1472 + (R.val % 128 - 64 - 16) by omega)
  · rw [dif_neg h3, tabc_z _ _ _ (not_lt.mp h3), tabs_z _ _ (not_lt.mp h3), mul_zero, mul_zero, add_zero]

theorem scb_pos : 0 ≤ scb ∧ scb ≠ ⊤ := by
  have h : scb = ((9881408 / 67108864 : ℝ) : EReal) := by
    unfold scb
    simp [Ideal.ofBits, Ideal.ieee, -EReal.coe_mul]; norm_num
  rw [h]
  exact ⟨EReal.coe_nonneg.mpr (by norm_num), EReal.coe_ne_top _⟩

theorem scaled (a b x y : EReal) : a * (scb * x) + b * (scb * y) = (a * x + b * y) * scb := by
  rw [EReal.right_distrib_of_nonneg_of_ne_top scb_pos.1 scb_pos.2, mul_comm scb, mul_comm scb, mul_assoc, mul_assoc]

section Queries
variable (q : Fin 576 → EReal) (l : Fin 768)

theorem pkq_lo (h : l.val % 128 < 96) : pkq q l = q ⟨l.val / 128 * 96 + l.val % 128, by omega⟩ := by
  unfold pkq
  rw [dif_pos h]

theorem pkq_mid (h : 96 ≤ l.val % 128) (h' : l.val % 128 < 112) : pkq q l = q ⟨l.val / 128 * 96 + (l.val % 128 - 16), by omega⟩ := by
  unfold pkq
  rw [dif_neg (by omega), dif_pos (by omega)]
  exact congrArg q (Fin.ext (show l.val / 128 * 96 + (64 + (16 + (l.val % 128 - 96))) = l.val / 128 * 96 + (l.val % 128 - 16) by omega))

theorem pkq_hi (h : 112 ≤ l.val % 128) : pkq q l = q ⟨l.val / 128 * 96 + (l.val % 128 - 48), by omega⟩ := by
  unfold pkq
  rw [dif_neg (by omega), dif_neg (by omega)]
  exact congrArg q (Fin.ext (show l.val / 128 * 96 + (64 + (l.val % 128 - 96 - 16)) = l.val / 128 * 96 + (l.val % 128 - 48) by omega))

end Queries

theorem que_eq (q : Fin 576 → EReal) (co si : Fin 16 → EReal) (R : Fin 768) :
    turn (fun j => pkq q ⟨R.val / 128 * 128 + j.val, by omega⟩) (fun j => scb * tabc 1 co j) (fun j => scb * tabs si j) ⟨R.val % 128, by omega⟩
      = queR q co si R := by
  have e0 : (R.val / 128 * 128 + R.val % 128) % 128 = R.val % 128 := by omega
  have e1 : (R.val / 128 * 128 + R.val % 128) / 128 = R.val / 128 := by omega
  have e3 : (R.val / 128 * 128 + (R.val % 128 + 128 - 96) % 128) / 128 = R.val / 128 := by omega
  have e4 : (R.val / 128 * 128 + (R.val % 128 + 128 - 96) % 128) % 128 = (R.val % 128 + 128 - 96) % 128 := by omega
  unfold queR turn
  dsimp only
  rw [scaled]
  by_cases h1 : R.val % 128 < 64
  · rw [dif_pos (by omega), dif_pos h1, tabc_o _ _ _ h1, tabs_o _ _ h1, mul_zero, add_zero, mul_one, pkq_lo q _ (lt_of_eq_of_lt e0 (by omega))]
    refine congrArg (fun a => q a * scb) (Fin.ext ?_)
    show (R.val / 128 * 128 + R.val % 128) / 128 * 96 + (R.val / 128 * 128 + R.val % 128) % 128 = R.val / 128 * 96 + R.val % 128
    rw [e0, e1]
  by_cases h2 : R.val % 128 < 80
  · rw [dif_pos (by omega), dif_neg h1, dif_pos (by omega), tabc_lo _ _ _ (not_lt.mp h1) h2, tabs_lo _ _ (not_lt.mp h1) h2, mul_neg, ← sub_eq_add_neg,
      pkq_lo q _ (lt_of_eq_of_lt e0 (by omega)), pkq_mid q _ (le_of_le_of_eq (by omega) e4.symm) (lt_of_eq_of_lt e4 (by omega))]
    refine congrArg (· * scb) (sub2 q _ _ ?_ ?_)
    · show (R.val / 128 * 128 + R.val % 128) / 128 * 96 + (R.val / 128 * 128 + R.val % 128) % 128 = R.val / 128 * 96 + (64 + (R.val % 128 - 64))
      omega
    · show (R.val / 128 * 128 + (R.val % 128 + 128 - 96) % 128) / 128 * 96 + ((R.val / 128 * 128 + (R.val % 128 + 128 - 96) % 128) % 128 - 16)
        = R.val / 128 * 96 + (64 + (16 + (R.val % 128 - 64)))
      omega
  by_cases h3 : R.val % 128 < 96
  · rw [dif_pos h3, dif_neg h1, dif_neg (by omega), tabc_hi _ _ _ (not_lt.mp h2) h3, tabs_hi _ _ (not_lt.mp h2) h3,
      pkq_lo q _ (lt_of_eq_of_lt e0 (by omega)), pkq_hi q _ (le_of_le_of_eq (by omega) e4.symm)]
    refine congrArg (· * scb) (add2 q _ _ ?_ ?_)
    · show (R.val / 128 * 128 + R.val % 128) / 128 * 96 + (R.val / 128 * 128 + R.val % 128) % 128 = R.val / 128 * 96 + (64 + (16 + (R.val % 128 - 64 - 16)))
      omega
    · show (R.val / 128 * 128 + (R.val % 128 + 128 - 96) % 128) / 128 * 96 + ((R.val / 128 * 128 + (R.val % 128 + 128 - 96) % 128) % 128 - 48)
        = R.val / 128 * 96 + (64 + (R.val % 128 - 64 - 16))
      omega
  · rw [dif_neg h3, tabc_z _ _ _ (not_lt.mp h3), tabs_z _ _ (not_lt.mp h3), mul_zero, mul_zero, add_zero, zero_mul]

theorem mul1 {n : ℕ} (g : Fin n → EReal) {a a' : Fin n} (x : EReal) (h : a.val = a'.val) : g a * x = g a' * x := by
  rw [Fin.ext h]

section Arrays
variable (x : (⟨2, ![32768, 1024]⟩ : Shape).Idx → EReal) (w : (⟨2, ![1024, 2016]⟩ : Shape).Idx → EReal)
  (a2 : (⟨1, ![192]⟩ : Shape).Idx → EReal) (a3 : (⟨2, ![192, 576]⟩ : Shape).Idx → EReal) (a4 : (⟨1, ![128]⟩ : Shape).Idx → EReal)
  (a5 : (⟨2, ![128, 768]⟩ : Shape).Idx → EReal) (a6 a7 : (⟨1, ![256]⟩ : Shape).Idx → EReal) (a8 : (⟨3, ![4, 128, 128]⟩ : Shape).Idx → EReal)
  (a9 : (⟨2, ![4, 128]⟩ : Shape).Idx → EReal) (a10 : (⟨1, ![256]⟩ : Shape).Idx → EReal) (a11 a12 : (⟨2, ![16384, 16]⟩ : Shape).Idx → EReal) (T : Fin 32768)

/-- a token's projected row, in the order of the weights' columns -/
def rawA : Fin 2016 → EReal := hrow (fun k : Fin 1024 => x (ix2 T k)) (fun k j => w (ix2 k j))

/-- a token's row of cosines or of sines -/
def tblA (i : Fin 16) : EReal := a11 (ix2 ⟨T.val % 16384, by omega⟩ i)

/-- a token's keys and values -/
def kvrA : Fin 768 → EReal :=
  hrow (rmsN (Ideal.ofBits .f32 0x43000000#32) (fun j => rawA x w T ⟨1344 + j.val, by omega⟩) (fun j => a4 (ix1 j))) (fun k l => a5 (ix2 k l))

/-- a token's queries -/
def qrA : Fin 576 → EReal :=
  hrow (rmsN (Ideal.ofBits .f32 0x43400000#32) (fun j => rawA x w T ⟨1152 + j.val, by omega⟩) (fun j => a2 (ix1 j))) (fun k l => a3 (ix2 k l))

/-- a token's row through the activation -/
def glA (l : Fin 512) : EReal := gel (rawA x w T ⟨1504 + l.val, by omega⟩)

/-- a token's row before the mix -/
def preA : Fin 256 → EReal := lnR (fun l => glA x w T ⟨256 + l.val, by omega⟩) (fun l => a6 (ix1 l)) (fun l => a7 (ix1 l))

/-- a token's mix over its chunk -/
def mixA : Fin 256 → EReal :=
  mixR (fun l => glA x w T ⟨l.val, by omega⟩) (fun s => preA x w a6 a7 ⟨T.val / 128 * 128 + s.val, by omega⟩)
    (fun g s => a8 (ix3 g ⟨T.val % 128, by omega⟩ s)) (fun l => a9 (ix2 ⟨l.val / 64, by omega⟩ ⟨T.val % 128, by omega⟩))

/-- the first mixer's queries -/
def resQa (y : (⟨2, ![768, 32768]⟩ : Shape).Idx) : EReal := rowQa (pk (rawA x w (y 1))) (y 0)

/-- the first mixer's keys -/
def resKa (y : (⟨2, ![32768, 384]⟩ : Shape).Idx) : EReal := pk (rawA x w (y 0)) ⟨384 + (y 1).val, by have := (y 1).isLt; change (y 1).val < 384 at this; omega⟩

/-- the first mixer's values -/
def resVa (y : (⟨2, ![480, 32768]⟩ : Shape).Idx) : EReal := rowV (rowVa (pk (rawA x w (y 1)))) (y 0)

/-- the second mixer's queries -/
def resQb (y : (⟨2, ![768, 32768]⟩ : Shape).Idx) : EReal := queR (qrA x w a2 a3 (y 1)) (tblA a11 (y 1)) (tblA a12 (y 1)) (y 0)

/-- the second mixer's keys -/
def resKb (y : (⟨2, ![32768, 768]⟩ : Shape).Idx) : EReal := keyR (rawA x w (y 0)) (kvrA x w a4 a5 (y 0)) (tblA a11 (y 0)) (tblA a12 (y 0)) (y 1)

/-- the second mixer's values -/
def resVb (y : (⟨2, ![480, 32768]⟩ : Shape).Idx) : EReal := rowV (pkv (kvrA x w a4 a5 (y 1))) (y 0)

/-- the third mixer's results -/
def resYc (y : (⟨2, ![32768, 256]⟩ : Shape).Idx) : EReal :=
  rmsN (Ideal.ofBits .f32 0x43800000#32) (mixA x w a6 a7 a8 a9 (y 0)) (fun l => a10 (ix1 l)) (y 1)

end Arrays

end Cert.Proof.In

end
-- ==== Proof.InFinal.lean ====
/- What the projection's run leaves in its seven result arrays, as functions of the arguments. -/
module

public import proofs.«01_k».proof.Proof.InTok

@[expose] public section

set_option maxRecDepth 16384

noncomputable section

namespace Cert.Proof.In

open Idealize.ShloMosaic Idealize.ShloMosaic.TcCoe Idealize.SL.Sem
open Cert.InprojIdeal Cert.InprojIdeal.Gen Cert.Proof.In.I

theorem row_eq {s T : ℕ} (e : s = T % 16384) (hs : s < 16384) (hT : T < 32768) (A : (⟨2, ![16384, 16]⟩ : Shape).Idx → EReal) :
    (fun i : Fin 16 => A (ix2 ⟨s, hs⟩ i)) = tblA A ⟨T, hT⟩ := by
  subst e
  rfl

theorem ckvR_pk (g : Fin 2016 → EReal) (b : Fin 128 → EReal) : ckvR (pk g) b = rmsN (Ideal.ofBits .f32 0x43000000#32) (fun j => g ⟨1344 + j.val, by omega⟩) b := by
  funext l
  refine rmsN_congr (fun j => ?_) (fun _ => rfl) rfl
  rw [pk_kv g _ (show 1152 ≤ 1152 + j.val by omega) (show 1152 + j.val < 1280 by omega)]
  exact congrArg g (Fin.ext (show 1152 + j.val + 192 = 1344 + j.val by omega))

theorem cqR_pk (g : Fin 2016 → EReal) (b : Fin 192 → EReal) : cqR (pk g) b = rmsN (Ideal.ofBits .f32 0x43400000#32) (fun j => g ⟨1152 + j.val, by omega⟩) b := by
  funext l
  refine rmsN_congr (fun j => ?_) (fun _ => rfl) rfl
  rw [pk_q g _ (show 1280 ≤ 1280 + j.val by omega) (show 1280 + j.val < 1472 by omega)]
  exact congrArg g (Fin.ext (show 1280 + j.val - 128 = 1152 + j.val by omega))

theorem gl_pk (g : Fin 2016 → EReal) (l : Fin 512) : pk g ⟨1664 + l.val, by omega⟩ = g ⟨1504 + l.val, by omega⟩ := by
  rw [pk_c g _ (show 1664 ≤ 1664 + l.val by omega)]
  exact congrArg g (Fin.ext (show 1664 + l.val - 160 = 1504 + l.val by omega))

theorem pre_congr (x : (⟨2, ![32768, 1024]⟩ : Shape).Idx → EReal) (w : (⟨2, ![1024, 2016]⟩ : Shape).Idx → EReal) (a b : (⟨1, ![256]⟩ : Shape).Idx → EReal)
    {T T' : Fin 32768} (e : T.val = T'.val) : preA x w a b T = preA x w a b T' := by
  rw [Fin.ext e]

variable (m : (ℓ : Loc nD τ sig) → Buf (Elt Ideal) ℓ) (c : Dev nD)

/-- a token's projected row -/
abbrev rw0 (T : Fin 32768) : Fin 2016 → EReal := rawA (m ((c : Thread nD τ).loc main_arg0)) (m ((c : Thread nD τ).loc main_arg1)) T

section Blocks
variable (t : Fin cfg0.N) (ht : t.val < 32)

theorem tok_eq (r : Fin 1024) : tok m c t r = pk (rw0 m c ⟨t.val * 1024 + r.val, by omega⟩) := by
  have ex : (fun k => iblk m c 0 t (ix2 r k)) = fun k : Fin 1024 => m ((c : Thread nD τ).loc main_arg0) (ix2 ⟨t.val * 1024 + r.val, by omega⟩ k) :=
    funext fun k => x_at m c t r k ht
  have ew : (fun k j => iblk m c 1 t (ix2 k j)) = fun k : Fin 1024 => pk (fun j => m ((c : Thread nD τ).loc main_arg1) (ix2 k j)) :=
    funext fun k => funext fun l => (w_blk m c t k l).trans (w_pk m c k l)
  have e : tok m c t r = hrow (fun k : Fin 1024 => m ((c : Thread nD τ).loc main_arg0) (ix2 ⟨t.val * 1024 + r.val, by omega⟩ k))
      (fun k : Fin 1024 => pk (fun j => m ((c : Thread nD τ).loc main_arg1) (ix2 k j))) := by
    unfold tok
    rw [ex, ew]
  rw [e]
  funext l
  rw [hrow_pk]
  rfl

theorem kn_eq : kn m c t = fun j => m ((c : Thread nD τ).loc main_arg4) (ix1 j) := by
  funext j
  exact (show iblk m c 4 t (ix2 0 j) = V m c main_v25 (ix2 0 j) by blk_ext [iblk, idx t]).trans (kvn_at m c j)

theorem qn_eq : qn m c t = fun j => m ((c : Thread nD τ).loc main_arg2) (ix1 j) := by
  funext j
  exact (show iblk m c 2 t (ix2 0 j) = V m c main_v23 (ix2 0 j) by blk_ext [iblk, idx t]).trans (qn_at m c j)

theorem wk_eq : wk m c t = fun k => pkk (fun j => m ((c : Thread nD τ).loc main_arg5) (ix2 k j)) := by
  funext k j
  exact (show iblk m c 5 t (ix2 k j) = V m c main_v27 (ix2 k j) by blk_ext [iblk, idx t]).trans (wk_at m c k j)

theorem wv_eq : wv m c t = fun k => pkv (fun j => m ((c : Thread nD τ).loc main_arg5) (ix2 k j)) := by
  funext k j
  exact (show iblk m c 6 t (ix2 k j) = V m c main_v30 (ix2 k j) by blk_ext [iblk, idx t]).trans (wv_at m c k j)

theorem wq_eq : wq m c t = fun k => pkq (fun j => m ((c : Thread nD τ).loc main_arg3) (ix2 k j)) := by
  funext k j
  exact (show iblk m c 3 t (ix2 k j) = V m c main_v24 (ix2 k j) by blk_ext [iblk, idx t]).trans (wq_at m c k j)

/-- a token's row of cosines -/
abbrev cs (T : Fin 32768) : Fin 16 → EReal := tblA (m ((c : Thread nD τ).loc main_arg11)) T

/-- a token's row of sines -/
abbrev sn (T : Fin 32768) : Fin 16 → EReal := tblA (m ((c : Thread nD τ).loc main_arg12)) T

theorem pos (r : Fin 1024) : t.val % 16 * 1024 + r.val = (t.val * 1024 + r.val) % 16384 := by omega

theorem ck_eq (r : Fin 1024) : (fun j => iblk m c 9 t (ix2 r j)) = tabc 0 (cs m c ⟨t.val * 1024 + r.val, by omega⟩) := by
  funext j
  refine (show iblk m c 9 t (ix2 r j) = V m c main_v61 (ix2 ⟨t.val % 16 * 1024 + r.val, by omega⟩ j) by blk_ext [iblk, idx t]).trans ((ck_at m c _ j).trans ?_)
  rw [row_eq (pos t r) _ (by omega : t.val * 1024 + r.val < 32768) (m ((c : Thread nD τ).loc main_arg11))]

theorem sk_eq (r : Fin 1024) : (fun j => iblk m c 10 t (ix2 r j)) = tabs (sn m c ⟨t.val * 1024 + r.val, by omega⟩) := by
  funext j
  refine (show iblk m c 10 t (ix2 r j) = V m c main_v63 (ix2 ⟨t.val % 16 * 1024 + r.val, by omega⟩ j) by blk_ext [iblk, idx t]).trans ((sk_at m c _ j).trans ?_)
  rw [row_eq (pos t r) _ (by omega : t.val * 1024 + r.val < 32768) (m ((c : Thread nD τ).loc main_arg12))]

theorem cq_eq (r : Fin 1024) : (fun j => iblk m c 7 t (ix2 r j)) = fun j => scb * tabc 1 (cs m c ⟨t.val * 1024 + r.val, by omega⟩) j := by
  funext j
  refine (show iblk m c 7 t (ix2 r j) = V m c main_v55 (ix2 ⟨t.val % 16 * 1024 + r.val, by omega⟩ j) by blk_ext [iblk, idx t]).trans ((cq_at m c _ j).trans ?_)
  rw [row_eq (pos t r) _ (by omega : t.val * 1024 + r.val < 32768) (m ((c : Thread nD τ).loc main_arg11))]

theorem sq_eq (r : Fin 1024) : (fun j => iblk m c 8 t (ix2 r j)) = fun j => scb * tabs (sn m c ⟨t.val * 1024 + r.val, by omega⟩) j := by
  funext j
  refine (show iblk m c 8 t (ix2 r j) = V m c main_v59 (ix2 ⟨t.val % 16 * 1024 + r.val, by omega⟩ j) by blk_ext [iblk, idx t]).trans ((sq_at m c _ j).trans ?_)
  rw [row_eq (pos t r) _ (by omega : t.val * 1024 + r.val < 32768) (m ((c : Thread nD τ).loc main_arg12))]

/-- a token's keys and values -/
abbrev kv0 (T : Fin 32768) : Fin 768 → EReal :=
  kvrA (m ((c : Thread nD τ).loc main_arg0)) (m ((c : Thread nD τ).loc main_arg1)) (m ((c : Thread nD τ).loc main_arg4)) (m ((c : Thread nD τ).loc main_arg5)) T

/-- a token's queries -/
abbrev q0 (T : Fin 32768) : Fin 576 → EReal :=
  qrA (m ((c : Thread nD τ).loc main_arg0)) (m ((c : Thread nD τ).loc main_arg1)) (m ((c : Thread nD τ).loc main_arg2)) (m ((c : Thread nD τ).loc main_arg3)) T

theorem rowVb_eq (r : Fin 1024) : rowVb m c t r = pkv (kv0 m c ⟨t.val * 1024 + r.val, by omega⟩) := by
  unfold rowVb
  rw [tok_eq m c t ht, ckvR_pk, kn_eq m c t, wv_eq m c t]
  rfl

theorem rowKb_eq (r : Fin 1024) (l : Fin 768) : rowKb m c t r l
    = keyR (rw0 m c ⟨t.val * 1024 + r.val, by omega⟩) (kv0 m c ⟨t.val * 1024 + r.val, by omega⟩) (cs m c ⟨t.val * 1024 + r.val, by omega⟩)
        (sn m c ⟨t.val * 1024 + r.val, by omega⟩) l := by
  unfold rowKb
  rw [tok_eq m c t ht, ckvR_pk, kn_eq m c t, wk_eq m c t, hrow_pkk, ck_eq m c t ht, sk_eq m c t ht]
  exact key_eq _ _ _ _ l

theorem rowQb_eq (r : Fin 1024) (l : Fin 768) : rowQb m c t r l
    = queR (q0 m c ⟨t.val * 1024 + r.val, by omega⟩) (cs m c ⟨t.val * 1024 + r.val, by omega⟩) (sn m c ⟨t.val * 1024 + r.val, by omega⟩) l := by
  unfold rowQb
  rw [tok_eq m c t ht, cqR_pk, qn_eq m c t, wq_eq m c t, cq_eq m c t ht, sq_eq m c t ht]
  simp only [hrow_pkq]
  exact que_eq _ _ _ l

theorem gate_eq (r : Fin 1024) : gateR (tok m c t r) = fun l =>
    glA (m ((c : Thread nD τ).loc main_arg0)) (m ((c : Thread nD τ).loc main_arg1)) ⟨t.val * 1024 + r.val, by omega⟩ ⟨l.val, by omega⟩ := by
  funext l
  rw [tok_eq m c t ht]
  exact congrArg gel (gl_pk _ ⟨l.val, by omega⟩)

theorem a6_eq : (fun j => iblk m c 11 t (ix2 0 j)) = fun j : Fin 256 => m ((c : Thread nD τ).loc main_arg6) (ix1 j) := by
  funext j
  exact (show iblk m c 11 t (ix2 0 j) = V m c main_v31 (ix2 0 j) by blk_ext [iblk, idx t]).trans (lng_at m c j)

theorem a7_eq : (fun j => iblk m c 12 t (ix2 0 j)) = fun j : Fin 256 => m ((c : Thread nD τ).loc main_arg7) (ix1 j) := by
  funext j
  exact (show iblk m c 12 t (ix2 0 j) = V m c main_v32 (ix2 0 j) by blk_ext [iblk, idx t]).trans (lnb_at m c j)

theorem a10_eq : (fun j => iblk m c 15 t (ix2 0 j)) = fun j : Fin 256 => m ((c : Thread nD τ).loc main_arg10) (ix1 j) := by
  funext j
  exact (show iblk m c 15 t (ix2 0 j) = V m c main_v46 (ix2 0 j) by blk_ext [iblk, idx t]).trans (mnc_at m c j)

theorem a8_at (k : Fin 128) (g : Fin 4) (s : Fin 128) : iblk m c 13 t (ix2 k ⟨g.val * 128 + s.val, by omega⟩) = m ((c : Thread nD τ).loc main_arg8) (ix3 g k s) := by
  refine (show iblk m c 13 t (ix2 k ⟨g.val * 128 + s.val, by omega⟩) = V m c main_v42 (ix2 k ⟨g.val * 128 + s.val, by omega⟩) by blk_ext [iblk, idx t]).trans
    ((wm_at m c k _).trans ?_)
  refine congrArg (m ((c : Thread nD τ).loc main_arg8)) (congrArg₂ (fun a b => ix3 a k b) (Fin.ext ?_) (Fin.ext ?_))
  · show (g.val * 128 + s.val) / 128 = g.val
    omega
  · show (g.val * 128 + s.val) % 128 = s.val
    omega

theorem a9_at (k : Fin 128) (l : Fin 256) : iblk m c 14 t (ix2 k l) = m ((c : Thread nD τ).loc main_arg9) (ix2 ⟨l.val / 64, by omega⟩ k) :=
  (show iblk m c 14 t (ix2 k l) = V m c main_v45 (ix2 k l) by blk_ext [iblk, idx t]).trans (bs_at m c k l)

theorem pre_eq (r : Fin 1024) : preR (tok m c t r) (fun j => iblk m c 11 t (ix2 0 j)) (fun j => iblk m c 12 t (ix2 0 j))
    = preA (m ((c : Thread nD τ).loc main_arg0)) (m ((c : Thread nD τ).loc main_arg1)) (m ((c : Thread nD τ).loc main_arg6)) (m ((c : Thread nD τ).loc main_arg7))
        ⟨t.val * 1024 + r.val, by omega⟩ := by
  have e : (fun l : Fin 256 => gel (tok m c t r ⟨1664 + (256 + l.val), by omega⟩))
      = fun l : Fin 256 => glA (m ((c : Thread nD τ).loc main_arg0)) (m ((c : Thread nD τ).loc main_arg1)) ⟨t.val * 1024 + r.val, by omega⟩ ⟨256 + l.val, by omega⟩ := by
    funext l
    rw [tok_eq m c t ht]
    exact congrArg gel (gl_pk _ ⟨256 + l.val, by omega⟩)
  unfold preR preA
  rw [e, a6_eq m c t, a7_eq m c t]

theorem rowYc_eq (r : Fin 1024) (l : Fin 256) : rowYc m c t r l
    = rmsN (Ideal.ofBits .f32 0x43800000#32) (mixA (m ((c : Thread nD τ).loc main_arg0)) (m ((c : Thread nD τ).loc main_arg1)) (m ((c : Thread nD τ).loc main_arg6))
        (m ((c : Thread nD τ).loc main_arg7)) (m ((c : Thread nD τ).loc main_arg8)) (m ((c : Thread nD τ).loc main_arg9)) ⟨t.val * 1024 + r.val, by omega⟩)
        (fun l => m ((c : Thread nD τ).loc main_arg10) (ix1 l)) l := by
  unfold rowYc
  rw [a10_eq m c t]
  refine rmsN_congr (fun i => ?_) (fun _ => rfl) rfl
  unfold mixA
  have ek : (⟨r.val % 128, by omega⟩ : Fin 128) = ⟨(t.val * 1024 + r.val) % 128, by omega⟩ := Fin.ext (show r.val % 128 = (t.val * 1024 + r.val) % 128 by omega)
  refine mixR_congr (gate_eq m c t ht r) (fun s => ?_) (fun g s => ?_) (fun l => ?_) i
  · refine (pre_eq m c t ht _).trans (pre_congr _ _ _ _ ?_)
    show t.val * 1024 + (r.val / 128 * 128 + s.val) = (t.val * 1024 + r.val) / 128 * 128 + s.val
    omega
  · refine (a8_at m c t _ g s).trans ?_
    rw [ek]
  · refine (a9_at m c t _ l).trans ?_
    rw [ek]

end Blocks

/-- The queries of the first mixer. -/
theorem final16 : (dats m 0 c).arrAt 16 (cfgs 0).N = resQa (m ((c : Thread nD τ).loc main_arg0)) (m ((c : Thread nD τ).loc main_arg1)) := by
  refine (dats m 0 c).arrAt_eq_of_covers 16 _ (by decide +kernel) fun t _ y => ?_
  blk_simp
  rw [after_16]
  have ht : t.val < 32 := t.isLt
  idx_vars y
  refine (held16_at m c t _).trans ?_
  refine Eq.trans (b := resQa (m ((c : Thread nD τ).loc main_arg0)) (m ((c : Thread nD τ).loc main_arg1)) (ix2 y0 ⟨t.val * 1024 + y1.val, by omega⟩)) ?_ (congrArg _ ?_)
  · exact congrArg (fun g => rowQa g y0) (tok_eq m c t ht y1)
  · blk_ext [idx t]

/-- The keys of the first mixer. -/
theorem final17 : (dats m 0 c).arrAt 17 (cfgs 0).N = resKa (m ((c : Thread nD τ).loc main_arg0)) (m ((c : Thread nD τ).loc main_arg1)) := by
  refine (dats m 0 c).arrAt_eq_of_covers 17 _ (by decide +kernel) fun t _ y => ?_
  blk_simp
  rw [after_17]
  have ht : t.val < 32 := t.isLt
  idx_vars y
  refine (held17_at m c t _).trans ?_
  refine Eq.trans (b := resKa (m ((c : Thread nD τ).loc main_arg0)) (m ((c : Thread nD τ).loc main_arg1)) (ix2 ⟨t.val * 1024 + y0.val, by omega⟩ y1)) ?_ (congrArg _ ?_)
  · exact congrFun (tok_eq m c t ht y0) _
  · blk_ext [idx t]

/-- The values of the first mixer. -/
theorem final18 : (dats m 0 c).arrAt 18 (cfgs 0).N = resVa (m ((c : Thread nD τ).loc main_arg0)) (m ((c : Thread nD τ).loc main_arg1)) := by
  refine (dats m 0 c).arrAt_eq_of_covers 18 _ (by decide +kernel) fun t _ y => ?_
  blk_simp
  rw [after_18]
  have ht : t.val < 32 := t.isLt
  idx_vars y
  refine (held18_at m c t _).trans ?_
  refine Eq.trans (b := resVa (m ((c : Thread nD τ).loc main_arg0)) (m ((c : Thread nD τ).loc main_arg1)) (ix2 y0 ⟨t.val * 1024 + y1.val, by omega⟩)) ?_ (congrArg _ ?_)
  · exact congrArg (fun g => rowV (rowVa g) y0) (tok_eq m c t ht y1)
  · blk_ext [idx t]

/-- The queries of the second mixer. -/
theorem final19 : (dats m 0 c).arrAt 19 (cfgs 0).N = resQb (m ((c : Thread nD τ).loc main_arg0)) (m ((c : Thread nD τ).loc main_arg1)) (m ((c : Thread nD τ).loc main_arg2))
    (m ((c : Thread nD τ).loc main_arg3)) (m ((c : Thread nD τ).loc main_arg11)) (m ((c : Thread nD τ).loc main_arg12)) := by
  refine (dats m 0 c).arrAt_eq_of_covers 19 _ (by decide +kernel) fun t _ y => ?_
  blk_simp
  rw [after_19]
  have ht : t.val < 32 := t.isLt
  idx_vars y
  refine (held19_at m c t _).trans ?_
  refine Eq.trans (b := resQb (m ((c : Thread nD τ).loc main_arg0)) (m ((c : Thread nD τ).loc main_arg1)) (m ((c : Thread nD τ).loc main_arg2))
    (m ((c : Thread nD τ).loc main_arg3)) (m ((c : Thread nD τ).loc main_arg11)) (m ((c : Thread nD τ).loc main_arg12)) (ix2 y0 ⟨t.val * 1024 + y1.val, by omega⟩)) ?_ (congrArg _ ?_)
  · exact rowQb_eq m c t ht y1 y0
  · blk_ext [idx t]

/-- The keys of the second mixer. -/
theorem final20 : (dats m 0 c).arrAt 20 (cfgs 0).N = resKb (m ((c : Thread nD τ).loc main_arg0)) (m ((c : Thread nD τ).loc main_arg1)) (m ((c : Thread nD τ).loc main_arg4))
    (m ((c : Thread nD τ).loc main_arg5)) (m ((c : Thread nD τ).loc main_arg11)) (m ((c : Thread nD τ).loc main_arg12)) := by
  refine (dats m 0 c).arrAt_eq_of_covers 20 _ (by decide +kernel) fun t _ y => ?_
  blk_simp
  rw [after_20]
  have ht : t.val < 32 := t.isLt
  idx_vars y
  refine (held20_at m c t _).trans ?_
  refine Eq.trans (b := resKb (m ((c : Thread nD τ).loc main_arg0)) (m ((c : Thread nD τ).loc main_arg1)) (m ((c : Thread nD τ).loc main_arg4))
    (m ((c : Thread nD τ).loc main_arg5)) (m ((c : Thread nD τ).loc main_arg11)) (m ((c : Thread nD τ).loc main_arg12)) (ix2 ⟨t.val * 1024 + y0.val, by omega⟩ y1)) ?_ (congrArg _ ?_)
  · exact rowKb_eq m c t ht y0 y1
  · blk_ext [idx t]

/-- The values of the second mixer. -/
theorem final21 : (dats m 0 c).arrAt 21 (cfgs 0).N = resVb (m ((c : Thread nD τ).loc main_arg0)) (m ((c : Thread nD τ).loc main_arg1)) (m ((c : Thread nD τ).loc main_arg4))
    (m ((c : Thread nD τ).loc main_arg5)) := by
  refine (dats m 0 c).arrAt_eq_of_covers 21 _ (by decide +kernel) fun t _ y => ?_
  blk_simp
  rw [after_21]
  have ht : t.val < 32 := t.isLt
  idx_vars y
  refine (held21_at m c t _).trans ?_
  refine Eq.trans (b := resVb (m ((c : Thread nD τ).loc main_arg0)) (m ((c : Thread nD τ).loc main_arg1)) (m ((c : Thread nD τ).loc main_arg4))
    (m ((c : Thread nD τ).loc main_arg5)) (ix2 y0 ⟨t.val * 1024 + y1.val, by omega⟩)) ?_ (congrArg _ ?_)
  · exact congrArg (fun v => rowV v y0) (rowVb_eq m c t ht y1)
  · blk_ext [idx t]

/-- The results of the third mixer. -/
theorem final22 : (dats m 0 c).arrAt 22 (cfgs 0).N = resYc (m ((c : Thread nD τ).loc main_arg0)) (m ((c : Thread nD τ).loc main_arg1)) (m ((c : Thread nD τ).loc main_arg6))
    (m ((c : Thread nD τ).loc main_arg7)) (m ((c : Thread nD τ).loc main_arg8)) (m ((c : Thread nD τ).loc main_arg9)) (m ((c : Thread nD τ).loc main_arg10)) := by
  refine (dats m 0 c).arrAt_eq_of_covers 22 _ (by decide +kernel) fun t _ y => ?_
  blk_simp
  rw [after_22]
  have ht : t.val < 32 := t.isLt
  idx_vars y
  refine (held22_at m c t _).trans ?_
  refine Eq.trans (b := resYc (m ((c : Thread nD τ).loc main_arg0)) (m ((c : Thread nD τ).loc main_arg1)) (m ((c : Thread nD τ).loc main_arg6))
    (m ((c : Thread nD τ).loc main_arg7)) (m ((c : Thread nD τ).loc main_arg8)) (m ((c : Thread nD τ).loc main_arg9)) (m ((c : Thread nD τ).loc main_arg10))
    (ix2 ⟨t.val * 1024 + y0.val, by omega⟩ y1)) ?_ (congrArg _ ?_)
  · exact rowYc_eq m c t ht y0 y1
  · blk_ext [idx t]

end Cert.Proof.In

end
-- ==== Proof.InRun.lean ====
/- The projection's run, its seven results named. -/
module

public import proofs.«01_k».proof.Proof.InFinal

@[expose] public section

set_option maxRecDepth 16384

noncomputable section

namespace Cert.Proof.In

open Idealize.ShloMosaic Idealize.ShloMosaic.TcCoe Idealize.SL.Sem
open Cert.InprojIdeal Cert.InprojIdeal.Gen Cert.Proof.In.I

variable (m : (ℓ : Loc nD τ sig) → Buf (Elt Ideal) ℓ) (ρ : Dev nD → PrngReg)

set_option maxHeartbeats 4000000 in
/-- Every run ends with each result array holding the function of the arguments stated for it. -/
theorem results : θ_run defs (onTc (τ := τ) (main (F := Ideal))) ⟨m, fun _ => 0, ρ⟩ (fun r => ∀ c : Dev nD,
      r.2.mem ((c.tc : Thread nD τ).loc main_v64_0) = resQa (m ((c.tc : Thread nD τ).loc main_arg0)) (m ((c.tc : Thread nD τ).loc main_arg1))
      ∧ r.2.mem ((c.tc : Thread nD τ).loc main_v64_1) = resKa (m ((c.tc : Thread nD τ).loc main_arg0)) (m ((c.tc : Thread nD τ).loc main_arg1))
      ∧ r.2.mem ((c.tc : Thread nD τ).loc main_v64_2) = resVa (m ((c.tc : Thread nD τ).loc main_arg0)) (m ((c.tc : Thread nD τ).loc main_arg1))
      ∧ r.2.mem ((c.tc : Thread nD τ).loc main_v64_3) = resQb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg11)) (m ((c.tc : Thread nD τ).loc main_arg12))
      ∧ r.2.mem ((c.tc : Thread nD τ).loc main_v64_4) = resKb (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg11)) (m ((c.tc : Thread nD τ).loc main_arg12))
      ∧ r.2.mem ((c.tc : Thread nD τ).loc main_v64_5) = resVb (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v64_6) = resYc (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  θ_run_mono (run_main m ρ) fun r h c =>
    ⟨((h c).1 16).trans (final16 m c),
      ((h c).1 17).trans (final17 m c),
      ((h c).1 18).trans (final18 m c),
      ((h c).1 19).trans (final19 m c),
      ((h c).1 20).trans (final20 m c),
      ((h c).1 21).trans (final21 m c),
      ((h c).1 22).trans (final22 m c)⟩

end Cert.Proof.In

end
-- ==== Proof.InRef.lean ====
/- The reference's seven results of the input projection, read at an index. -/
module

public import proofs.«01_k».proof.Proof.InTok
public import proofs.«01_k».proof.Proof.Gen.RefInprojIdeal.Run

@[expose] public section

set_option maxRecDepth 16384

noncomputable section

namespace Cert.Proof.In.Ref

open Idealize.ShloMosaic Idealize.ShloMosaic.TcCoe Idealize.SL.Sem
open Cert.RefInprojIdeal Cert.RefInprojIdeal.Gen Cert.RefInprojIdeal.Value

variable (V : Valuation τ sig (Elt Ideal))

/-- a token's projected row, in the order of the weights' columns -/
def raw (T : Fin 32768) : Fin 2016 → EReal :=
  hrow (fun k : Fin 1024 => V (Proc.devRef .tc main_arg0) (ix2 T k)) (fun k j => V (Proc.devRef .tc main_arg1) (ix2 k j))

theorem v0_at (T : Fin 32768) (j : Fin 2016) : res_main_v0 V (ix2 T j) = raw V T j := by
  pointwise [res_main_v0, raw, hrow]

/-- a token's row of cosines or of sines -/
def tbl (A : FVec Ideal S16384x16 .f32) (T : Fin 32768) (i : Fin 16) : EReal := A (ix2 ⟨T.val % 16384, by omega⟩ i)

theorem v32_at (T : Fin 32768) (i : Fin 16) : res_main_v32 V (ix2 T i) = tbl (V (Proc.devRef .tc main_arg11)) T i := by
  pointwise [res_main_v32, tbl]
  split_ifs
  all_goals exact congrArg (fun a => V (Proc.devRef .tc main_arg11) (ix2 a i)) (Fin.ext (show (_ : ℕ) = T.val % 16384 by dsimp only; omega))

theorem v33_at (T : Fin 32768) (i : Fin 16) : res_main_v33 V (ix2 T i) = tbl (V (Proc.devRef .tc main_arg12)) T i := by
  pointwise [res_main_v33, tbl]
  split_ifs
  all_goals exact congrArg (fun a => V (Proc.devRef .tc main_arg12) (ix2 a i)) (Fin.ext (show (_ : ℕ) = T.val % 16384 by dsimp only; omega))

theorem v65_at (T : Fin 32768) (h : Fin 6) (j : Fin 128) : res_main_v65 V (ix3 T h j)
    = hrow (rmsN (Ideal.ofBits .f32 0x43000000#32) (fun j => raw V T ⟨1344 + j.val, by omega⟩) (fun j => V (Proc.devRef .tc main_arg4) (ix1 j)))
        (fun k l => V (Proc.devRef .tc main_arg5) (ix2 k l)) ⟨h.val * 128 + j.val, by omega⟩ := by
  have e (j : Fin 128) : res_main_v50 V (ix2 T j) = raw V T ⟨1344 + j.val, by omega⟩ := by pointwise [res_main_v50, v0_at]
  pointwise [res_main_v65, hrow, rmsN]
  simp only [e]

/-- a token's keys and values -/
def kvr (T : Fin 32768) : Fin 768 → EReal :=
  hrow (rmsN (Ideal.ofBits .f32 0x43000000#32) (fun j => raw V T ⟨1344 + j.val, by omega⟩) (fun j => V (Proc.devRef .tc main_arg4) (ix1 j)))
    (fun k l => V (Proc.devRef .tc main_arg5) (ix2 k l))

/-- a token's queries -/
def qr (T : Fin 32768) : Fin 576 → EReal :=
  hrow (rmsN (Ideal.ofBits .f32 0x43400000#32) (fun j => raw V T ⟨1152 + j.val, by omega⟩) (fun j => V (Proc.devRef .tc main_arg2) (ix1 j)))
    (fun k l => V (Proc.devRef .tc main_arg3) (ix2 k l))

theorem v31_at (T : Fin 32768) (h : Fin 6) (j : Fin 96) : res_main_v31 V (ix3 T h j)
    = hrow (rmsN (Ideal.ofBits .f32 0x43400000#32) (fun j => raw V T ⟨1152 + j.val, by omega⟩) (fun j => V (Proc.devRef .tc main_arg2) (ix1 j)))
        (fun k l => V (Proc.devRef .tc main_arg3) (ix2 k l)) ⟨h.val * 96 + j.val, by omega⟩ := by
  have e (j : Fin 192) : res_main_v16 V (ix2 T j) = raw V T ⟨1152 + j.val, by omega⟩ := by pointwise [res_main_v16, v0_at]
  pointwise [res_main_v31, hrow, rmsN]
  simp only [e]

/-- the first mixer's queries of a token, stretch by stretch -/
def qaR (g : Fin 2016 → EReal) (R : Fin 768) : EReal :=
  if h : R.val % 256 < 64 then g ⟨R.val / 256 * 128 + R.val % 256, by omega⟩ * Ideal.ofBits .f32 0x3E38AA3B#32
  else if h : R.val % 256 - 64 < 64 then 0
  else if h : R.val % 256 - 64 - 64 < 64 then 0
  else g ⟨R.val / 256 * 128 + 64 + (R.val % 256 - 64 - 64 - 64), by omega⟩ * Ideal.ofBits .f32 0x3E38AA3B#32

theorem qaR_eq (g : Fin 2016 → EReal) (R : Fin 768) : qaR g R = rowQa (pk g) R := by
  unfold qaR rowQa
  by_cases h1 : R.val % 256 < 64
  · rw [dif_pos h1, dif_pos h1, pk_lo g ⟨R.val / 256 * 128 + R.val % 256, _⟩ (show R.val / 256 * 128 + R.val % 256 < 1152 by omega)]
  rw [dif_neg h1, dif_neg h1]
  by_cases h2 : 192 ≤ R.val % 256
  · rw [dif_neg (show ¬R.val % 256 - 64 < 64 by omega), dif_neg (show ¬R.val % 256 - 64 - 64 < 64 by omega), dif_pos h2,
      pk_lo g ⟨R.val / 256 * 128 + (R.val % 256 - 128), _⟩ (show R.val / 256 * 128 + (R.val % 256 - 128) < 1152 by omega)]
    exact mul1 g _ (show R.val / 256 * 128 + 64 + (R.val % 256 - 64 - 64 - 64) = R.val / 256 * 128 + (R.val % 256 - 128) by omega)
  rw [dif_neg h2]
  by_cases h3 : R.val % 256 - 64 < 64
  · rw [dif_pos h3]
  · rw [dif_neg h3, dif_pos (show R.val % 256 - 64 - 64 < 64 by omega)]

theorem qa_at (R : Fin 768) (T : Fin 32768) : (truncf .bf16 (transpose S768x32768 [1, 0] (shapeCast _ ((concatenate S32768x3x256 2 [⟨S32768x3x64, ((shapeCast _ (extractStridedSlice S32768x3x1x64 ![0, 0, 0, 0] (res_main_v4 V) slices_S32768x3x2x64_S32768x3x1x64_0_0_0_0) shapeCasts_S32768x3x1x64_S32768x3x64) : (⟨S32768x3x64, .f32⟩ : BufTy).Contents (Elt Ideal))⟩, ⟨S32768x3x64, ((res_main_v5 V) : (⟨S32768x3x64, .f32⟩ : BufTy).Contents (Elt Ideal))⟩, ⟨S32768x3x64, ((res_main_v5 V) : (⟨S32768x3x64, .f32⟩ : BufTy).Contents (Elt Ideal))⟩, ⟨S32768x3x64, ((shapeCast _ (extractStridedSlice S32768x3x1x64 ![0, 0, 1, 0] (res_main_v4 V) slices_S32768x3x2x64_S32768x3x1x64_0_0_1_0) shapeCasts_S32768x3x1x64_S32768x3x64) : (⟨S32768x3x64, .f32⟩ : BufTy).Contents (Elt Ideal))⟩] concatenates_S32768x3x64_S32768x3x64_S32768x3x64_S32768x3x64_S32768x3x256_d2 : (⟨S32768x3x256, .f32⟩ : BufTy).Contents (Elt Ideal))) shapeCasts_S32768x3x256_S32768x768) transposes_S32768x768_S768x32768_1_0) bitsLt_bf16_f32 : FVec Ideal S768x32768 .bf16) (ix2 R T)
    = rowQa (pk (raw V T)) R := by
  pointwise [res_main_v4, res_main_v5, v0_at]
  exact qaR_eq (raw V T) R

theorem ka_at (T : Fin 32768) (j : Fin 384) : (truncf .bf16 (extractStridedSlice S32768x384 ![0, 384] (res_main_v0 V) slices_S32768x2016_S32768x384_0_384) bitsLt_bf16_f32 : FVec Ideal S32768x384 .bf16) (ix2 T j)
    = pk (raw V T) ⟨384 + j.val, by omega⟩ := by
  pointwise [v0_at]
  exact (pk_lo (raw V T) ⟨384 + j.val, by omega⟩ (show 384 + j.val < 1152 by omega)).symm

theorem va_at (R : Fin 480) (T : Fin 32768) : (truncf .bf16 (transpose S480x32768 [1, 0] (shapeCast _ ((concatenate S32768x6x80 2 [⟨S32768x6x64, ((shapeCast _ (extractStridedSlice S32768x384 ![0, 768] (res_main_v0 V) slices_S32768x2016_S32768x384_0_768) shapeCasts_S32768x384_S32768x6x64) : (⟨S32768x6x64, .f32⟩ : BufTy).Contents (Elt Ideal))⟩, ⟨S32768x6x1, ((broadcastInDim S32768x6x1 ![] bcast_S_S32768x6x1 (constant (F := Ideal) S_ .f32 0x3F800000#32)) : (⟨S32768x6x1, .f32⟩ : BufTy).Contents (Elt Ideal))⟩, ⟨S32768x6x15, ((broadcastInDim S32768x6x15 ![] bcast_S_S32768x6x15 (constant (F := Ideal) S_ .f32 0x00000000#32)) : (⟨S32768x6x15, .f32⟩ : BufTy).Contents (Elt Ideal))⟩] concatenates_S32768x6x64_S32768x6x1_S32768x6x15_S32768x6x80_d2 : (⟨S32768x6x80, .f32⟩ : BufTy).Contents (Elt Ideal))) shapeCasts_S32768x6x80_S32768x480) transposes_S32768x480_S480x32768_1_0) bitsLt_bf16_f32 : FVec Ideal S480x32768 .bf16) (ix2 R T)
    = rowV (rowVa (pk (raw V T))) R := by
  pointwise [v0_at, rowV, rowVa]
  by_cases h1 : R.val % 80 < 64
  · rw [dif_pos h1, dif_pos h1, pk_lo _ _ (show 768 + (R.val / 80 * 64 + R.val % 80) < 1152 by omega)]
  rw [dif_neg h1, dif_neg h1]
  exact dite_eq_ite.trans (if_congr (by omega) rfl rfl)

theorem qb_at (R : Fin 768) (T : Fin 32768) : (truncf .bf16 (transpose S768x32768 [1, 0] (shapeCast _ (concatenate S32768x6x128 2 [⟨S32768x6x96, (mulf (concatenate S32768x6x96 2 [⟨S32768x6x64, (extractStridedSlice S32768x6x64 ![0, 0, 0] (res_main_v31 V) slices_S32768x6x96_S32768x6x64_0_0_0)⟩, ⟨S32768x6x32, (concatenate S32768x6x32 2 [⟨S32768x6x16, (subf (mulf (res_main_v37 V) (broadcastInDim S32768x6x16 ![0, 1, 2] bcast_S32768x1x16_S32768x6x16_0_1_2 (res_main_v35 V))) (mulf (res_main_v38 V) (broadcastInDim S32768x6x16 ![0, 1, 2] bcast_S32768x1x16_S32768x6x16_0_1_2 (res_main_v36 V))))⟩, ⟨S32768x6x16, (addf (mulf (res_main_v37 V) (broadcastInDim S32768x6x16 ![0, 1, 2] bcast_S32768x1x16_S32768x6x16_0_1_2 (res_main_v36 V))) (mulf (res_main_v38 V) (broadcastInDim S32768x6x16 ![0, 1, 2] bcast_S32768x1x16_S32768x6x16_0_1_2 (res_main_v35 V))))⟩] concatenates_S32768x6x16_S32768x6x16_S32768x6x32_d2)⟩] concatenates_S32768x6x64_S32768x6x32_S32768x6x96_d2) (broadcastInDim S32768x6x96 ![] bcast_S_S32768x6x96 (constant (F := Ideal) S_ .f32 0x3E16C740#32)))⟩, ⟨S32768x6x32, (broadcastInDim S32768x6x32 ![] bcast_S_S32768x6x32 (constant (F := Ideal) S_ .f32 0x00000000#32))⟩] concatenates_S32768x6x96_S32768x6x32_S32768x6x128_d2) shapeCasts_S32768x6x128_S32768x768) transposes_S32768x768_S768x32768_1_0) bitsLt_bf16_f32 : FVec Ideal S768x32768 .bf16) (ix2 R T)
    = queR (qr V T) (tbl (V (Proc.devRef .tc main_arg11)) T) (tbl (V (Proc.devRef .tc main_arg12)) T) R := by
  pointwise [res_main_v34, res_main_v35, res_main_v36, res_main_v37, res_main_v38, v31_at, v32_at, v33_at]
  rfl

theorem kb_at (T : Fin 32768) (R : Fin 768) : (truncf .bf16 (shapeCast _ (concatenate S32768x6x128 2 [⟨S32768x6x96, (concatenate S32768x6x96 2 [⟨S32768x6x64, (extractStridedSlice S32768x6x64 ![0, 0, 0] (res_main_v65 V) slices_S32768x6x128_S32768x6x64_0_0_0)⟩, ⟨S32768x6x32, (broadcastInDim S32768x6x32 ![0, 1, 2] bcast_S32768x1x32_S32768x6x32_0_1_2 (broadcastInDim S32768x1x32 ![0, 2] bcast_S32768x32_S32768x1x32_0_2 (concatenate S32768x32 1 [⟨S32768x16, (subf (mulf (res_main_v67 V) (res_main_v32 V)) (mulf (res_main_v68 V) (res_main_v33 V)))⟩, ⟨S32768x16, (addf (mulf (res_main_v67 V) (res_main_v33 V)) (mulf (res_main_v68 V) (res_main_v32 V)))⟩] concatenates_S32768x16_S32768x16_S32768x32_d1)))⟩] concatenates_S32768x6x64_S32768x6x32_S32768x6x96_d2)⟩, ⟨S32768x6x32, (broadcastInDim S32768x6x32 ![] bcast_S_S32768x6x32 (constant (F := Ideal) S_ .f32 0x00000000#32))⟩] concatenates_S32768x6x96_S32768x6x32_S32768x6x128_d2) shapeCasts_S32768x6x128_S32768x768) bitsLt_bf16_f32 : FVec Ideal S32768x768 .bf16) (ix2 T R)
    = keyR (raw V T) (kvr V T) (tbl (V (Proc.devRef .tc main_arg11)) T) (tbl (V (Proc.devRef .tc main_arg12)) T) R := by
  pointwise [res_main_v66, res_main_v67, res_main_v68, v65_at, v32_at, v33_at, v0_at]
  rfl

theorem vb_at (R : Fin 480) (T : Fin 32768) : (truncf .bf16 (transpose S480x32768 [1, 0] (shapeCast _ ((concatenate S32768x6x80 2 [⟨S32768x6x64, ((extractStridedSlice S32768x6x64 ![0, 0, 64] (res_main_v65 V) slices_S32768x6x128_S32768x6x64_0_0_64) : (⟨S32768x6x64, .f32⟩ : BufTy).Contents (Elt Ideal))⟩, ⟨S32768x6x1, ((broadcastInDim S32768x6x1 ![] bcast_S_S32768x6x1 (constant (F := Ideal) S_ .f32 0x3F800000#32)) : (⟨S32768x6x1, .f32⟩ : BufTy).Contents (Elt Ideal))⟩, ⟨S32768x6x15, ((broadcastInDim S32768x6x15 ![] bcast_S_S32768x6x15 (constant (F := Ideal) S_ .f32 0x00000000#32)) : (⟨S32768x6x15, .f32⟩ : BufTy).Contents (Elt Ideal))⟩] concatenates_S32768x6x64_S32768x6x1_S32768x6x15_S32768x6x80_d2 : (⟨S32768x6x80, .f32⟩ : BufTy).Contents (Elt Ideal))) shapeCasts_S32768x6x80_S32768x480) transposes_S32768x480_S480x32768_1_0) bitsLt_bf16_f32 : FVec Ideal S480x32768 .bf16) (ix2 R T)
    = rowV (pkv (kvr V T)) R := by
  pointwise [v65_at, rowV, pkv]
  by_cases h1 : R.val % 80 < 64
  · rw [dif_pos h1, dif_pos h1]
    refine congrArg (kvr V T) (Fin.ext ?_)
    show R.val / 80 * 128 + (64 + R.val % 80) = (R.val / 80 * 64 + R.val % 80) / 64 * 128 + (64 + (R.val / 80 * 64 + R.val % 80) % 64)
    omega
  rw [dif_neg h1, dif_neg h1]
  exact dite_eq_ite.trans (if_congr (by omega) rfl rfl)

/-- a token's row through the activation -/
def gl (T : Fin 32768) (l : Fin 512) : EReal := gel (raw V T ⟨1504 + l.val, by omega⟩)

theorem v97_at (T : Fin 32768) (l : Fin 512) : res_main_v97 V (ix2 T l) = gl V T l := by
  have e (l : Fin 512) : res_main_v84 V (ix2 T l) = raw V T ⟨1504 + l.val, by omega⟩ := by pointwise [res_main_v84, v0_at]
  pointwise [res_main_v97, gl, gel]
  simp only [e]
  rw [mul_assoc (raw V T ⟨1504 + l.val, _⟩) (raw V T ⟨1504 + l.val, _⟩) (raw V T ⟨1504 + l.val, _⟩)]

theorem v99_at (T : Fin 32768) (l : Fin 256) : res_main_v99 V (ix2 T l) = gl V T ⟨256 + l.val, by omega⟩ := by
  pointwise [res_main_v99, v97_at]

theorem v105_at (T : Fin 32768) (l : Fin 256) : res_main_v105 V (ix2 T l) = cenR (fun l => gl V T ⟨256 + l.val, by omega⟩) l := by
  pointwise [res_main_v105, res_main_v103, v99_at, cenR]

/-- a token's row before the mix -/
def pre (T : Fin 32768) : Fin 256 → EReal :=
  lnR (fun l => gl V T ⟨256 + l.val, by omega⟩) (fun l => V (Proc.devRef .tc main_arg6) (ix1 l)) (fun l => V (Proc.devRef .tc main_arg7) (ix1 l))

/-- a token's mix over its chunk -/
def mix (T : Fin 32768) : Fin 256 → EReal :=
  mixR (fun l => gl V T ⟨l.val, by omega⟩) (fun s => pre V ⟨T.val / 128 * 128 + s.val, by omega⟩)
    (fun g s => V (Proc.devRef .tc main_arg8) (ix3 g ⟨T.val % 128, by omega⟩ s)) (fun l => V (Proc.devRef .tc main_arg9) (ix2 ⟨l.val / 64, by omega⟩ ⟨T.val % 128, by omega⟩))

theorem v132_at (T : Fin 32768) (l : Fin 256) : res_main_v132 V (ix2 T l) = mix V T l := by
  have e (T : Fin 32768) : res_main_v103 V (ix2 T 0) = Ideal.div (∑ j : Fin 256, gl V T ⟨256 + j.val, by omega⟩) (Ideal.ofBits .f32 0x43800000#32) := by
    pointwise [res_main_v103, v99_at]
  pointwise [res_main_v132, v97_at, v99_at, v105_at]
  simp only [e]
  rfl

theorem yc_at (T : Fin 32768) (l : Fin 256) : (truncf .bf16 (mulf (mulf (res_main_v132 V) (broadcastInDim S32768x256 ![0, 1] bcast_S32768x1_S32768x256_0_1 (Host.rsqrt (addf (Host.divf (broadcastInDim S32768x1 ![0] bcast_S32768_S32768x1_0 (Host.reduceAdd (mulf (res_main_v132 V) (res_main_v132 V)) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x3727C5AC#32)))))) (broadcastInDim S32768x256 ![0, 1] bcast_S1x256_S32768x256_0_1 (broadcastInDim S1x256 ![1] bcast_S256_S1x256_1 (V (Proc.devRef .tc main_arg10))))) bitsLt_bf16_f32 : FVec Ideal S32768x256 .bf16) (ix2 T l)
    = rmsN (Ideal.ofBits .f32 0x43800000#32) (mix V T) (fun l => V (Proc.devRef .tc main_arg10) (ix1 l)) l := by
  pointwise [v132_at, rmsN]

theorem qa_eq : (truncf .bf16 (transpose S768x32768 [1, 0] (shapeCast _ ((concatenate S32768x3x256 2 [⟨S32768x3x64, ((shapeCast _ (extractStridedSlice S32768x3x1x64 ![0, 0, 0, 0] (res_main_v4 V) slices_S32768x3x2x64_S32768x3x1x64_0_0_0_0) shapeCasts_S32768x3x1x64_S32768x3x64) : (⟨S32768x3x64, .f32⟩ : BufTy).Contents (Elt Ideal))⟩, ⟨S32768x3x64, ((res_main_v5 V) : (⟨S32768x3x64, .f32⟩ : BufTy).Contents (Elt Ideal))⟩, ⟨S32768x3x64, ((res_main_v5 V) : (⟨S32768x3x64, .f32⟩ : BufTy).Contents (Elt Ideal))⟩, ⟨S32768x3x64, ((shapeCast _ (extractStridedSlice S32768x3x1x64 ![0, 0, 1, 0] (res_main_v4 V) slices_S32768x3x2x64_S32768x3x1x64_0_0_1_0) shapeCasts_S32768x3x1x64_S32768x3x64) : (⟨S32768x3x64, .f32⟩ : BufTy).Contents (Elt Ideal))⟩] concatenates_S32768x3x64_S32768x3x64_S32768x3x64_S32768x3x64_S32768x3x256_d2 : (⟨S32768x3x256, .f32⟩ : BufTy).Contents (Elt Ideal))) shapeCasts_S32768x3x256_S32768x768) transposes_S32768x768_S768x32768_1_0) bitsLt_bf16_f32 : FVec Ideal S768x32768 .bf16)
    = resQa (V (Proc.devRef .tc main_arg0)) (V (Proc.devRef .tc main_arg1)) := by
  funext y
  idx_vars y
  exact qa_at V y0 y1

theorem ka_eq : (truncf .bf16 (extractStridedSlice S32768x384 ![0, 384] (res_main_v0 V) slices_S32768x2016_S32768x384_0_384) bitsLt_bf16_f32 : FVec Ideal S32768x384 .bf16)
    = resKa (V (Proc.devRef .tc main_arg0)) (V (Proc.devRef .tc main_arg1)) := by
  funext y
  idx_vars y
  exact ka_at V y0 y1

theorem va_eq : (truncf .bf16 (transpose S480x32768 [1, 0] (shapeCast _ ((concatenate S32768x6x80 2 [⟨S32768x6x64, ((shapeCast _ (extractStridedSlice S32768x384 ![0, 768] (res_main_v0 V) slices_S32768x2016_S32768x384_0_768) shapeCasts_S32768x384_S32768x6x64) : (⟨S32768x6x64, .f32⟩ : BufTy).Contents (Elt Ideal))⟩, ⟨S32768x6x1, ((broadcastInDim S32768x6x1 ![] bcast_S_S32768x6x1 (constant (F := Ideal) S_ .f32 0x3F800000#32)) : (⟨S32768x6x1, .f32⟩ : BufTy).Contents (Elt Ideal))⟩, ⟨S32768x6x15, ((broadcastInDim S32768x6x15 ![] bcast_S_S32768x6x15 (constant (F := Ideal) S_ .f32 0x00000000#32)) : (⟨S32768x6x15, .f32⟩ : BufTy).Contents (Elt Ideal))⟩] concatenates_S32768x6x64_S32768x6x1_S32768x6x15_S32768x6x80_d2 : (⟨S32768x6x80, .f32⟩ : BufTy).Contents (Elt Ideal))) shapeCasts_S32768x6x80_S32768x480) transposes_S32768x480_S480x32768_1_0) bitsLt_bf16_f32 : FVec Ideal S480x32768 .bf16)
    = resVa (V (Proc.devRef .tc main_arg0)) (V (Proc.devRef .tc main_arg1)) := by
  funext y
  idx_vars y
  exact va_at V y0 y1

theorem qb_eq : (truncf .bf16 (transpose S768x32768 [1, 0] (shapeCast _ (concatenate S32768x6x128 2 [⟨S32768x6x96, (mulf (concatenate S32768x6x96 2 [⟨S32768x6x64, (extractStridedSlice S32768x6x64 ![0, 0, 0] (res_main_v31 V) slices_S32768x6x96_S32768x6x64_0_0_0)⟩, ⟨S32768x6x32, (concatenate S32768x6x32 2 [⟨S32768x6x16, (subf (mulf (res_main_v37 V) (broadcastInDim S32768x6x16 ![0, 1, 2] bcast_S32768x1x16_S32768x6x16_0_1_2 (res_main_v35 V))) (mulf (res_main_v38 V) (broadcastInDim S32768x6x16 ![0, 1, 2] bcast_S32768x1x16_S32768x6x16_0_1_2 (res_main_v36 V))))⟩, ⟨S32768x6x16, (addf (mulf (res_main_v37 V) (broadcastInDim S32768x6x16 ![0, 1, 2] bcast_S32768x1x16_S32768x6x16_0_1_2 (res_main_v36 V))) (mulf (res_main_v38 V) (broadcastInDim S32768x6x16 ![0, 1, 2] bcast_S32768x1x16_S32768x6x16_0_1_2 (res_main_v35 V))))⟩] concatenates_S32768x6x16_S32768x6x16_S32768x6x32_d2)⟩] concatenates_S32768x6x64_S32768x6x32_S32768x6x96_d2) (broadcastInDim S32768x6x96 ![] bcast_S_S32768x6x96 (constant (F := Ideal) S_ .f32 0x3E16C740#32)))⟩, ⟨S32768x6x32, (broadcastInDim S32768x6x32 ![] bcast_S_S32768x6x32 (constant (F := Ideal) S_ .f32 0x00000000#32))⟩] concatenates_S32768x6x96_S32768x6x32_S32768x6x128_d2) shapeCasts_S32768x6x128_S32768x768) transposes_S32768x768_S768x32768_1_0) bitsLt_bf16_f32 : FVec Ideal S768x32768 .bf16)
    = resQb (V (Proc.devRef .tc main_arg0)) (V (Proc.devRef .tc main_arg1)) (V (Proc.devRef .tc main_arg2)) (V (Proc.devRef .tc main_arg3)) (V (Proc.devRef .tc main_arg11)) (V (Proc.devRef .tc main_arg12)) := by
  funext y
  idx_vars y
  exact qb_at V y0 y1

theorem kb_eq : (truncf .bf16 (shapeCast _ (concatenate S32768x6x128 2 [⟨S32768x6x96, (concatenate S32768x6x96 2 [⟨S32768x6x64, (extractStridedSlice S32768x6x64 ![0, 0, 0] (res_main_v65 V) slices_S32768x6x128_S32768x6x64_0_0_0)⟩, ⟨S32768x6x32, (broadcastInDim S32768x6x32 ![0, 1, 2] bcast_S32768x1x32_S32768x6x32_0_1_2 (broadcastInDim S32768x1x32 ![0, 2] bcast_S32768x32_S32768x1x32_0_2 (concatenate S32768x32 1 [⟨S32768x16, (subf (mulf (res_main_v67 V) (res_main_v32 V)) (mulf (res_main_v68 V) (res_main_v33 V)))⟩, ⟨S32768x16, (addf (mulf (res_main_v67 V) (res_main_v33 V)) (mulf (res_main_v68 V) (res_main_v32 V)))⟩] concatenates_S32768x16_S32768x16_S32768x32_d1)))⟩] concatenates_S32768x6x64_S32768x6x32_S32768x6x96_d2)⟩, ⟨S32768x6x32, (broadcastInDim S32768x6x32 ![] bcast_S_S32768x6x32 (constant (F := Ideal) S_ .f32 0x00000000#32))⟩] concatenates_S32768x6x96_S32768x6x32_S32768x6x128_d2) shapeCasts_S32768x6x128_S32768x768) bitsLt_bf16_f32 : FVec Ideal S32768x768 .bf16)
    = resKb (V (Proc.devRef .tc main_arg0)) (V (Proc.devRef .tc main_arg1)) (V (Proc.devRef .tc main_arg4)) (V (Proc.devRef .tc main_arg5)) (V (Proc.devRef .tc main_arg11)) (V (Proc.devRef .tc main_arg12)) := by
  funext y
  idx_vars y
  exact kb_at V y0 y1

theorem vb_eq : (truncf .bf16 (transpose S480x32768 [1, 0] (shapeCast _ ((concatenate S32768x6x80 2 [⟨S32768x6x64, ((extractStridedSlice S32768x6x64 ![0, 0, 64] (res_main_v65 V) slices_S32768x6x128_S32768x6x64_0_0_64) : (⟨S32768x6x64, .f32⟩ : BufTy).Contents (Elt Ideal))⟩, ⟨S32768x6x1, ((broadcastInDim S32768x6x1 ![] bcast_S_S32768x6x1 (constant (F := Ideal) S_ .f32 0x3F800000#32)) : (⟨S32768x6x1, .f32⟩ : BufTy).Contents (Elt Ideal))⟩, ⟨S32768x6x15, ((broadcastInDim S32768x6x15 ![] bcast_S_S32768x6x15 (constant (F := Ideal) S_ .f32 0x00000000#32)) : (⟨S32768x6x15, .f32⟩ : BufTy).Contents (Elt Ideal))⟩] concatenates_S32768x6x64_S32768x6x1_S32768x6x15_S32768x6x80_d2 : (⟨S32768x6x80, .f32⟩ : BufTy).Contents (Elt Ideal))) shapeCasts_S32768x6x80_S32768x480) transposes_S32768x480_S480x32768_1_0) bitsLt_bf16_f32 : FVec Ideal S480x32768 .bf16)
    = resVb (V (Proc.devRef .tc main_arg0)) (V (Proc.devRef .tc main_arg1)) (V (Proc.devRef .tc main_arg4)) (V (Proc.devRef .tc main_arg5)) := by
  funext y
  idx_vars y
  exact vb_at V y0 y1

theorem yc_eq : (truncf .bf16 (mulf (mulf (res_main_v132 V) (broadcastInDim S32768x256 ![0, 1] bcast_S32768x1_S32768x256_0_1 (Host.rsqrt (addf (Host.divf (broadcastInDim S32768x1 ![0] bcast_S32768_S32768x1_0 (Host.reduceAdd (mulf (res_main_v132 V) (res_main_v132 V)) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x3727C5AC#32)))))) (broadcastInDim S32768x256 ![0, 1] bcast_S1x256_S32768x256_0_1 (broadcastInDim S1x256 ![1] bcast_S256_S1x256_1 (V (Proc.devRef .tc main_arg10))))) bitsLt_bf16_f32 : FVec Ideal S32768x256 .bf16)
    = resYc (V (Proc.devRef .tc main_arg0)) (V (Proc.devRef .tc main_arg1)) (V (Proc.devRef .tc main_arg6)) (V (Proc.devRef .tc main_arg7)) (V (Proc.devRef .tc main_arg8)) (V (Proc.devRef .tc main_arg9)) (V (Proc.devRef .tc main_arg10)) := by
  funext y
  idx_vars y
  exact yc_at V y0 y1

end Cert.Proof.In.Ref

end
-- ==== Proof.lean ====
module

public import proofs.«01_k».proof.Defs
public import proofs.«01_k».proof.Proof.FrameK
public import proofs.«01_k».proof.Proof.FrameKI
public import proofs.«01_k».proof.Proof.Final
public import proofs.«01_k».proof.Proof.Gen.ReferenceIdeal
public import proofs.«01_k».proof.Proof.Gen.Pre_served
public import proofs.«01_k».proof.Proof.Gen.Ffn.Frame
public import proofs.«01_k».proof.Proof.FfnFinal
public import proofs.«01_k».proof.Proof.Gen.Merge.Frame
public import proofs.«01_k».proof.Proof.MergeFinal
public import proofs.«01_k».proof.Proof.InFrame
public import proofs.«01_k».proof.Proof.InRun
public import proofs.«01_k».proof.Proof.InRef
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- the reference runs and keeps its arguments -/
theorem kept_R : Cert.quiescent_ReferenceIdeal := by
  intro m g _
  hlo_run
  · exact fun _ => ⟨trivial, trivial, trivial⟩
  · refine sem_eq_zero_of_no_sems ?_ _
    decide

theorem algebraic : Cert.algebraic_KernelIdeal_ReferenceIdeal_pre_served := by
  pair_intro
  · run_from Cert.Proof.Mla.KI.run_main m g
  · hlo_run
    exact (Cert.Proof.Mla.KI.final m c hpre).symm

theorem kept_RFfn : Cert.quiescent_RefFfnIdeal := by
  intro m g _
  hlo_run
  · exact fun _ => ⟨trivial, trivial, trivial, trivial, trivial, trivial, trivial⟩
  · refine sem_eq_zero_of_no_sems ?_ _
    decide

theorem kept_RMerge : Cert.quiescent_RefMergeIdeal := by
  intro m g _
  hlo_run
  · exact fun _ => ⟨trivial, trivial, trivial, trivial, trivial, trivial, trivial, trivial, trivial⟩
  · refine sem_eq_zero_of_no_sems ?_ _
    decide

theorem algebraic_ffn : Cert.algebraic_FfnIdeal_RefFfnIdeal := by
  pair_intro
  · run_from Cert.FfnIdeal.Gen.run_main m g
  · run_from Cert.RefFfnIdeal.Value.run (F := Ideal) m' g'
    obtain ⟨a0, a1, a2, a3, a4, a5, a6⟩ := hagree c
    rw [Cert.Proof.Ffn.final m c, ← a0, ← a1, ← a2, ← a3, ← a4, ← a5, ← a6]
    exact Cert.Proof.Ffn.Ref.run_result m' c

theorem algebraic_merge : Cert.algebraic_MergeIdeal_RefMergeIdeal := by
  pair_intro
  · run_from Cert.MergeIdeal.Gen.run_main m g
  · run_from Cert.RefMergeIdeal.Value.run (F := Ideal) m' g'
    obtain ⟨a0, a1, a2, a3, a4, a5, a6, a7, a8⟩ := hagree c
    rw [Cert.Proof.Merge.final m c, ← a0, ← a1, ← a2, ← a3, ← a4, ← a5, ← a6, ← a7, ← a8]
    exact Cert.Proof.Merge.Ref.run_result m' c

theorem kept_RInproj : Cert.quiescent_RefInprojIdeal := by
  intro m g _
  hlo_run
  · exact fun _ => ⟨trivial, trivial, trivial, trivial, trivial, trivial, trivial, trivial, trivial, trivial, trivial, trivial, trivial⟩
  · refine sem_eq_zero_of_no_sems ?_ _
    decide

set_option maxRecDepth 16384 in
theorem algebraic_inproj : Cert.algebraic_InprojIdeal_RefInprojIdeal := by
  intro m g m' g' _ hagree
  refine ⟨_, _, _, _, _, _, _, Idealize.ShloMosaic.θ_run_mono (Idealize.ShloMosaic.θ_run_and (Cert.Proof.In.results m g) (Cert.Proof.In.I.unchanged m g))
    (fun r h c => ⟨(h.1 c).1, (h.1 c).2.1, (h.1 c).2.2.1, (h.1 c).2.2.2.1, (h.1 c).2.2.2.2.1, (h.1 c).2.2.2.2.2.1, (h.1 c).2.2.2.2.2.2, h.2 c⟩), ?_⟩
  refine Idealize.ShloMosaic.θ_run_mono (Cert.RefInprojIdeal.Value.run (F := Ideal) m' g') fun r h c => ?_
  obtain ⟨a0, a1, a2, a3, a4, a5, a6, a7, a8, a9, a10, a11, a12⟩ := hagree c
  obtain ⟨h0, h1, h2, h3, h4, h5, h6, hkept⟩ := h c
  simp only [← a0, ← a1, ← a2, ← a3, ← a4, ← a5, ← a6, ← a7, ← a8, ← a9, ← a10, ← a11, ← a12]
  exact ⟨h0.trans (Cert.Proof.In.Ref.qa_eq _), h1.trans (Cert.Proof.In.Ref.ka_eq _), h2.trans (Cert.Proof.In.Ref.va_eq _), h3.trans (Cert.Proof.In.Ref.qb_eq _), h4.trans (Cert.Proof.In.Ref.kb_eq _), h5.trans (Cert.Proof.In.Ref.vb_eq _), h6.trans (Cert.Proof.In.Ref.yc_eq _), hkept⟩

theorem claim : Cert.Claim := ⟨Cert.Kernel.Gen.facts, Cert.KernelIdeal.Gen.facts, Cert.ReferenceIdeal.Gen.facts, Cert.Ffn.Gen.facts,
  Cert.FfnIdeal.Gen.facts, Cert.RefFfnIdeal.Gen.facts, Cert.Merge.Gen.facts, Cert.MergeIdeal.Gen.facts, Cert.RefMergeIdeal.Gen.facts,
  Cert.Inproj.Gen.facts, Cert.InprojIdeal.Gen.facts, Cert.RefInprojIdeal.Gen.facts,
  Cert.Pre_served.Gen.facts,
  fun m ρ _ => Cert.Proof.Mla.K.kept m ρ, fun m ρ _ => Cert.Proof.Mla.KI.kept m ρ, fun m ρ _ => Cert.Proof.Mla.KI.kept m ρ,
  kept_R, fun m g _ => kept_R m g trivial,
  fun m ρ _ => Cert.Ffn.Gen.frame m ρ, fun m ρ _ => Cert.FfnIdeal.Gen.frame m ρ, kept_RFfn,
  fun m ρ _ => Cert.Merge.Gen.frame m ρ, fun m ρ _ => Cert.MergeIdeal.Gen.frame m ρ, kept_RMerge,
  fun m ρ _ => Cert.Proof.In.B.frame m ρ, fun m ρ _ => Cert.Proof.In.I.frame m ρ, kept_RInproj,
  trivial, algebraic, trivial, algebraic_ffn, trivial, algebraic_merge, trivial, algebraic_inproj⟩

end Cert.Proof

end
